-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_RDownIdeal (m : (ℓ : Loc Cert.RDownIdeal.nD Cert.RDownIdeal.τ Cert.RDownIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpIdeal_up_finite [hPre_up_finite : Cert.Pre_up_finite.Facts] (m : (ℓ : Loc Cert.UpIdeal.nD Cert.UpIdeal.τ Cert.UpIdeal.sig) → Buf (Elt Ideal) ℓ) : Prop :=
  ∀ c : Dev Cert.UpIdeal.nD,
    (Cert.Pre_up_finite.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6))) = (fun _ => 1#1)

def Pre_RUpIdeal (m : (ℓ : Loc Cert.RUpIdeal.nD Cert.RUpIdeal.τ Cert.RUpIdeal.sig) → Buf (Elt Ideal) ℓ) : Prop :=
  True

def Pre_RUpIdeal_up_finite [hPre_up_finite : Cert.Pre_up_finite.Facts] (m : (ℓ : Loc Cert.RUpIdeal.nD Cert.RUpIdeal.τ Cert.RUpIdeal.sig) → Buf (Elt Ideal) ℓ) : Prop :=
  ∀ c : Dev Cert.RUpIdeal.nD,
    (Cert.Pre_up_finite.fn (F := Ideal) (m ((c.tc : Thread Cert.RUpIdeal.nD Cert.RUpIdeal.τ).loc Cert.RUpIdeal.main_arg0)) (m ((c.tc : Thread Cert.RUpIdeal.nD Cert.RUpIdeal.τ).loc Cert.RUpIdeal.main_arg1)) (m ((c.tc : Thread Cert.RUpIdeal.nD Cert.RUpIdeal.τ).loc Cert.RUpIdeal.main_arg2)) (m ((c.tc : Thread Cert.RUpIdeal.nD Cert.RUpIdeal.τ).loc Cert.RUpIdeal.main_arg3)) (m ((c.tc : Thread Cert.RUpIdeal.nD Cert.RUpIdeal.τ).loc Cert.RUpIdeal.main_arg4)) (m ((c.tc : Thread Cert.RUpIdeal.nD Cert.RUpIdeal.τ).loc Cert.RUpIdeal.main_arg5)) (m ((c.tc : Thread Cert.RUpIdeal.nD Cert.RUpIdeal.τ).loc Cert.RUpIdeal.main_arg6))) = (fun _ => 1#1)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5)
      ∧ r.2.mem ((c.tc : Thread Cert.Down.nD Cert.Down.τ).loc Cert.Down.main_arg6) = m ((c.tc : Thread Cert.Down.nD Cert.Down.τ).loc Cert.Down.main_arg6))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
      ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ r.2.sem = fun _ => 0)

def quiescent_RDownIdeal [hRDownIdeal : Cert.RDownIdeal.Facts] : Prop :=
  ∀ (m : (ℓ : Loc Cert.RDownIdeal.nD Cert.RDownIdeal.τ Cert.RDownIdeal.sig) → Buf (Elt Ideal) ℓ) (g : Dev Cert.RDownIdeal.nD → PrngReg), Pre_RDownIdeal m →
    θ_run (Cert.RDownIdeal.defs (F := Ideal)) (onTc (τ := Cert.RDownIdeal.τ) (Cert.RDownIdeal.main (F := Ideal))) ⟨m, fun _ => 0, g⟩ (fun r => (∀ c : Dev Cert.RDownIdeal.nD,
      r.2.mem ((c.tc : Thread Cert.RDownIdeal.nD Cert.RDownIdeal.τ).loc Cert.RDownIdeal.main_arg0) = m ((c.tc : Thread Cert.RDownIdeal.nD Cert.RDownIdeal.τ).loc Cert.RDownIdeal.main_arg0)
      ∧ r.2.mem ((c.tc : Thread Cert.RDownIdeal.nD Cert.RDownIdeal.τ).loc Cert.RDownIdeal.main_arg1) = m ((c.tc : Thread Cert.RDownIdeal.nD Cert.RDownIdeal.τ).loc Cert.RDownIdeal.main_arg1)
      ∧ r.2.mem ((c.tc : Thread Cert.RDownIdeal.nD Cert.RDownIdeal.τ).loc Cert.RDownIdeal.main_arg2) = m ((c.tc : Thread Cert.RDownIdeal.nD Cert.RDownIdeal.τ).loc Cert.RDownIdeal.main_arg2)
      ∧ r.2.mem ((c.tc : Thread Cert.RDownIdeal.nD Cert.RDownIdeal.τ).loc Cert.RDownIdeal.main_arg3) = m ((c.tc : Thread Cert.RDownIdeal.nD Cert.RDownIdeal.τ).loc Cert.RDownIdeal.main_arg3)
      ∧ r.2.mem ((c.tc : Thread Cert.RDownIdeal.nD Cert.RDownIdeal.τ).loc Cert.RDownIdeal.main_arg4) = m ((c.tc : Thread Cert.RDownIdeal.nD Cert.RDownIdeal.τ).loc Cert.RDownIdeal.main_arg4)
      ∧ r.2.mem ((c.tc : Thread Cert.RDownIdeal.nD Cert.RDownIdeal.τ).loc Cert.RDownIdeal.main_arg5) = m ((c.tc : Thread Cert.RDownIdeal.nD Cert.RDownIdeal.τ).loc Cert.RDownIdeal.main_arg5)
      ∧ r.2.mem ((c.tc : Thread Cert.RDownIdeal.nD Cert.RDownIdeal.τ).loc Cert.RDownIdeal.main_arg6) = m ((c.tc : Thread Cert.RDownIdeal.nD Cert.RDownIdeal.τ).loc Cert.RDownIdeal.main_arg6))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_UpIdeal_pre_up_finite [hUpIdeal : Cert.UpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg), Pre_UpIdeal_up_finite m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ r.2.sem = fun _ => 0)

def quiescent_RUpIdeal [hRUpIdeal : Cert.RUpIdeal.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5)
      ∧ r.2.mem ((c.tc : Thread Cert.RUpIdeal.nD Cert.RUpIdeal.τ).loc Cert.RUpIdeal.main_arg6) = m ((c.tc : Thread Cert.RUpIdeal.nD Cert.RUpIdeal.τ).loc Cert.RUpIdeal.main_arg6))
      ∧ r.2.sem = fun _ => 0)

def quiescent_RUpIdeal_pre_up_finite [hRUpIdeal : Cert.RUpIdeal.Facts] [hPre_up_finite : Cert.Pre_up_finite.Facts] : Prop :=
  ∀ (m : (ℓ : Loc Cert.RUpIdeal.nD Cert.RUpIdeal.τ Cert.RUpIdeal.sig) → Buf (Elt Ideal) ℓ) (g : Dev Cert.RUpIdeal.nD → PrngReg), Pre_RUpIdeal_up_finite m →
    θ_run (Cert.RUpIdeal.defs (F := Ideal)) (onTc (τ := Cert.RUpIdeal.τ) (Cert.RUpIdeal.main (F := Ideal))) ⟨m, fun _ => 0, g⟩ (fun r => (∀ c : Dev Cert.RUpIdeal.nD,
      r.2.mem ((c.tc : Thread Cert.RUpIdeal.nD Cert.RUpIdeal.τ).loc Cert.RUpIdeal.main_arg0) = m ((c.tc : Thread Cert.RUpIdeal.nD Cert.RUpIdeal.τ).loc Cert.RUpIdeal.main_arg0)
      ∧ r.2.mem ((c.tc : Thread Cert.RUpIdeal.nD Cert.RUpIdeal.τ).loc Cert.RUpIdeal.main_arg1) = m ((c.tc : Thread Cert.RUpIdeal.nD Cert.RUpIdeal.τ).loc Cert.RUpIdeal.main_arg1)
      ∧ r.2.mem ((c.tc : Thread Cert.RUpIdeal.nD Cert.RUpIdeal.τ).loc Cert.RUpIdeal.main_arg2) = m ((c.tc : Thread Cert.RUpIdeal.nD Cert.RUpIdeal.τ).loc Cert.RUpIdeal.main_arg2)
      ∧ r.2.mem ((c.tc : Thread Cert.RUpIdeal.nD Cert.RUpIdeal.τ).loc Cert.RUpIdeal.main_arg3) = m ((c.tc : Thread Cert.RUpIdeal.nD Cert.RUpIdeal.τ).loc Cert.RUpIdeal.main_arg3)
      ∧ r.2.mem ((c.tc : Thread Cert.RUpIdeal.nD Cert.RUpIdeal.τ).loc Cert.RUpIdeal.main_arg4) = m ((c.tc : Thread Cert.RUpIdeal.nD Cert.RUpIdeal.τ).loc Cert.RUpIdeal.main_arg4)
      ∧ r.2.mem ((c.tc : Thread Cert.RUpIdeal.nD Cert.RUpIdeal.τ).loc Cert.RUpIdeal.main_arg5) = m ((c.tc : Thread Cert.RUpIdeal.nD Cert.RUpIdeal.τ).loc Cert.RUpIdeal.main_arg5)
      ∧ r.2.mem ((c.tc : Thread Cert.RUpIdeal.nD Cert.RUpIdeal.τ).loc Cert.RUpIdeal.main_arg6) = m ((c.tc : Thread Cert.RUpIdeal.nD Cert.RUpIdeal.τ).loc Cert.RUpIdeal.main_arg6))
      ∧ r.2.sem = fun _ => 0)

def preserves_Down_DownIdeal : Prop :=
  True

def algebraic_DownIdeal_RDownIdeal [hDownIdeal : Cert.DownIdeal.Facts] [hRDownIdeal : Cert.RDownIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.RDownIdeal.nD Cert.RDownIdeal.τ Cert.RDownIdeal.sig) → Buf (Elt Ideal) ℓ) (g' : Dev Cert.RDownIdeal.nD → PrngReg), Pre_DownIdeal m →
    (∀ c : Dev Cert.DownIdeal.nD,
      m' ((c.tc : Thread Cert.RDownIdeal.nD Cert.RDownIdeal.τ).loc Cert.RDownIdeal.main_arg0) = m ((c.tc : Thread Cert.DownIdeal.nD Cert.DownIdeal.τ).loc Cert.DownIdeal.main_arg0)
      ∧ m' ((c.tc : Thread Cert.RDownIdeal.nD Cert.RDownIdeal.τ).loc Cert.RDownIdeal.main_arg1) = m ((c.tc : Thread Cert.DownIdeal.nD Cert.DownIdeal.τ).loc Cert.DownIdeal.main_arg1)
      ∧ m' ((c.tc : Thread Cert.RDownIdeal.nD Cert.RDownIdeal.τ).loc Cert.RDownIdeal.main_arg2) = m ((c.tc : Thread Cert.DownIdeal.nD Cert.DownIdeal.τ).loc Cert.DownIdeal.main_arg2)
      ∧ m' ((c.tc : Thread Cert.RDownIdeal.nD Cert.RDownIdeal.τ).loc Cert.RDownIdeal.main_arg3) = m ((c.tc : Thread Cert.DownIdeal.nD Cert.DownIdeal.τ).loc Cert.DownIdeal.main_arg3)
      ∧ m' ((c.tc : Thread Cert.RDownIdeal.nD Cert.RDownIdeal.τ).loc Cert.RDownIdeal.main_arg4) = m ((c.tc : Thread Cert.DownIdeal.nD Cert.DownIdeal.τ).loc Cert.DownIdeal.main_arg4)
      ∧ m' ((c.tc : Thread Cert.RDownIdeal.nD Cert.RDownIdeal.τ).loc Cert.RDownIdeal.main_arg5) = m ((c.tc : Thread Cert.DownIdeal.nD Cert.DownIdeal.τ).loc Cert.DownIdeal.main_arg5)
      ∧ m' ((c.tc : Thread Cert.RDownIdeal.nD Cert.RDownIdeal.τ).loc Cert.RDownIdeal.main_arg6) = m ((c.tc : Thread Cert.DownIdeal.nD Cert.DownIdeal.τ).loc Cert.DownIdeal.main_arg6)) →
    ∃ (v0 : (c : Dev Cert.DownIdeal.nD) → Buf (Elt Ideal) ((c.tc : Thread Cert.DownIdeal.nD Cert.DownIdeal.τ).loc Cert.DownIdeal.main_v1)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v1) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5)
          ∧ r.2.mem ((c.tc : Thread Cert.DownIdeal.nD Cert.DownIdeal.τ).loc Cert.DownIdeal.main_arg6) = m ((c.tc : Thread Cert.DownIdeal.nD Cert.DownIdeal.τ).loc Cert.DownIdeal.main_arg6))
      ∧ θ_run (Cert.RDownIdeal.defs (F := Ideal)) (onTc (τ := Cert.RDownIdeal.τ) (Cert.RDownIdeal.main (F := Ideal))) ⟨m', fun _ => 0, g'⟩ (fun r => ∀ c : Dev Cert.RDownIdeal.nD,
          r.2.mem ((c.tc : Thread Cert.RDownIdeal.nD Cert.RDownIdeal.τ).loc Cert.RDownIdeal.main_v0) = v0 c
          ∧ r.2.mem ((c.tc : Thread Cert.RDownIdeal.nD Cert.RDownIdeal.τ).loc Cert.RDownIdeal.main_arg0) = m' ((c.tc : Thread Cert.RDownIdeal.nD Cert.RDownIdeal.τ).loc Cert.RDownIdeal.main_arg0)
          ∧ r.2.mem ((c.tc : Thread Cert.RDownIdeal.nD Cert.RDownIdeal.τ).loc Cert.RDownIdeal.main_arg1) = m' ((c.tc : Thread Cert.RDownIdeal.nD Cert.RDownIdeal.τ).loc Cert.RDownIdeal.main_arg1)
          ∧ r.2.mem ((c.tc : Thread Cert.RDownIdeal.nD Cert.RDownIdeal.τ).loc Cert.RDownIdeal.main_arg2) = m' ((c.tc : Thread Cert.RDownIdeal.nD Cert.RDownIdeal.τ).loc Cert.RDownIdeal.main_arg2)
          ∧ r.2.mem ((c.tc : Thread Cert.RDownIdeal.nD Cert.RDownIdeal.τ).loc Cert.RDownIdeal.main_arg3) = m' ((c.tc : Thread Cert.RDownIdeal.nD Cert.RDownIdeal.τ).loc Cert.RDownIdeal.main_arg3)
          ∧ r.2.mem ((c.tc : Thread Cert.RDownIdeal.nD Cert.RDownIdeal.τ).loc Cert.RDownIdeal.main_arg4) = m' ((c.tc : Thread Cert.RDownIdeal.nD Cert.RDownIdeal.τ).loc Cert.RDownIdeal.main_arg4)
          ∧ r.2.mem ((c.tc : Thread Cert.RDownIdeal.nD Cert.RDownIdeal.τ).loc Cert.RDownIdeal.main_arg5) = m' ((c.tc : Thread Cert.RDownIdeal.nD Cert.RDownIdeal.τ).loc Cert.RDownIdeal.main_arg5)
          ∧ r.2.mem ((c.tc : Thread Cert.RDownIdeal.nD Cert.RDownIdeal.τ).loc Cert.RDownIdeal.main_arg6) = m' ((c.tc : Thread Cert.RDownIdeal.nD Cert.RDownIdeal.τ).loc Cert.RDownIdeal.main_arg6))

def preserves_Up_UpIdeal : Prop :=
  True

def algebraic_UpIdeal_RUpIdeal_pre_up_finite [hUpIdeal : Cert.UpIdeal.Facts] [hRUpIdeal : Cert.RUpIdeal.Facts] [hPre_up_finite : Cert.Pre_up_finite.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.RUpIdeal.nD Cert.RUpIdeal.τ Cert.RUpIdeal.sig) → Buf (Elt Ideal) ℓ) (g' : Dev Cert.RUpIdeal.nD → PrngReg), Pre_UpIdeal_up_finite m →
    (∀ c : Dev Cert.UpIdeal.nD,
      m' ((c.tc : Thread Cert.RUpIdeal.nD Cert.RUpIdeal.τ).loc Cert.RUpIdeal.main_arg0) = m ((c.tc : Thread Cert.UpIdeal.nD Cert.UpIdeal.τ).loc Cert.UpIdeal.main_arg0)
      ∧ m' ((c.tc : Thread Cert.RUpIdeal.nD Cert.RUpIdeal.τ).loc Cert.RUpIdeal.main_arg1) = m ((c.tc : Thread Cert.UpIdeal.nD Cert.UpIdeal.τ).loc Cert.UpIdeal.main_arg1)
      ∧ m' ((c.tc : Thread Cert.RUpIdeal.nD Cert.RUpIdeal.τ).loc Cert.RUpIdeal.main_arg2) = m ((c.tc : Thread Cert.UpIdeal.nD Cert.UpIdeal.τ).loc Cert.UpIdeal.main_arg2)
      ∧ m' ((c.tc : Thread Cert.RUpIdeal.nD Cert.RUpIdeal.τ).loc Cert.RUpIdeal.main_arg3) = m ((c.tc : Thread Cert.UpIdeal.nD Cert.UpIdeal.τ).loc Cert.UpIdeal.main_arg3)
      ∧ m' ((c.tc : Thread Cert.RUpIdeal.nD Cert.RUpIdeal.τ).loc Cert.RUpIdeal.main_arg4) = m ((c.tc : Thread Cert.UpIdeal.nD Cert.UpIdeal.τ).loc Cert.UpIdeal.main_arg4)
      ∧ m' ((c.tc : Thread Cert.RUpIdeal.nD Cert.RUpIdeal.τ).loc Cert.RUpIdeal.main_arg5) = m ((c.tc : Thread Cert.UpIdeal.nD Cert.UpIdeal.τ).loc Cert.UpIdeal.main_arg5)
      ∧ m' ((c.tc : Thread Cert.RUpIdeal.nD Cert.RUpIdeal.τ).loc Cert.RUpIdeal.main_arg6) = m ((c.tc : Thread Cert.UpIdeal.nD Cert.UpIdeal.τ).loc Cert.UpIdeal.main_arg6)) →
    ∃ (v0 : (c : Dev Cert.UpIdeal.nD) → Buf (Elt Ideal) ((c.tc : Thread Cert.UpIdeal.nD Cert.UpIdeal.τ).loc Cert.UpIdeal.main_v9_0)) (v1 : (c : Dev Cert.UpIdeal.nD) → Buf (Elt Ideal) ((c.tc : Thread Cert.UpIdeal.nD Cert.UpIdeal.τ).loc Cert.UpIdeal.main_v9_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v9_0) = v0 c
          ∧ r.2.mem ((c.tc : Thread Cert.UpIdeal.nD Cert.UpIdeal.τ).loc Cert.UpIdeal.main_v9_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6))
      ∧ θ_run (Cert.RUpIdeal.defs (F := Ideal)) (onTc (τ := Cert.RUpIdeal.τ) (Cert.RUpIdeal.main (F := Ideal))) ⟨m', fun _ => 0, g'⟩ (fun r => ∀ c : Dev Cert.RUpIdeal.nD,
          r.2.mem ((c.tc : Thread Cert.RUpIdeal.nD Cert.RUpIdeal.τ).loc Cert.RUpIdeal.main_v2_0) = v0 c
          ∧ r.2.mem ((c.tc : Thread Cert.RUpIdeal.nD Cert.RUpIdeal.τ).loc Cert.RUpIdeal.main_v2_1) = v1 c
          ∧ r.2.mem ((c.tc : Thread Cert.RUpIdeal.nD Cert.RUpIdeal.τ).loc Cert.RUpIdeal.main_arg0) = m' ((c.tc : Thread Cert.RUpIdeal.nD Cert.RUpIdeal.τ).loc Cert.RUpIdeal.main_arg0)
          ∧ r.2.mem ((c.tc : Thread Cert.RUpIdeal.nD Cert.RUpIdeal.τ).loc Cert.RUpIdeal.main_arg1) = m' ((c.tc : Thread Cert.RUpIdeal.nD Cert.RUpIdeal.τ).loc Cert.RUpIdeal.main_arg1)
          ∧ r.2.mem ((c.tc : Thread Cert.RUpIdeal.nD Cert.RUpIdeal.τ).loc Cert.RUpIdeal.main_arg2) = m' ((c.tc : Thread Cert.RUpIdeal.nD Cert.RUpIdeal.τ).loc Cert.RUpIdeal.main_arg2)
          ∧ r.2.mem ((c.tc : Thread Cert.RUpIdeal.nD Cert.RUpIdeal.τ).loc Cert.RUpIdeal.main_arg3) = m' ((c.tc : Thread Cert.RUpIdeal.nD Cert.RUpIdeal.τ).loc Cert.RUpIdeal.main_arg3)
          ∧ r.2.mem ((c.tc : Thread Cert.RUpIdeal.nD Cert.RUpIdeal.τ).loc Cert.RUpIdeal.main_arg4) = m' ((c.tc : Thread Cert.RUpIdeal.nD Cert.RUpIdeal.τ).loc Cert.RUpIdeal.main_arg4)
          ∧ r.2.mem ((c.tc : Thread Cert.RUpIdeal.nD Cert.RUpIdeal.τ).loc Cert.RUpIdeal.main_arg5) = m' ((c.tc : Thread Cert.RUpIdeal.nD Cert.RUpIdeal.τ).loc Cert.RUpIdeal.main_arg5)
          ∧ r.2.mem ((c.tc : Thread Cert.RUpIdeal.nD Cert.RUpIdeal.τ).loc Cert.RUpIdeal.main_arg6) = m' ((c.tc : Thread Cert.RUpIdeal.nD Cert.RUpIdeal.τ).loc Cert.RUpIdeal.main_arg6))

def Claim : Prop :=
  ∃ (hDown : Cert.Down.Facts) (hDownIdeal : Cert.DownIdeal.Facts) (hRDownIdeal : Cert.RDownIdeal.Facts) (hUp : Cert.Up.Facts) (hUpIdeal : Cert.UpIdeal.Facts) (hRUpIdeal : Cert.RUpIdeal.Facts) (hPre_up_finite : Cert.Pre_up_finite.Facts),
    quiescent_Down (hDown := hDown)
    ∧ quiescent_DownIdeal (hDownIdeal := hDownIdeal)
    ∧ quiescent_RDownIdeal (hRDownIdeal := hRDownIdeal)
    ∧ quiescent_Up (hUp := hUp)
    ∧ quiescent_UpIdeal (hUpIdeal := hUpIdeal)
    ∧ quiescent_UpIdeal_pre_up_finite (hUpIdeal := hUpIdeal) (hPre_up_finite := hPre_up_finite)
    ∧ quiescent_RUpIdeal (hRUpIdeal := hRUpIdeal)
    ∧ quiescent_RUpIdeal_pre_up_finite (hRUpIdeal := hRUpIdeal) (hPre_up_finite := hPre_up_finite)
    ∧ preserves_Down_DownIdeal
    ∧ algebraic_DownIdeal_RDownIdeal (hDownIdeal := hDownIdeal) (hRDownIdeal := hRDownIdeal)
    ∧ preserves_Up_UpIdeal
    ∧ algebraic_UpIdeal_RUpIdeal_pre_up_finite (hUpIdeal := hUpIdeal) (hRUpIdeal := hRUpIdeal) (hPre_up_finite := hPre_up_finite)
-- ==== Pre_up_finite.lean ====
abbrev S5x252x2240 : Shape := ⟨3, ![5, 252, 2240]⟩
abbrev S5x252 : Shape := ⟨2, ![5, 252]⟩
abbrev S2240x11200 : Shape := ⟨2, ![2240, 11200]⟩
abbrev S11200 : Shape := ⟨1, ![11200]⟩
abbrev S3x3x11200 : Shape := ⟨3, ![3, 3, 11200]⟩
abbrev S_ : Shape := ⟨0, ![]⟩

class Facts : Prop where
  bcast_S_S5x252x2240 : S_.BroadcastsInDim S5x252x2240 (![] : Fin 0 → Fin S5x252x2240.rank)
  reducesTo_S5x252x2240_S_d0_1_2 : S5x252x2240.ReducesTo [0, 1, 2] S_
  h_S_ : 0 < S_.numel
  bcast_S_S5x252 : S_.BroadcastsInDim S5x252 (![] : Fin 0 → Fin S5x252.rank)
  reducesTo_S5x252_S_d0_1 : S5x252.ReducesTo [0, 1] S_
  bcast_S_S2240x11200 : S_.BroadcastsInDim S2240x11200 (![] : Fin 0 → Fin S2240x11200.rank)
  reducesTo_S2240x11200_S_d0_1 : S2240x11200.ReducesTo [0, 1] S_
  bcast_S_S11200 : S_.BroadcastsInDim S11200 (![] : Fin 0 → Fin S11200.rank)
  reducesTo_S11200_S_d0 : S11200.ReducesTo [0] S_
  bcast_S_S3x3x11200 : S_.BroadcastsInDim S3x3x11200 (![] : Fin 0 → Fin S3x3x11200.rank)
  reducesTo_S3x3x11200_S_d0_1_2 : S3x3x11200.ReducesTo [0, 1, 2] S_

variable [Facts]

def fn_part1 {F : FTy → Type} [FloatOps F] (main_arg4 : FVec F S11200 .f32) (main_arg5 : FVec F S3x3x11200 .f32) (main_arg6 : FVec F S11200 .f32) (main_v3 : IVec S_ 1) (main_v7 : IVec S_ 1) (main_v11 : IVec S_ 1) (main_v15 : IVec S_ 1) : IVec S_ 1 :=
  let main_v16 : FVec F S11200 .f32 := Host.absf main_arg4
  let main_cst_6 : FVec F S_ .f32 := constant S_ .f32 0x7F800000#32
  let main_v17 : FVec F S11200 .f32 := broadcastInDim S11200 ![] bcast_S_S11200 main_cst_6
  let main_v18 : IVec S11200 1 := cmpf .olt main_v16 main_v17
  let main_c_7 : IVec S_ 1 := constantI S_ 1 1#1
  let main_v19 : IVec S_ 1 := (fun x v => Host.reduce IntOp.andi x v reducesTo_S11200_S_d0 h_S_) main_v18 main_c_7
  let main_v20 : FVec F S3x3x11200 .f32 := Host.absf main_arg5
  let main_cst_8 : FVec F S_ .f32 := constant S_ .f32 0x7F800000#32
  let main_v21 : FVec F S3x3x11200 .f32 := broadcastInDim S3x3x11200 ![] bcast_S_S3x3x11200 main_cst_8
  let main_v22 : IVec S3x3x11200 1 := cmpf .olt main_v20 main_v21
  let main_c_9 : IVec S_ 1 := constantI S_ 1 1#1
  let main_v23 : IVec S_ 1 := (fun x v => Host.reduce IntOp.andi x v reducesTo_S3x3x11200_S_d0_1_2 h_S_) main_v22 main_c_9
  let main_v24 : FVec F S11200 .f32 := Host.absf main_arg6
  let main_cst_10 : FVec F S_ .f32 := constant S_ .f32 0x7F800000#32
  let main_v25 : FVec F S11200 .f32 := broadcastInDim S11200 ![] bcast_S_S11200 main_cst_10
  let main_v26 : IVec S11200 1 := cmpf .olt main_v24 main_v25
  let main_c_11 : IVec S_ 1 := constantI S_ 1 1#1
  let main_v27 : IVec S_ 1 := (fun x v => Host.reduce IntOp.andi x v reducesTo_S11200_S_d0 h_S_) main_v26 main_c_11
  let main_v28 : IVec S_ 1 := andi main_v3 main_v7
  let main_v29 : IVec S_ 1 := andi main_v28 main_v11
  let main_v30 : IVec S_ 1 := andi main_v29 main_v15
  let main_v31 : IVec S_ 1 := andi main_v30 main_v19
  let main_v32 : IVec S_ 1 := andi main_v31 main_v23
  let main_v33 : IVec S_ 1 := andi main_v32 main_v27
  main_v33

def fn {F : FTy → Type} [FloatOps F] (main_arg0 : FVec F S5x252x2240 .f32) (main_arg1 : FVec F S5x252 .f32) (main_arg2 : FVec F S2240x11200 .f32) (main_arg3 : FVec F S11200 .f32) (main_arg4 : FVec F S11200 .f32) (main_arg5 : FVec F S3x3x11200 .f32) (main_arg6 : FVec F S11200 .f32) : IVec S_ 1 :=
  let main_v0 : FVec F S5x252x2240 .f32 := Host.absf main_arg0
  let main_cst : FVec F S_ .f32 := constant S_ .f32 0x7F800000#32
  let main_v1 : FVec F S5x252x2240 .f32 := broadcastInDim S5x252x2240 ![] bcast_S_S5x252x2240 main_cst
  let main_v2 : IVec S5x252x2240 1 := cmpf .olt main_v0 main_v1
  let main_c : IVec S_ 1 := constantI S_ 1 1#1
  let main_v3 : IVec S_ 1 := (fun x v => Host.reduce IntOp.andi x v reducesTo_S5x252x2240_S_d0_1_2 h_S_) main_v2 main_c
  let main_v4 : FVec F S5x252 .f32 := Host.absf main_arg1
  let main_cst_0 : FVec F S_ .f32 := constant S_ .f32 0x7F800000#32
  let main_v5 : FVec F S5x252 .f32 := broadcastInDim S5x252 ![] bcast_S_S5x252 main_cst_0
  let main_v6 : IVec S5x252 1 := cmpf .olt main_v4 main_v5
  let main_c_1 : IVec S_ 1 := constantI S_ 1 1#1
  let main_v7 : IVec S_ 1 := (fun x v => Host.reduce IntOp.andi x v reducesTo_S5x252_S_d0_1 h_S_) main_v6 main_c_1
  let main_v8 : FVec F S2240x11200 .f32 := Host.absf main_arg2
  let main_cst_2 : FVec F S_ .f32 := constant S_ .f32 0x7F800000#32
  let main_v9 : FVec F S2240x11200 .f32 := broadcastInDim S2240x11200 ![] bcast_S_S2240x11200 main_cst_2
  let main_v10 : IVec S2240x11200 1 := cmpf .olt main_v8 main_v9
  let main_c_3 : IVec S_ 1 := constantI S_ 1 1#1
  let main_v11 : IVec S_ 1 := (fun x v => Host.reduce IntOp.andi x v reducesTo_S2240x11200_S_d0_1 h_S_) main_v10 main_c_3
  let main_v12 : FVec F S11200 .f32 := Host.absf main_arg3
  let main_cst_4 : FVec F S_ .f32 := constant S_ .f32 0x7F800000#32
  let main_v13 : FVec F S11200 .f32 := broadcastInDim S11200 ![] bcast_S_S11200 main_cst_4
  let main_v14 : IVec S11200 1 := cmpf .olt main_v12 main_v13
  let main_c_5 : IVec S_ 1 := constantI S_ 1 1#1
  let main_v15 : IVec S_ 1 := (fun x v => Host.reduce IntOp.andi x v reducesTo_S11200_S_d0 h_S_) main_v14 main_c_5
  fn_part1 (F := F) main_arg4 main_arg5 main_arg6 main_v3 main_v7 main_v11 main_v15
-- ==== Down.lean ====
abbrev S5x252x5600 : Shape := ⟨3, ![5, 252, 5600]⟩
abbrev S5x256x128 : Shape := ⟨3, ![5, 256, 128]⟩
abbrev S5600x2240 : Shape := ⟨2, ![5600, 2240]⟩
abbrev S2240 : Shape := ⟨1, ![2240]⟩
abbrev S5x6x2240 : Shape := ⟨3, ![5, 6, 2240]⟩
abbrev S6x2240 : Shape := ⟨2, ![6, 2240]⟩
abbrev S5x256x2240 : Shape := ⟨3, ![5, 256, 2240]⟩
abbrev S1x2240 : Shape := ⟨2, ![1, 2240]⟩
abbrev S5x252x2240 : Shape := ⟨3, ![5, 252, 2240]⟩
abbrev S5x256x5600 : Shape := ⟨3, ![5, 256, 5600]⟩
abbrev S5600x256 : Shape := ⟨2, ![5600, 256]⟩
abbrev S1x256 : Shape := ⟨2, ![1, 256]⟩
abbrev S5x6x256 : Shape := ⟨3, ![5, 6, 256]⟩
abbrev S6x256 : Shape := ⟨2, ![6, 256]⟩
abbrev S5x256x256 : Shape := ⟨3, ![5, 256, 256]⟩
abbrev S1x1x256 : Shape := ⟨3, ![1, 1, 256]⟩
abbrev S1x256x128 : Shape := ⟨3, ![1, 256, 128]⟩
abbrev S256x128 : Shape := ⟨2, ![256, 128]⟩
abbrev S256x1 : Shape := ⟨2, ![256, 1]⟩
abbrev S1x256x5600 : Shape := ⟨3, ![1, 256, 5600]⟩
abbrev S256x5600 : Shape := ⟨2, ![256, 5600]⟩
abbrev S256x256 : Shape := ⟨2, ![256, 256]⟩
abbrev S1x256x256 : Shape := ⟨3, ![1, 256, 256]⟩

abbrev nBuf : Space → Nat
  | .hbm => 9
  | .vmem => 14
  | .smem => 0
  | _ => 0

abbrev bufTy : (tb : Table) → Fin (tcTables nBuf tb) → BufTy
  | .hbm, ⟨0, _⟩ => ⟨S5x252x5600, .fp8e4m3⟩
  | .hbm, ⟨1, _⟩ => ⟨S5x256x128, .f32⟩
  | .hbm, ⟨2, _⟩ => ⟨S5600x2240, .fp8e4m3⟩
  | .hbm, ⟨3, _⟩ => ⟨S2240, .f32⟩
  | .hbm, ⟨4, _⟩ => ⟨S5x6x2240, .f32⟩
  | .hbm, ⟨5, _⟩ => ⟨S6x2240, .f32⟩
  | .hbm, ⟨6, _⟩ => ⟨S5x256x2240, .f32⟩
  | .hbm, ⟨7, _⟩ => ⟨S1x2240, .f32⟩
  | .hbm, ⟨8, _⟩ => ⟨S5x252x2240, .bf16⟩
  | .local _ .vmem, ⟨0, _⟩ => ⟨S5x256x5600, .fp8e4m3⟩
  | .local _ .vmem, ⟨1, _⟩ => ⟨S5x256x128, .f32⟩
  | .local _ .vmem, ⟨2, _⟩ => ⟨S5600x256, .fp8e4m3⟩
  | .local _ .vmem, ⟨3, _⟩ => ⟨S5600x256, .fp8e4m3⟩
  | .local _ .vmem, ⟨4, _⟩ => ⟨S1x256, .f32⟩
  | .local _ .vmem, ⟨5, _⟩ => ⟨S1x256, .f32⟩
  | .local _ .vmem, ⟨6, _⟩ => ⟨S5x6x256, .f32⟩
  | .local _ .vmem, ⟨7, _⟩ => ⟨S5x6x256, .f32⟩
  | .local _ .vmem, ⟨8, _⟩ => ⟨S6x256, .f32⟩
  | .local _ .vmem, ⟨9, _⟩ => ⟨S6x256, .f32⟩
  | .local _ .vmem, ⟨10, _⟩ => ⟨S5x256x256, .f32⟩
  | .local _ .vmem, ⟨11, _⟩ => ⟨S5x256x256, .f32⟩
  | .local _ .vmem, ⟨12, _⟩ => ⟨S5x256x256, .bf16⟩
  | .local _ .vmem, ⟨13, _⟩ => ⟨S5x256x256, .bf16⟩
  | _, _ => ⟨S5x252x5600, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![9], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S5x256x5600 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5600x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5x6x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S6x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S5x256x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RDownIdeal.lean ====
abbrev S5x252x5600 : Shape := ⟨3, ![5, 252, 5600]⟩
abbrev S5x256x128 : Shape := ⟨3, ![5, 256, 128]⟩
abbrev S5600x2240 : Shape := ⟨2, ![5600, 2240]⟩
abbrev S2240 : Shape := ⟨1, ![2240]⟩
abbrev S5x6x2240 : Shape := ⟨3, ![5, 6, 2240]⟩
abbrev S6x2240 : Shape := ⟨2, ![6, 2240]⟩
abbrev S5x256x2240 : Shape := ⟨3, ![5, 256, 2240]⟩
abbrev S5x252x2240 : Shape := ⟨3, ![5, 252, 2240]⟩
abbrev S1x6x2240 : Shape := ⟨3, ![1, 6, 2240]⟩
abbrev S5x1x2240 : Shape := ⟨3, ![5, 1, 2240]⟩
abbrev S5x252x1 : Shape := ⟨3, ![5, 252, 1]⟩
abbrev S1x1x2240 : Shape := ⟨3, ![1, 1, 2240]⟩

abbrev nBuf : Space → Nat
  | .hbm => 8
  | .vmem => 8
  | .smem => 0
  | _ => 0

abbrev bufTy : (tb : Table) → Fin (tcTables nBuf tb) → BufTy
  | .hbm, ⟨0, _⟩ => ⟨S5x252x5600, .fp8e4m3⟩
  | .hbm, ⟨1, _⟩ => ⟨S5x256x128, .f32⟩
  | .hbm, ⟨2, _⟩ => ⟨S5600x2240, .fp8e4m3⟩
  | .hbm, ⟨3, _⟩ => ⟨S2240, .f32⟩
  | .hbm, ⟨4, _⟩ => ⟨S5x6x2240, .f32⟩
  | .hbm, ⟨5, _⟩ => ⟨S6x2240, .f32⟩
  | .hbm, ⟨6, _⟩ => ⟨S5x256x2240, .f32⟩
  | .hbm, ⟨7, _⟩ => ⟨S5x252x2240, .bf16⟩
  | .local _ .vmem, ⟨0, _⟩ => ⟨S5x252x5600, .fp8e4m3⟩
  | .local _ .vmem, ⟨1, _⟩ => ⟨S5x256x128, .f32⟩
  | .local _ .vmem, ⟨2, _⟩ => ⟨S5600x2240, .fp8e4m3⟩
  | .local _ .vmem, ⟨3, _⟩ => ⟨S2240, .f32⟩
  | .local _ .vmem, ⟨4, _⟩ => ⟨S5x6x2240, .f32⟩
  | .local _ .vmem, ⟨5, _⟩ => ⟨S6x2240, .f32⟩
  | .local _ .vmem, ⟨6, _⟩ => ⟨S5x256x2240, .f32⟩
  | .local _ .vmem, ⟨7, _⟩ => ⟨S5x252x2240, .bf16⟩
  | _, _ => ⟨S5x252x5600, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S5x252x5600 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S5600x2240 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2240 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5x6x2240 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x2240 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S5x256x2240 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x252x2240 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Up.lean ====
abbrev S5x252x2240 : Shape := ⟨3, ![5, 252, 2240]⟩
abbrev S5x252 : Shape := ⟨2, ![5, 252]⟩
abbrev S2240x11200 : Shape := ⟨2, ![2240, 11200]⟩
abbrev S11200 : Shape := ⟨1, ![11200]⟩
abbrev S3x3x11200 : Shape := ⟨3, ![3, 3, 11200]⟩
abbrev S_ : Shape := ⟨0, ![]⟩
abbrev S5x256 : Shape := ⟨2, ![5, 256]⟩
abbrev S5x256x1 : Shape := ⟨3, ![5, 256, 1]⟩
abbrev S5x256x128 : Shape := ⟨3, ![5, 256, 128]⟩
abbrev S1x11200 : Shape := ⟨2, ![1, 11200]⟩
abbrev S9x11200 : Shape := ⟨2, ![9, 11200]⟩
abbrev S5x252x5600 : Shape := ⟨3, ![5, 252, 5600]⟩
abbrev S5x256x2240 : Shape := ⟨3, ![5, 256, 2240]⟩
abbrev S2240x256 : Shape := ⟨2, ![2240, 256]⟩
abbrev S2240x128 : Shape := ⟨2, ![2240, 128]⟩
abbrev S1x11264 : Shape := ⟨2, ![1, 11264]⟩
abbrev S9x11264 : Shape := ⟨2, ![9, 11264]⟩
abbrev S5x256x5600 : Shape := ⟨3, ![5, 256, 5600]⟩
abbrev S2x2x304x128 : Shape := ⟨4, ![2, 2, 304, 128]⟩
abbrev S22x5x256x256 : Shape := ⟨4, ![22, 5, 256, 256]⟩
abbrev S1x256 : Shape := ⟨2, ![1, 256]⟩
abbrev S1x384 : Shape := ⟨2, ![1, 384]⟩
abbrev S9x256 : Shape := ⟨2, ![9, 256]⟩
abbrev S9x384 : Shape := ⟨2, ![9, 384]⟩
abbrev S2240x384 : Shape := ⟨2, ![2240, 384]⟩
abbrev S256x128 : Shape := ⟨2, ![256, 128]⟩
abbrev S1x256x2240 : Shape := ⟨3, ![1, 256, 2240]⟩
abbrev S256x2240 : Shape := ⟨2, ![256, 2240]⟩
abbrev S1x256x128 : Shape := ⟨3, ![1, 256, 128]⟩
abbrev S256x256 : Shape := ⟨2, ![256, 256]⟩
abbrev S1x128 : Shape := ⟨2, ![1, 128]⟩
abbrev S1x1x256x128 : Shape := ⟨4, ![1, 1, 256, 128]⟩
abbrev S256 : Shape := ⟨1, ![256]⟩
abbrev S256x1 : Shape := ⟨2, ![256, 1]⟩
abbrev S1x1x256x256 : Shape := ⟨4, ![1, 1, 256, 256]⟩
abbrev S1x256x256 : Shape := ⟨3, ![1, 256, 256]⟩
abbrev S256x224 : Shape := ⟨2, ![256, 224]⟩
abbrev S1x256x224 : Shape := ⟨3, ![1, 256, 224]⟩
abbrev S128x256 : Shape := ⟨2, ![128, 256]⟩
abbrev S1x252 : Shape := ⟨2, ![1, 252]⟩

abbrev nBuf : Space → Nat
  | .hbm => 21
  | .vmem => 20
  | .smem => 0
  | _ => 0

abbrev bufTy : (tb : Table) → Fin (tcTables nBuf tb) → BufTy
  | .hbm, ⟨0, _⟩ => ⟨S5x252x2240, .f32⟩
  | .hbm, ⟨1, _⟩ => ⟨S5x252, .f32⟩
  | .hbm, ⟨2, _⟩ => ⟨S2240x11200, .f32⟩
  | .hbm, ⟨3, _⟩ => ⟨S11200, .f32⟩
  | .hbm, ⟨4, _⟩ => ⟨S11200, .f32⟩
  | .hbm, ⟨5, _⟩ => ⟨S3x3x11200, .f32⟩
  | .hbm, ⟨6, _⟩ => ⟨S11200, .f32⟩
  | .hbm, ⟨7, _⟩ => ⟨S_, .f32⟩
  | .hbm, ⟨8, _⟩ => ⟨S_, .f32⟩
  | .hbm, ⟨9, _⟩ => ⟨S5x256, .f32⟩
  | .hbm, ⟨10, _⟩ => ⟨S5x256x1, .f32⟩
  | .hbm, ⟨11, _⟩ => ⟨S5x256x128, .f32⟩
  | .hbm, ⟨12, _⟩ => ⟨S5x252x2240, .fp8e4m3⟩
  | .hbm, ⟨13, _⟩ => ⟨S2240x11200, .fp8e4m3⟩
  | .hbm, ⟨14, _⟩ => ⟨S1x11200, .f32⟩
  | .hbm, ⟨15, _⟩ => ⟨S1x11200, .f32⟩
  | .hbm, ⟨16, _⟩ => ⟨S9x11200, .f32⟩
  | .hbm, ⟨17, _⟩ => ⟨S1x11200, .f32⟩
  | .hbm, ⟨18, _⟩ => ⟨S5x252x5600, .fp8e4m3⟩
  | .hbm, ⟨19, _⟩ => ⟨S5x252, .f32⟩
  | .hbm, ⟨20, _⟩ => ⟨S5x256x128, .f32⟩
  | .local _ .vmem, ⟨0, _⟩ => ⟨S5x256x2240, .fp8e4m3⟩
  | .local _ .vmem, ⟨1, _⟩ => ⟨S5x256x128, .f32⟩
  | .local _ .vmem, ⟨2, _⟩ => ⟨S2240x256, .fp8e4m3⟩
  | .local _ .vmem, ⟨3, _⟩ => ⟨S2240x256, .fp8e4m3⟩
  | .local _ .vmem, ⟨4, _⟩ => ⟨S2240x128, .fp8e4m3⟩
  | .local _ .vmem, ⟨5, _⟩ => ⟨S2240x128, .fp8e4m3⟩
  | .local _ .vmem, ⟨6, _⟩ => ⟨S2240x128, .fp8e4m3⟩
  | .local _ .vmem, ⟨7, _⟩ => ⟨S2240x128, .fp8e4m3⟩
  | .local _ .vmem, ⟨8, _⟩ => ⟨S2240x128, .fp8e4m3⟩
  | .local _ .vmem, ⟨9, _⟩ => ⟨S2240x128, .fp8e4m3⟩
  | .local _ .vmem, ⟨10, _⟩ => ⟨S1x11264, .f32⟩
  | .local _ .vmem, ⟨11, _⟩ => ⟨S1x11264, .f32⟩
  | .local _ .vmem, ⟨12, _⟩ => ⟨S9x11264, .f32⟩
  | .local _ .vmem, ⟨13, _⟩ => ⟨S1x11264, .f32⟩
  | .local _ .vmem, ⟨14, _⟩ => ⟨S5x256x5600, .fp8e4m3⟩
  | .local _ .vmem, ⟨15, _⟩ => ⟨S5x252, .f32⟩
  | .local _ .vmem, ⟨16, _⟩ => ⟨S5x256x128, .f32⟩
  | .local _ .vmem, ⟨17, _⟩ => ⟨S2x2x304x128, .f32⟩
  | .local _ .vmem, ⟨18, _⟩ => ⟨S22x5x256x256, .f32⟩
  | .local _ .vmem, ⟨19, _⟩ => ⟨S5x256x128, .f32⟩
  | _, _ => ⟨S5x252x2240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16

abbrev nD : Nat := 1
abbrev τ : Topo := Topo.v7x

variable {F : FTy → Type} [FloatOps F]

abbrev grid0 : Pipeline.Grid := ⟨1, ![22], ![false]⟩

def k0_mult1 (i : grid0.Coords) : BitVec 32 :=
  let arg0 : BitVec 32 := BitVec.ofNat 32 (i 0).val
  let c256_i32 : BitVec 32 := 256#32
  let v3 : BitVec 32 := Scalar.muli arg0 c256_i32
  v3
def k0_mult2 (i : grid0.Coords) : BitVec 32 :=
  let arg0 : BitVec 32 := BitVec.ofNat 32 (i 0).val
  let c256_i32_1 : BitVec 32 := 256#32
  let v5 : BitVec 32 := Scalar.muli arg0 c256_i32_1
  let c5504_i32 : BitVec 32 := 5504#32
  let v6 : BitVec 32 := Scalar.addi v5 c5504_i32
  v6
def k0_off1 (i : grid0.Coords) : Fin 2 → Nat :=
  let c0 : Index := 0#32
  let arg0 : BitVec 32 := BitVec.ofNat 32 (i 0).val
  let c256_i32 : BitVec 32 := 256#32
  let v3 : BitVec 32 := Scalar.muli arg0 c256_i32
  let v4 : BitVec 32 := v3
  let v8 : Index := Scalar.indexCast v4
  ![0, v8.toNat]
def k0_off2 (i : grid0.Coords) : Fin 2 → Nat :=
  let c0_2 : Index := 0#32
  let arg0 : BitVec 32 := BitVec.ofNat 32 (i 0).val
  let c256_i32_1 : BitVec 32 := 256#32
  let v5 : BitVec 32 := Scalar.muli arg0 c256_i32_1
  let c5504_i32 : BitVec 32 := 5504#32
  let v6 : BitVec 32 := Scalar.addi v5 c5504_i32
  let v7 : BitVec 32 := v6
  let v11 : Index := Scalar.indexCast v7
  ![0, v11.toNat]
def k0_off3 (i : grid0.Coords) : Fin 2 → Nat :=
  let c0_5 : Index := 0#32
  let arg0 : BitVec 32 := BitVec.ofNat 32 (i 0).val
  let c256_i32 : BitVec 32 := 256#32
  let v3 : BitVec 32 := Scalar.muli arg0 c256_i32
  let v4 : BitVec 32 := v3
  let v22 : Index := Scalar.indexCast v4
  ![0, v22.toNat]
def k0_off4 (i : grid0.Coords) : Fin 2 → Nat :=
  let c0_6 : Index := 0#32
  let arg0 : BitVec 32 := BitVec.ofNat 32 (i 0).val
  let c256_i32_1 : BitVec 32 := 256#32
  let v5 : BitVec 32 := Scalar.muli arg0 c256_i32_1
  let c5504_i32 : BitVec 32 := 5504#32
  let v6 : BitVec 32 := Scalar.addi v5 c5504_i32
  let v7 : BitVec 32 := v6
  let v25 : Index := Scalar.indexCast v7
  ![0, v25.toNat]
def k0_off5 (i : grid0.Coords) : Fin 4 → Nat :=
  let arg0 : BitVec 32 := BitVec.ofNat 32 (i 0).val
  let v428 : Index := Scalar.indexCast arg0
  let c0_203 : Index := 0#32
  let c0_204 : Index := 0#32
  let c0_205 : Index := 0#32
  ![v428.toNat, 0, 0, 0]
def k0_off6 (i : grid0.Coords) : Fin 4 → Nat :=
  let arg0 : BitVec 32 := BitVec.ofNat 32 (i 0).val
  let v450 : Index := Scalar.indexCast arg0
  let c0_210 : Index := 0#32
  let c0_211 : Index := 0#32
  let c128 : Index := 128#32
  ![v450.toNat, 0, 0, 128]
def k0_off7 (i : grid0.Coords) : Fin 4 → Nat :=
  let arg0 : BitVec 32 := BitVec.ofNat 32 (i 0).val
  let v817 : Index := Scalar.indexCast arg0
  let c1_411 : Index := 1#32
  let c0_412 : Index := 0#32
  let c0_413 : Index := 0#32
  ![v817.toNat, 1, 0, 0]
def k0_off8 (i : grid0.Coords) : Fin 4 → Nat :=
  let arg0 : BitVec 32 := BitVec.ofNat 32 (i 0).val
  let v839 : Index := Scalar.indexCast arg0
  let c1_419 : Index := 1#32
  let c0_420 : Index := 0#32
  let c128_421 : Index := 128#32
  ![v839.toNat, 1, 0, 128]
def k0_off9 (i : grid0.Coords) : Fin 4 → Nat :=
  let arg0 : BitVec 32 := BitVec.ofNat 32 (i 0).val
  let v1206 : Index := Scalar.indexCast arg0
  let c2_620 : Index := 2#32
  let c0_621 : Index := 0#32
  let c0_622 : Index := 0#32
  ![v1206.toNat, 2, 0, 0]
def k0_off10 (i : grid0.Coords) : Fin 4 → Nat :=
  let arg0 : BitVec 32 := BitVec.ofNat 32 (i 0).val
  let v1228 : Index := Scalar.indexCast arg0
  let c2_628 : Index := 2#32
  let c0_629 : Index := 0#32
  let c128_630 : Index := 128#32
  ![v1228.toNat, 2, 0, 128]
def k0_off11 (i : grid0.Coords) : Fin 4 → Nat :=
  let arg0 : BitVec 32 := BitVec.ofNat 32 (i 0).val
  let v1595 : Index := Scalar.indexCast arg0
  let c3_829 : Index := 3#32
  let c0_830 : Index := 0#32
  let c0_831 : Index := 0#32
  ![v1595.toNat, 3, 0, 0]
def k0_off12 (i : grid0.Coords) : Fin 4 → Nat :=
  let arg0 : BitVec 32 := BitVec.ofNat 32 (i 0).val
  let v1617 : Index := Scalar.indexCast arg0
  let c3_837 : Index := 3#32
  let c0_838 : Index := 0#32
  let c128_839 : Index := 128#32
  ![v1617.toNat, 3, 0, 128]
def k0_off13 (i : grid0.Coords) : Fin 4 → Nat :=
  let arg0 : BitVec 32 := BitVec.ofNat 32 (i 0).val
  let v1984 : Index := Scalar.indexCast arg0
  let c4_1038 : Index := 4#32
  let c0_1039 : Index := 0#32
  let c0_1040 : Index := 0#32
  ![v1984.toNat, 4, 0, 0]
def k0_off14 (i : grid0.Coords) : Fin 4 → Nat :=
  let arg0 : BitVec 32 := BitVec.ofNat 32 (i 0).val
  let v2006 : Index := Scalar.indexCast arg0
  let c4_1046 : Index := 4#32
  let c0_1047 : Index := 0#32
  let c128_1048 : Index := 128#32
  ![v2006.toNat, 4, 0, 128]
def k0_cond2 (i : grid0.Coords) : BitVec 1 :=
  let arg0 : BitVec 32 := BitVec.ofNat 32 (i 0).val
  let c21_i32 : BitVec 32 := 21#32
  let v2015 : BitVec 1 := Scalar.cmpi .eq arg0 c21_i32
  let v2016 : BitVec 32 := Scalar.extui v2015
  let c0_i32_1052 : BitVec 32 := 0#32
  let v2017 : BitVec 1 := Scalar.cmpi .ne v2016 c0_i32_1052
  v2017

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c2_i32 : BitVec 32 := 2#32
  let v0 : BitVec 32 := Scalar.muli c2_i32 arg0
  let c43_i32 : BitVec 32 := 43#32
  let v1 : BitVec 32 := Scalar.addi c43_i32 v0
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let c2_i32 : BitVec 32 := 2#32
  let v0 : BitVec 32 := Scalar.muli c2_i32 arg0
  let c44_i32 : BitVec 32 := 44#32
  let v1 : BitVec 32 := Scalar.addi c44_i32 v0
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let c2_i32 : BitVec 32 := 2#32
  let v0 : BitVec 32 := Scalar.muli c2_i32 arg0
  let c45_i32 : BitVec 32 := 45#32
  let v1 : BitVec 32 := Scalar.addi c45_i32 v0
  let c0_i32 : BitVec 32 := 0#32
  let c0_i32_0 : BitVec 32 := 0#32
  ![c0_i32.toNat, v1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S5x256x2240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S5x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2240x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2240x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2240x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2240x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x11264 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x11264 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S9x11264 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x11264 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5x256x5600 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S5x252 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S5x256x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== RUpIdeal.lean ====
abbrev S5x252x2240 : Shape := ⟨3, ![5, 252, 2240]⟩
abbrev S5x252 : Shape := ⟨2, ![5, 252]⟩
abbrev S2240x11200 : Shape := ⟨2, ![2240, 11200]⟩
abbrev S11200 : Shape := ⟨1, ![11200]⟩
abbrev S3x3x11200 : Shape := ⟨3, ![3, 3, 11200]⟩
abbrev S5x252x5600 : Shape := ⟨3, ![5, 252, 5600]⟩
abbrev S5x252x11200 : Shape := ⟨3, ![5, 252, 11200]⟩
abbrev S5x252x1 : Shape := ⟨3, ![5, 252, 1]⟩
abbrev S1x1x11200 : Shape := ⟨3, ![1, 1, 11200]⟩
abbrev S5x14x18x11200 : Shape := ⟨4, ![5, 14, 18, 11200]⟩
abbrev S5x1x18x11200 : Shape := ⟨4, ![5, 1, 18, 11200]⟩
abbrev S5x15x18x11200 : Shape := ⟨4, ![5, 15, 18, 11200]⟩
abbrev S5x16x18x11200 : Shape := ⟨4, ![5, 16, 18, 11200]⟩
abbrev S5x16x1x11200 : Shape := ⟨4, ![5, 16, 1, 11200]⟩
abbrev S5x16x19x11200 : Shape := ⟨4, ![5, 16, 19, 11200]⟩
abbrev S5x16x20x11200 : Shape := ⟨4, ![5, 16, 20, 11200]⟩
abbrev S1x1x1x11200 : Shape := ⟨4, ![1, 1, 1, 11200]⟩

abbrev nBuf : Space → Nat
  | .hbm => 11
  | .vmem => 9
  | .smem => 0
  | _ => 0

abbrev bufTy : (tb : Table) → Fin (tcTables nBuf tb) → BufTy
  | .hbm, ⟨0, _⟩ => ⟨S5x252x2240, .f32⟩
  | .hbm, ⟨1, _⟩ => ⟨S5x252, .f32⟩
  | .hbm, ⟨2, _⟩ => ⟨S2240x11200, .f32⟩
  | .hbm, ⟨3, _⟩ => ⟨S11200, .f32⟩
  | .hbm, ⟨4, _⟩ => ⟨S11200, .f32⟩
  | .hbm, ⟨5, _⟩ => ⟨S3x3x11200, .f32⟩
  | .hbm, ⟨6, _⟩ => ⟨S11200, .f32⟩
  | .hbm, ⟨7, _⟩ => ⟨S5x252x2240, .fp8e4m3⟩
  | .hbm, ⟨8, _⟩ => ⟨S2240x11200, .fp8e4m3⟩
  | .hbm, ⟨9, _⟩ => ⟨S5x252x5600, .fp8e4m3⟩
  | .hbm, ⟨10, _⟩ => ⟨S5x252, .f32⟩
  | .local _ .vmem, ⟨0, _⟩ => ⟨S5x252x2240, .fp8e4m3⟩
  | .local _ .vmem, ⟨1, _⟩ => ⟨S5x252, .f32⟩
  | .local _ .vmem, ⟨2, _⟩ => ⟨S2240x11200, .fp8e4m3⟩
  | .local _ .vmem, ⟨3, _⟩ => ⟨S11200, .f32⟩
  | .local _ .vmem, ⟨4, _⟩ => ⟨S11200, .f32⟩
  | .local _ .vmem, ⟨5, _⟩ => ⟨S3x3x11200, .f32⟩
  | .local _ .vmem, ⟨6, _⟩ => ⟨S11200, .f32⟩
  | .local _ .vmem, ⟨7, _⟩ => ⟨S5x252x5600, .fp8e4m3⟩
  | .local _ .vmem, ⟨8, _⟩ => ⟨S5x252, .f32⟩
  | _, _ => ⟨S5x252x2240, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S5x252x2240 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x252 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2240x11200 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S11200 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S11200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S3x3x11200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S11200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S5x252x5600 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S5x252 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.DownRun.lean ====
/- The `Down` program's run. One grid point handles one block of 256 output columns: from the blocks staged for it the
   kernel writes, batch by batch, `r + (t6[5] + table[5]) * ((hc · w) * scale * s)`. The 252 token rows are staged in blocks of
   256, so each staged block carries, past the array's edge, words that nothing states; the proof data are therefore a
   relation: the output block is the body's function of the input blocks WITH SOME contents past the edge. -/
module

public import proofs.«01_k».proof.Proof.Gen.Down.Frame
public import proofs.«01_k».proof.Proof.Gen.Down.Skeleton
public import Idealize.ShloMosaic.Lib.Pipeline.ArrRel

@[expose] public section

set_option maxRecDepth 16384

noncomputable section

namespace Cert.Down.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.Down.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body writes -/

/-- Batch `b`'s slab of the output block, from that batch's slabs of the inputs. -/
def slab (g : Vec F S1x1x256 .f32) (tb : Vec F S1x256 .f32) (sc : Vec F S1x256x128 .f32) (h : Vec F S1x256x5600 .fp8e4m3)
    (w : Vec F S5600x256 .fp8e4m3) (s : Vec F S1x256 .f32) (r : Vec F S1x256x256 .f32) : Vec F S1x256x256 .bf16 :=
  shapeCast S1x256x256 (k0_pay13 g tb sc h w s r) shapeCasts_S256x256_S1x256x256

/-- The output block, from the input blocks: its five slabs, last written first. -/
def out (x0 : Vec F S5x256x5600 .fp8e4m3) (x1 : Vec F S5x256x128 .f32) (x2 : Vec F S5600x256 .fp8e4m3) (x3 : Vec F S1x256 .f32)
    (x4 : Vec F S5x6x256 .f32) (x5 : Vec F S6x256 .f32) (x6 : Vec F S5x256x256 .f32) : Vec F S5x256x256 .bf16 :=
  View.canon
    [⟨Rect.unit (s := S5x256x256) ![4, 0, 0] S1x256x256.size inb_S5x256x256_S1x256x256_4_0_0, slab (View.ld x4 (Rect.unit (s := S5x6x256) ![4, 5, 0] S1x1x256.size inb_S5x6x256_S1x1x256_4_5_0)) (View.ld x5 (Rect.unit (s := S6x256) ![5, 0] S1x256.size inb_S6x256_S1x256_5_0)) (View.ld x1 (Rect.unit (s := S5x256x128) ![4, 0, 0] S1x256x128.size inb_S5x256x128_S1x256x128_4_0_0)) (View.ld x0 (Rect.unit (s := S5x256x5600) ![4, 0, 0] S1x256x5600.size inb_S5x256x5600_S1x256x5600_4_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![4, 0, 0] S1x256x256.size inb_S5x256x256_S1x256x256_4_0_0))⟩,
     ⟨Rect.unit (s := S5x256x256) ![3, 0, 0] S1x256x256.size inb_S5x256x256_S1x256x256_3_0_0, slab (View.ld x4 (Rect.unit (s := S5x6x256) ![3, 5, 0] S1x1x256.size inb_S5x6x256_S1x1x256_3_5_0)) (View.ld x5 (Rect.unit (s := S6x256) ![5, 0] S1x256.size inb_S6x256_S1x256_5_0)) (View.ld x1 (Rect.unit (s := S5x256x128) ![3, 0, 0] S1x256x128.size inb_S5x256x128_S1x256x128_3_0_0)) (View.ld x0 (Rect.unit (s := S5x256x5600) ![3, 0, 0] S1x256x5600.size inb_S5x256x5600_S1x256x5600_3_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![3, 0, 0] S1x256x256.size inb_S5x256x256_S1x256x256_3_0_0))⟩,
     ⟨Rect.unit (s := S5x256x256) ![2, 0, 0] S1x256x256.size inb_S5x256x256_S1x256x256_2_0_0, slab (View.ld x4 (Rect.unit (s := S5x6x256) ![2, 5, 0] S1x1x256.size inb_S5x6x256_S1x1x256_2_5_0)) (View.ld x5 (Rect.unit (s := S6x256) ![5, 0] S1x256.size inb_S6x256_S1x256_5_0)) (View.ld x1 (Rect.unit (s := S5x256x128) ![2, 0, 0] S1x256x128.size inb_S5x256x128_S1x256x128_2_0_0)) (View.ld x0 (Rect.unit (s := S5x256x5600) ![2, 0, 0] S1x256x5600.size inb_S5x256x5600_S1x256x5600_2_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![2, 0, 0] S1x256x256.size inb_S5x256x256_S1x256x256_2_0_0))⟩,
     ⟨Rect.unit (s := S5x256x256) ![1, 0, 0] S1x256x256.size inb_S5x256x256_S1x256x256_1_0_0, slab (View.ld x4 (Rect.unit (s := S5x6x256) ![1, 5, 0] S1x1x256.size inb_S5x6x256_S1x1x256_1_5_0)) (View.ld x5 (Rect.unit (s := S6x256) ![5, 0] S1x256.size inb_S6x256_S1x256_5_0)) (View.ld x1 (Rect.unit (s := S5x256x128) ![1, 0, 0] S1x256x128.size inb_S5x256x128_S1x256x128_1_0_0)) (View.ld x0 (Rect.unit (s := S5x256x5600) ![1, 0, 0] S1x256x5600.size inb_S5x256x5600_S1x256x5600_1_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![1, 0, 0] S1x256x256.size inb_S5x256x256_S1x256x256_1_0_0))⟩,
     ⟨Rect.unit (s := S5x256x256) ![0, 0, 0] S1x256x256.size inb_S5x256x256_S1x256x256_0_0_0, slab (View.ld x4 (Rect.unit (s := S5x6x256) ![0, 5, 0] S1x1x256.size inb_S5x6x256_S1x1x256_0_5_0)) (View.ld x5 (Rect.unit (s := S6x256) ![5, 0] S1x256.size inb_S6x256_S1x256_5_0)) (View.ld x1 (Rect.unit (s := S5x256x128) ![0, 0, 0] S1x256x128.size inb_S5x256x128_S1x256x128_0_0_0)) (View.ld x0 (Rect.unit (s := S5x256x5600) ![0, 0, 0] S1x256x5600.size inb_S5x256x5600_S1x256x5600_0_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![0, 0, 0] S1x256x256.size inb_S5x256x256_S1x256x256_0_0_0))⟩]

/-- The five slabs tile the block. -/
theorem cover (p0 p1 p2 p3 p4 : Vec F S1x256x256 .bf16) (y : S5x256x256.Idx) :
    ∃ pc ∈ ([⟨Rect.unit (s := S5x256x256) ![4, 0, 0] S1x256x256.size inb_S5x256x256_S1x256x256_4_0_0, p4⟩, ⟨Rect.unit (s := S5x256x256) ![3, 0, 0] S1x256x256.size inb_S5x256x256_S1x256x256_3_0_0, p3⟩, ⟨Rect.unit (s := S5x256x256) ![2, 0, 0] S1x256x256.size inb_S5x256x256_S1x256x256_2_0_0, p2⟩, ⟨Rect.unit (s := S5x256x256) ![1, 0, 0] S1x256x256.size inb_S5x256x256_S1x256x256_1_0_0, p1⟩, ⟨Rect.unit (s := S5x256x256) ![0, 0, 0] S1x256x256.size inb_S5x256x256_S1x256x256_0_0_0, p0⟩] : List (View.Piece (Elt F) S5x256x256 .bf16)), y ∈ pc.1.set :=
  View.cover_of_tiled [⟨Rect.unit (s := S5x256x256) ![4, 0, 0] S1x256x256.size inb_S5x256x256_S1x256x256_4_0_0, p4⟩, ⟨Rect.unit (s := S5x256x256) ![3, 0, 0] S1x256x256.size inb_S5x256x256_S1x256x256_3_0_0, p3⟩, ⟨Rect.unit (s := S5x256x256) ![2, 0, 0] S1x256x256.size inb_S5x256x256_S1x256x256_2_0_0, p2⟩, ⟨Rect.unit (s := S5x256x256) ![1, 0, 0] S1x256x256.size inb_S5x256x256_S1x256x256_1_0_0, p1⟩, ⟨Rect.unit (s := S5x256x256) ![0, 0, 0] S1x256x256.size inb_S5x256x256_S1x256x256_0_0_0, p0⟩] S1x256x256.size (by rfl) y

set_option maxHeartbeats 2000000 in
/-- The body on whole staging buffers: the inputs are left as they were, the output ends at `out` of them. -/
theorem sound_kernel (c : Dev nD) (E : Set ℕ) (i : grid0.Coords) (arg0 : Memref sig .tc .vmem S5x256x5600 .fp8e4m3) (harg0 : arg0.IsWhole) (arg1 : Memref sig .tc .vmem S5x256x128 .f32) (harg1 : arg1.IsWhole) (arg2 : Memref sig .tc .vmem S5600x256 .fp8e4m3) (harg2 : arg2.IsWhole) (arg3 : Memref sig .tc .vmem S1x256 .f32) (harg3 : arg3.IsWhole) (arg4 : Memref sig .tc .vmem S5x6x256 .f32) (harg4 : arg4.IsWhole) (arg5 : Memref sig .tc .vmem S6x256 .f32) (harg5 : arg5.IsWhole) (arg6 : Memref sig .tc .vmem S5x256x256 .f32) (harg6 : arg6.IsWhole) (arg7 : Memref sig .tc .vmem S5x256x256 .bf16) (harg7 : arg7.IsWhole)
    (x0 : Vec F S5x256x5600 .fp8e4m3) (x1 : Vec F S5x256x128 .f32) (x2 : Vec F S5600x256 .fp8e4m3) (x3 : Vec F S1x256 .f32)
    (x4 : Vec F S5x6x256 .f32) (x5 : Vec F S6x256 .f32) (x6 : Vec F S5x256x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out x0 x1 x2 x3 x4 x5 x6)) -∗ K ⟨⟩))
      ⊢ wp frame (wpE (defs₀ (F := F)) Variants.none c none) E (cc0_ffn_down i arg0 harg0 arg1 harg1 arg2 harg2 arg3 harg3 arg4 harg4 arg5 harg5 arg6 harg6 arg7 harg7) K := by
  simp only [cc0_ffn_down_eq_skeleton]; unfold cc0_ffn_down_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _ _ _ _)

/-! ## The pipeline's proof data -/

/-- Window `w`'s staging buffer at point `t`, fetched over contents `d`: the block inside the array, `d` past its edge. -/
def held (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data: each input's buffer is left as found; the output's is `out` of the fetched blocks over SOME contents
    past the arrays' edges. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∃ d0 d1 d2 d3 d4 d5 d6, X = out (held m c 0 t d0) (held m c 1 t d1) (held m c 2 t d2) (held m c 3 t d3) (held m c 4 t d4) (held m c 5 t d5) (held m c 6 t d6)
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = Y) := by dsimp only [rdat]
theorem after_5 (c : Dev nD) (t : Fin cfg0.N) (Y X) : (rdat m c).after 5 t Y X = (X = Y) := by dsimp only [rdat]
theorem after_6 (c : Dev nD) (t : Fin cfg0.N) (Y X) : (rdat m c).after 6 t Y X = (X = Y) := by dsimp only [rdat]
theorem after_7 (c : Dev nD) (t : Fin cfg0.N) (Y X) : (rdat m c).after 7 t Y X = ∃ d0 d1 d2 d3 d4 d5 d6, X = out (held m c 0 t d0) (held m c 1 t d1) (held m c 2 t d2) (held m c 3 t d3) (held m c 4 t d4) (held m c 5 t d5) (held m c 6 t d6) := by dsimp only [rdat]

/-- What a fetch fills a buffer with, read off the region-entry contents. -/
theorem fetched_eq (c : Dev nD) (w : Fin cfg0.W) (t : Fin cfg0.N) (d) : (rdat m c).fetched w t d = held m c w t d := by
  unfold RDat.fetched RDat.blockOf held iblk
  rw [A_eq]

/-- An input window's buffer holds, at every point, its block over some contents past the edge. -/
theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) :
    ∃ d, Y = held m c w t d := by
  obtain ⟨d, hd⟩ := RDat.finds_in_eq_fetched (rdat m c) w hw hclip hkeep t Y h
  exact ⟨d, hd.trans (fetched_eq m c w t d)⟩

theorem finds_0 (c : Dev nD) (t : Fin cfg0.N) (Y) (h : (rdat m c).Finds 0 t Y) : ∃ d, Y = held m c 0 t d :=
  finds_in m c 0 rfl (fun t t' h => by funext a; exact congrArg (fun n => Pipeline.Clip.of n _ _) (congrFun h a)) (fun t Y X h => by rwa [after_0] at h) t Y h
theorem finds_1 (c : Dev nD) (t : Fin cfg0.N) (Y) (h : (rdat m c).Finds 1 t Y) : ∃ d, Y = held m c 1 t d :=
  finds_in m c 1 rfl (fun _ _ _ => rfl) (fun t Y X h => by rwa [after_1] at h) t Y h
theorem finds_2 (c : Dev nD) (t : Fin cfg0.N) (Y) (h : (rdat m c).Finds 2 t Y) : ∃ d, Y = held m c 2 t d :=
  finds_in m c 2 rfl (fun t t' h => by funext a; exact congrArg (fun n => Pipeline.Clip.of n _ _) (congrFun h a)) (fun t Y X h => by rwa [after_2] at h) t Y h
theorem finds_3 (c : Dev nD) (t : Fin cfg0.N) (Y) (h : (rdat m c).Finds 3 t Y) : ∃ d, Y = held m c 3 t d :=
  finds_in m c 3 rfl (fun t t' h => by funext a; exact congrArg (fun n => Pipeline.Clip.of n _ _) (congrFun h a)) (fun t Y X h => by rwa [after_3] at h) t Y h
theorem finds_4 (c : Dev nD) (t : Fin cfg0.N) (Y) (h : (rdat m c).Finds 4 t Y) : ∃ d, Y = held m c 4 t d :=
  finds_in m c 4 rfl (fun t t' h => by funext a; exact congrArg (fun n => Pipeline.Clip.of n _ _) (congrFun h a)) (fun t Y X h => by rwa [after_4] at h) t Y h
theorem finds_5 (c : Dev nD) (t : Fin cfg0.N) (Y) (h : (rdat m c).Finds 5 t Y) : ∃ d, Y = held m c 5 t d :=
  finds_in m c 5 rfl (fun t t' h => by funext a; exact congrArg (fun n => Pipeline.Clip.of n _ _) (congrFun h a)) (fun t Y X h => by rwa [after_5] at h) t Y h
theorem finds_6 (c : Dev nD) (t : Fin cfg0.N) (Y) (h : (rdat m c).Finds 6 t Y) : ∃ d, Y = held m c 6 t d :=
  finds_in m c 6 rfl (fun t t' h => by funext a; exact congrArg (fun n => Pipeline.Clip.of n _ _) (congrFun h a)) (fun t Y X h => by rwa [after_6] at h) t Y h

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : (rdat (F := F) m c).BodyObligation (defs₀ (F := F)) Variants.none () Set.univ := fun t Y hY => by
  rw [bigSep_W0, bigSep_W0, defs₀_row]
  rw [show (rdat m c).Φ t.succ = (rdat m c).Φ t.castSucc from rfl,
    show (rdat m c).owesAt () t.succ = (rdat m c).owesAt () t.castSucc from rfl]
  obtain ⟨d0, h0⟩ := finds_0 m c t _ (hY 0)
  obtain ⟨d1, h1⟩ := finds_1 m c t _ (hY 1)
  obtain ⟨d2, h2⟩ := finds_2 m c t _ (hY 2)
  obtain ⟨d3, h3⟩ := finds_3 m c t _ (hY 3)
  obtain ⟨d4, h4⟩ := finds_4 m c t _ (hY 4)
  obtain ⟨d5, h5⟩ := finds_5 m c t _ (hY 5)
  obtain ⟨d6, h6⟩ := finds_6 m c t _ (hY 6)
  simp only [after_0, after_1, after_2, after_3, after_4, after_5, after_6, after_7]
  unfold bodyAt0
  iintro ⟨HΦ, Ho, H0, H1, H2, H3, H4, H5, H6, H7⟩
  iapply (sound_kernel c Set.univ (grid0.coords t) _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  exact ⟨d0, d1, d2, d3, d4, d5, d6, by rw [h0, h1, h2, h3, h4, h5, h6]⟩

/-! ## The run and the frame -/

set_option backward.isDefEq.respectTransparency.types false in
set_option maxHeartbeats 800000 in
/-- Every weakly fair execution ends with each array as the proof data say and every semaphore counter at zero. -/
theorem run : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hΦ := fun _ _ => rfl)
    (hQ' := fun _ h => h)

/-- The arguments end as they were. -/
theorem args_unchanged {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   ((h c).2 main_arg3 (by decide)).trans (V_main_arg3 m c),
   (RDat.FramePost.arr_in h c 4 rfl).trans ((A_eq m c 4).trans (V_main_arg4 m c)),
   (RDat.FramePost.arr_in h c 5 rfl).trans ((A_eq m c 5).trans (V_main_arg5 m c)),
   (RDat.FramePost.arr_in h c 6 rfl).trans ((A_eq m c 6).trans (V_main_arg6 m c))⟩

/-- The frame: the program runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_unchanged m h.1, h.2⟩) (run m ρ)

end Cert.Down.Hand

end
-- ==== Proof.DownIdealRun.lean ====
/- The `DownIdeal` program's run. One grid point handles one block of 256 output columns: from the blocks staged for it the
   kernel writes, batch by batch, `r + (t6[5] + table[5]) * ((hc · w) * scale * s)`. The 252 token rows are staged in blocks of
   256, so each staged block carries, past the array's edge, words that nothing states; the proof data are therefore a
   relation: the output block is the body's function of the input blocks WITH SOME contents past the edge. -/
module

public import proofs.«01_k».proof.Proof.Gen.DownIdeal.Frame
public import proofs.«01_k».proof.Proof.Gen.DownIdeal.Skeleton
public import Idealize.ShloMosaic.Lib.Pipeline.ArrRel

@[expose] public section

set_option maxRecDepth 16384

noncomputable section

namespace Cert.DownIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.DownIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body writes -/

/-- Batch `b`'s slab of the output block, from that batch's slabs of the inputs. -/
def slab (g : Vec F S1x1x256 .f32) (tb : Vec F S1x256 .f32) (sc : Vec F S1x256x128 .f32) (h : Vec F S1x256x5600 .fp8e4m3)
    (w : Vec F S5600x256 .fp8e4m3) (s : Vec F S1x256 .f32) (r : Vec F S1x256x256 .f32) : Vec F S1x256x256 .bf16 :=
  shapeCast S1x256x256 (k0_pay13 g tb sc h w s r) shapeCasts_S256x256_S1x256x256

/-- The output block, from the input blocks: its five slabs, last written first. -/
def out (x0 : Vec F S5x256x5600 .fp8e4m3) (x1 : Vec F S5x256x128 .f32) (x2 : Vec F S5600x256 .fp8e4m3) (x3 : Vec F S1x256 .f32)
    (x4 : Vec F S5x6x256 .f32) (x5 : Vec F S6x256 .f32) (x6 : Vec F S5x256x256 .f32) : Vec F S5x256x256 .bf16 :=
  View.canon
    [⟨Rect.unit (s := S5x256x256) ![4, 0, 0] S1x256x256.size inb_S5x256x256_S1x256x256_4_0_0, slab (View.ld x4 (Rect.unit (s := S5x6x256) ![4, 5, 0] S1x1x256.size inb_S5x6x256_S1x1x256_4_5_0)) (View.ld x5 (Rect.unit (s := S6x256) ![5, 0] S1x256.size inb_S6x256_S1x256_5_0)) (View.ld x1 (Rect.unit (s := S5x256x128) ![4, 0, 0] S1x256x128.size inb_S5x256x128_S1x256x128_4_0_0)) (View.ld x0 (Rect.unit (s := S5x256x5600) ![4, 0, 0] S1x256x5600.size inb_S5x256x5600_S1x256x5600_4_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![4, 0, 0] S1x256x256.size inb_S5x256x256_S1x256x256_4_0_0))⟩,
     ⟨Rect.unit (s := S5x256x256) ![3, 0, 0] S1x256x256.size inb_S5x256x256_S1x256x256_3_0_0, slab (View.ld x4 (Rect.unit (s := S5x6x256) ![3, 5, 0] S1x1x256.size inb_S5x6x256_S1x1x256_3_5_0)) (View.ld x5 (Rect.unit (s := S6x256) ![5, 0] S1x256.size inb_S6x256_S1x256_5_0)) (View.ld x1 (Rect.unit (s := S5x256x128) ![3, 0, 0] S1x256x128.size inb_S5x256x128_S1x256x128_3_0_0)) (View.ld x0 (Rect.unit (s := S5x256x5600) ![3, 0, 0] S1x256x5600.size inb_S5x256x5600_S1x256x5600_3_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![3, 0, 0] S1x256x256.size inb_S5x256x256_S1x256x256_3_0_0))⟩,
     ⟨Rect.unit (s := S5x256x256) ![2, 0, 0] S1x256x256.size inb_S5x256x256_S1x256x256_2_0_0, slab (View.ld x4 (Rect.unit (s := S5x6x256) ![2, 5, 0] S1x1x256.size inb_S5x6x256_S1x1x256_2_5_0)) (View.ld x5 (Rect.unit (s := S6x256) ![5, 0] S1x256.size inb_S6x256_S1x256_5_0)) (View.ld x1 (Rect.unit (s := S5x256x128) ![2, 0, 0] S1x256x128.size inb_S5x256x128_S1x256x128_2_0_0)) (View.ld x0 (Rect.unit (s := S5x256x5600) ![2, 0, 0] S1x256x5600.size inb_S5x256x5600_S1x256x5600_2_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![2, 0, 0] S1x256x256.size inb_S5x256x256_S1x256x256_2_0_0))⟩,
     ⟨Rect.unit (s := S5x256x256) ![1, 0, 0] S1x256x256.size inb_S5x256x256_S1x256x256_1_0_0, slab (View.ld x4 (Rect.unit (s := S5x6x256) ![1, 5, 0] S1x1x256.size inb_S5x6x256_S1x1x256_1_5_0)) (View.ld x5 (Rect.unit (s := S6x256) ![5, 0] S1x256.size inb_S6x256_S1x256_5_0)) (View.ld x1 (Rect.unit (s := S5x256x128) ![1, 0, 0] S1x256x128.size inb_S5x256x128_S1x256x128_1_0_0)) (View.ld x0 (Rect.unit (s := S5x256x5600) ![1, 0, 0] S1x256x5600.size inb_S5x256x5600_S1x256x5600_1_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![1, 0, 0] S1x256x256.size inb_S5x256x256_S1x256x256_1_0_0))⟩,
     ⟨Rect.unit (s := S5x256x256) ![0, 0, 0] S1x256x256.size inb_S5x256x256_S1x256x256_0_0_0, slab (View.ld x4 (Rect.unit (s := S5x6x256) ![0, 5, 0] S1x1x256.size inb_S5x6x256_S1x1x256_0_5_0)) (View.ld x5 (Rect.unit (s := S6x256) ![5, 0] S1x256.size inb_S6x256_S1x256_5_0)) (View.ld x1 (Rect.unit (s := S5x256x128) ![0, 0, 0] S1x256x128.size inb_S5x256x128_S1x256x128_0_0_0)) (View.ld x0 (Rect.unit (s := S5x256x5600) ![0, 0, 0] S1x256x5600.size inb_S5x256x5600_S1x256x5600_0_0_0)) (View.ld x2 (Rect.unit (s := S5600x256) ![0, 0] S5600x256.size inb_S5600x256_S5600x256_0_0)) (View.ld x3 (Rect.unit (s := S1x256) ![0, 0] S1x256.size inb_S1x256_S1x256_0_0)) (View.ld x6 (Rect.unit (s := S5x256x256) ![0, 0, 0] S1x256x256.size inb_S5x256x256_S1x256x256_0_0_0))⟩]

/-- The five slabs tile the block. -/
theorem cover (p0 p1 p2 p3 p4 : Vec F S1x256x256 .bf16) (y : S5x256x256.Idx) :
    ∃ pc ∈ ([⟨Rect.unit (s := S5x256x256) ![4, 0, 0] S1x256x256.size inb_S5x256x256_S1x256x256_4_0_0, p4⟩, ⟨Rect.unit (s := S5x256x256) ![3, 0, 0] S1x256x256.size inb_S5x256x256_S1x256x256_3_0_0, p3⟩, ⟨Rect.unit (s := S5x256x256) ![2, 0, 0] S1x256x256.size inb_S5x256x256_S1x256x256_2_0_0, p2⟩, ⟨Rect.unit (s := S5x256x256) ![1, 0, 0] S1x256x256.size inb_S5x256x256_S1x256x256_1_0_0, p1⟩, ⟨Rect.unit (s := S5x256x256) ![0, 0, 0] S1x256x256.size inb_S5x256x256_S1x256x256_0_0_0, p0⟩] : List (View.Piece (Elt F) S5x256x256 .bf16)), y ∈ pc.1.set :=
  View.cover_of_tiled [⟨Rect.unit (s := S5x256x256) ![4, 0, 0] S1x256x256.size inb_S5x256x256_S1x256x256_4_0_0, p4⟩, ⟨Rect.unit (s := S5x256x256) ![3, 0, 0] S1x256x256.size inb_S5x256x256_S1x256x256_3_0_0, p3⟩, ⟨Rect.unit (s := S5x256x256) ![2, 0, 0] S1x256x256.size inb_S5x256x256_S1x256x256_2_0_0, p2⟩, ⟨Rect.unit (s := S5x256x256) ![1, 0, 0] S1x256x256.size inb_S5x256x256_S1x256x256_1_0_0, p1⟩, ⟨Rect.unit (s := S5x256x256) ![0, 0, 0] S1x256x256.size inb_S5x256x256_S1x256x256_0_0_0, p0⟩] S1x256x256.size (by rfl) y

set_option maxHeartbeats 2000000 in
/-- The body on whole staging buffers: the inputs are left as they were, the output ends at `out` of them. -/
theorem sound_kernel (c : Dev nD) (E : Set ℕ) (i : grid0.Coords) (arg0 : Memref sig .tc .vmem S5x256x5600 .fp8e4m3) (harg0 : arg0.IsWhole) (arg1 : Memref sig .tc .vmem S5x256x128 .f32) (harg1 : arg1.IsWhole) (arg2 : Memref sig .tc .vmem S5600x256 .fp8e4m3) (harg2 : arg2.IsWhole) (arg3 : Memref sig .tc .vmem S1x256 .f32) (harg3 : arg3.IsWhole) (arg4 : Memref sig .tc .vmem S5x6x256 .f32) (harg4 : arg4.IsWhole) (arg5 : Memref sig .tc .vmem S6x256 .f32) (harg5 : arg5.IsWhole) (arg6 : Memref sig .tc .vmem S5x256x256 .f32) (harg6 : arg6.IsWhole) (arg7 : Memref sig .tc .vmem S5x256x256 .bf16) (harg7 : arg7.IsWhole)
    (x0 : Vec F S5x256x5600 .fp8e4m3) (x1 : Vec F S5x256x128 .f32) (x2 : Vec F S5600x256 .fp8e4m3) (x3 : Vec F S1x256 .f32)
    (x4 : Vec F S5x6x256 .f32) (x5 : Vec F S6x256 .f32) (x6 : Vec F S5x256x256 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out x0 x1 x2 x3 x4 x5 x6)) -∗ K ⟨⟩))
      ⊢ wp frame (wpE (defs₀ (F := F)) Variants.none c none) E (cc0_ffn_down i arg0 harg0 arg1 harg1 arg2 harg2 arg3 harg3 arg4 harg4 arg5 harg5 arg6 harg6 arg7 harg7) K := by
  simp only [cc0_ffn_down_eq_skeleton]; unfold cc0_ffn_down_skel
  simp only [k0_part1_eq_skeleton, k0_part2_eq_skeleton, k0_part3_eq_skeleton, k0_part4_eq_skeleton]
  unfold k0_part1_skel k0_part2_skel k0_part3_skel k0_part4_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover _ _ _ _ _)

/-! ## The pipeline's proof data -/

/-- Window `w`'s staging buffer at point `t`, fetched over contents `d`: the block inside the array, `d` past its edge. -/
def held (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The proof data: each input's buffer is left as found; the output's is `out` of the fetched blocks over SOME contents
    past the arrays' edges. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => ∃ d0 d1 d2 d3 d4 d5 d6, X = out (held m c 0 t d0) (held m c 1 t d1) (held m c 2 t d2) (held m c 3 t d3) (held m c 4 t d4) (held m c 5 t d5) (held m c 6 t d6)
  Φ _ := Pipeline.ΦA spec0 c
  q _ := fullShare
  owed _ := 0

theorem A_eq (c : Dev nD) (w : Fin cfg0.W) : (rdat m c).A w = V m c (Pipeline.arrRef spec0 w) := by
  dsimp only [rdat]

theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = Y) := by dsimp only [rdat]
theorem after_5 (c : Dev nD) (t : Fin cfg0.N) (Y X) : (rdat m c).after 5 t Y X = (X = Y) := by dsimp only [rdat]
theorem after_6 (c : Dev nD) (t : Fin cfg0.N) (Y X) : (rdat m c).after 6 t Y X = (X = Y) := by dsimp only [rdat]
theorem after_7 (c : Dev nD) (t : Fin cfg0.N) (Y X) : (rdat m c).after 7 t Y X = ∃ d0 d1 d2 d3 d4 d5 d6, X = out (held m c 0 t d0) (held m c 1 t d1) (held m c 2 t d2) (held m c 3 t d3) (held m c 4 t d4) (held m c 5 t d5) (held m c 6 t d6) := by dsimp only [rdat]

/-- What a fetch fills a buffer with, read off the region-entry contents. -/
theorem fetched_eq (c : Dev nD) (w : Fin cfg0.W) (t : Fin cfg0.N) (d) : (rdat m c).fetched w t d = held m c w t d := by
  unfold RDat.fetched RDat.blockOf held iblk
  rw [A_eq]

/-- An input window's buffer holds, at every point, its block over some contents past the edge. -/
theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) :
    ∃ d, Y = held m c w t d := by
  obtain ⟨d, hd⟩ := RDat.finds_in_eq_fetched (rdat m c) w hw hclip hkeep t Y h
  exact ⟨d, hd.trans (fetched_eq m c w t d)⟩

theorem finds_0 (c : Dev nD) (t : Fin cfg0.N) (Y) (h : (rdat m c).Finds 0 t Y) : ∃ d, Y = held m c 0 t d :=
  finds_in m c 0 rfl (fun t t' h => by funext a; exact congrArg (fun n => Pipeline.Clip.of n _ _) (congrFun h a)) (fun t Y X h => by rwa [after_0] at h) t Y h
theorem finds_1 (c : Dev nD) (t : Fin cfg0.N) (Y) (h : (rdat m c).Finds 1 t Y) : ∃ d, Y = held m c 1 t d :=
  finds_in m c 1 rfl (fun _ _ _ => rfl) (fun t Y X h => by rwa [after_1] at h) t Y h
theorem finds_2 (c : Dev nD) (t : Fin cfg0.N) (Y) (h : (rdat m c).Finds 2 t Y) : ∃ d, Y = held m c 2 t d :=
  finds_in m c 2 rfl (fun t t' h => by funext a; exact congrArg (fun n => Pipeline.Clip.of n _ _) (congrFun h a)) (fun t Y X h => by rwa [after_2] at h) t Y h
theorem finds_3 (c : Dev nD) (t : Fin cfg0.N) (Y) (h : (rdat m c).Finds 3 t Y) : ∃ d, Y = held m c 3 t d :=
  finds_in m c 3 rfl (fun t t' h => by funext a; exact congrArg (fun n => Pipeline.Clip.of n _ _) (congrFun h a)) (fun t Y X h => by rwa [after_3] at h) t Y h
theorem finds_4 (c : Dev nD) (t : Fin cfg0.N) (Y) (h : (rdat m c).Finds 4 t Y) : ∃ d, Y = held m c 4 t d :=
  finds_in m c 4 rfl (fun t t' h => by funext a; exact congrArg (fun n => Pipeline.Clip.of n _ _) (congrFun h a)) (fun t Y X h => by rwa [after_4] at h) t Y h
theorem finds_5 (c : Dev nD) (t : Fin cfg0.N) (Y) (h : (rdat m c).Finds 5 t Y) : ∃ d, Y = held m c 5 t d :=
  finds_in m c 5 rfl (fun t t' h => by funext a; exact congrArg (fun n => Pipeline.Clip.of n _ _) (congrFun h a)) (fun t Y X h => by rwa [after_5] at h) t Y h
theorem finds_6 (c : Dev nD) (t : Fin cfg0.N) (Y) (h : (rdat m c).Finds 6 t Y) : ∃ d, Y = held m c 6 t d :=
  finds_in m c 6 rfl (fun t t' h => by funext a; exact congrArg (fun n => Pipeline.Clip.of n _ _) (congrFun h a)) (fun t Y X h => by rwa [after_6] at h) t Y h

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 1000000 in
theorem body_obligation (c : Dev nD) : (rdat (F := F) m c).BodyObligation (defs₀ (F := F)) Variants.none () Set.univ := fun t Y hY => by
  rw [bigSep_W0, bigSep_W0, defs₀_row]
  rw [show (rdat m c).Φ t.succ = (rdat m c).Φ t.castSucc from rfl,
    show (rdat m c).owesAt () t.succ = (rdat m c).owesAt () t.castSucc from rfl]
  obtain ⟨d0, h0⟩ := finds_0 m c t _ (hY 0)
  obtain ⟨d1, h1⟩ := finds_1 m c t _ (hY 1)
  obtain ⟨d2, h2⟩ := finds_2 m c t _ (hY 2)
  obtain ⟨d3, h3⟩ := finds_3 m c t _ (hY 3)
  obtain ⟨d4, h4⟩ := finds_4 m c t _ (hY 4)
  obtain ⟨d5, h5⟩ := finds_5 m c t _ (hY 5)
  obtain ⟨d6, h6⟩ := finds_6 m c t _ (hY 6)
  simp only [after_0, after_1, after_2, after_3, after_4, after_5, after_6, after_7]
  unfold bodyAt0
  iintro ⟨HΦ, Ho, H0, H1, H2, H3, H4, H5, H6, H7⟩
  iapply (sound_kernel c Set.univ (grid0.coords t) _ _ _ _ _ _ _ _ _ _ _ _ _ _ _ _ (Y 0) (Y 1) (Y 2) (Y 3) (Y 4) (Y 5) (Y 6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexists _; isplitr; swap; · iexact H0
                  ipureintro; rfl
  isplitl [H1]; · iexists _; isplitr; swap; · iexact H1
                  ipureintro; rfl
  isplitl [H2]; · iexists _; isplitr; swap; · iexact H2
                  ipureintro; rfl
  isplitl [H3]; · iexists _; isplitr; swap; · iexact H3
                  ipureintro; rfl
  isplitl [H4]; · iexists _; isplitr; swap; · iexact H4
                  ipureintro; rfl
  isplitl [H5]; · iexists _; isplitr; swap; · iexact H5
                  ipureintro; rfl
  isplitl [H6]; · iexists _; isplitr; swap; · iexact H6
                  ipureintro; rfl
  iexists _; isplitr; swap; · iexact H7
  ipureintro
  exact ⟨d0, d1, d2, d3, d4, d5, d6, by rw [h0, h1, h2, h3, h4, h5, h6]⟩

/-! ## The run and the frame -/

set_option backward.isDefEq.respectTransparency.types false in
set_option maxHeartbeats 800000 in
/-- Every weakly fair execution ends with each array as the proof data say and every semaphore counter at zero. -/
theorem run : θ_run defs (onTc (τ := τ) (main (F := F))) (s₀ m ρ) (fun r => RDat.FramePost cfg0 (rdat m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := A_eq m) (hΦ := fun _ _ => rfl)
    (hQ' := fun _ h => h)

/-- The arguments end as they were. -/
theorem args_unchanged {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨(RDat.FramePost.arr_in h c 0 rfl).trans ((A_eq m c 0).trans (V_main_arg0 m c)),
   (RDat.FramePost.arr_in h c 1 rfl).trans ((A_eq m c 1).trans (V_main_arg1 m c)),
   (RDat.FramePost.arr_in h c 2 rfl).trans ((A_eq m c 2).trans (V_main_arg2 m c)),
   ((h c).2 main_arg3 (by decide)).trans (V_main_arg3 m c),
   (RDat.FramePost.arr_in h c 4 rfl).trans ((A_eq m c 4).trans (V_main_arg4 m c)),
   (RDat.FramePost.arr_in h c 5 rfl).trans ((A_eq m c 5).trans (V_main_arg5 m c)),
   (RDat.FramePost.arr_in h c 6 rfl).trans ((A_eq m c 6).trans (V_main_arg6 m c))⟩

/-- The frame: the program runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_unchanged m h.1, h.2⟩) (run m ρ)

end Cert.DownIdeal.Hand

end
-- ==== Proof.DownIdealValue.lean ====
/- What the `DownIdeal` program computes: the result array, element by element. -/
module

public import proofs.«01_k».proof.Proof.DownIdealRun
public import Idealize.ShloMosaic.Lib.Pointwise
public import Idealize.ShloMosaic.Lib.Pipeline.ValueKit
public import Idealize.ShloMosaic.Lib.Claim

@[expose] public section

set_option maxRecDepth 16384

noncomputable section

namespace Cert.DownIdeal.Hand

open Idealize.ShloMosaic Idealize.ShloMosaic.TcCoe Idealize.ShloMosaic.Tactic
open Idealize.SL Idealize.SL.RA Idealize.SL.Sem
open Idealize.ShloMosaic.Pipeline (RDat Dat Cfg Window cellOf)
open Cert.DownIdeal.Gen

/-! ## One slab, one element -/

/-- A slab at an index: the kernel's formula on that batch's slabs. -/
theorem slab_apply (g : Vec Ideal S1x1x256 .f32) (tb : Vec Ideal S1x256 .f32) (sc : Vec Ideal S1x256x128 .f32) (h : Vec Ideal S1x256x5600 .fp8e4m3)
    (w : Vec Ideal S5600x256 .fp8e4m3) (s : Vec Ideal S1x256 .f32) (r : Vec Ideal S1x256x256 .f32) (z : Fin 1) (a n : Fin 256) :
    slab g tb sc h w s r (ix3 z a n)
      = r (ix3 0 a n) + (g (ix3 0 0 n) + tb (ix2 0 n)) * ((∑ k : Fin 5600, h (ix3 0 a k) * w (ix2 k n)) * sc (ix3 0 a 0) * s (ix2 0 n)) := by
  pointwise [slab, k0_pay13]

/-- The kernel's formula on whole blocks. -/
def blockFn (x0 : Vec Ideal S5x256x5600 .fp8e4m3) (x1 : Vec Ideal S5x256x128 .f32) (x2 : Vec Ideal S5600x256 .fp8e4m3) (x3 : Vec Ideal S1x256 .f32)
    (x4 : Vec Ideal S5x6x256 .f32) (x5 : Vec Ideal S6x256 .f32) (x6 : Vec Ideal S5x256x256 .f32) (b : Fin 5) (a n : Fin 256) : Ideal .bf16 :=
  x6 (ix3 b a n) + (x4 (ix3 b 5 n) + x5 (ix2 5 n)) * ((∑ k : Fin 5600, x0 (ix3 b a k) * x2 (ix2 k n)) * x1 (ix3 b a 0) * x3 (ix2 0 n))

/-- The same as a block. -/
def outFn (x0 : Vec Ideal S5x256x5600 .fp8e4m3) (x1 : Vec Ideal S5x256x128 .f32) (x2 : Vec Ideal S5600x256 .fp8e4m3) (x3 : Vec Ideal S1x256 .f32)
    (x4 : Vec Ideal S5x6x256 .f32) (x5 : Vec Ideal S6x256 .f32) (x6 : Vec Ideal S5x256x256 .f32) : Vec Ideal S5x256x256 .bf16 :=
  fun y => blockFn x0 x1 x2 x3 x4 x5 x6 (y 0) (y 1) (y 2)

/-- Batch `b`'s slab lies at batch `b` of the block. -/
theorem emb_slab {o : ℕ} (b : Fin 5) (h : o = b.val) {inb} (z : Fin 1) (a n : Fin 256) :
    (Rect.unit (s := S5x256x256) ![o, 0, 0] S1x256x256.size inb).emb (ix3 z a n) = ix3 b a n := by
  subst h
  funext k
  apply Fin.ext
  rw [Rect.emb_apply]
  match k with
  | ⟨0, _⟩ => show b.val + 1 * z.val = b.val; omega
  | ⟨1, _⟩ => show 0 + 1 * a.val = a.val; omega
  | ⟨2, _⟩ => show 0 + 1 * n.val = n.val; omega

/-- The output block is the kernel's formula. -/
theorem out_eq (x0 : Vec Ideal S5x256x5600 .fp8e4m3) (x1 : Vec Ideal S5x256x128 .f32) (x2 : Vec Ideal S5600x256 .fp8e4m3) (x3 : Vec Ideal S1x256 .f32)
    (x4 : Vec Ideal S5x6x256 .f32) (x5 : Vec Ideal S6x256 .f32) (x6 : Vec Ideal S5x256x256 .f32) :
    out x0 x1 x2 x3 x4 x5 x6 = outFn x0 x1 x2 x3 x4 x5 x6 := by
  funext y
  unfold out
  refine View.canon_apply_of_pieces (outFn x0 x1 x2 x3 x4 x5 x6) _ ?_ y (cover _ _ _ _ _ y)
  intro p hp x
  simp only [List.mem_cons, List.not_mem_nil, or_false] at hp
  obtain ⟨z, a, n, hx⟩ : ∃ (z : Fin 1) (a n : Fin 256), HEq x (ix3 z a n) := by
    rcases hp with rfl | rfl | rfl | rfl | rfl <;> exact ⟨x 0, x 1, x 2, heq_of_eq (eq_ix3 x)⟩
  rcases hp with rfl | rfl | rfl | rfl | rfl <;> obtain rfl := eq_of_heq hx
  · refine Eq.trans ?_ (congrArg (outFn x0 x1 x2 x3 x4 x5 x6) (emb_slab (o := 4) (inb := inb_S5x256x256_S1x256x256_4_0_0) 4 rfl z a n)).symm
    refine (slab_apply _ _ _ _ _ _ _ z a n).trans ?_
    pointwise [outFn, blockFn]
  · refine Eq.trans ?_ (congrArg (outFn x0 x1 x2 x3 x4 x5 x6) (emb_slab (o := 3) (inb := inb_S5x256x256_S1x256x256_3_0_0) 3 rfl z a n)).symm
    refine (slab_apply _ _ _ _ _ _ _ z a n).trans ?_
    pointwise [outFn, blockFn]
  · refine Eq.trans ?_ (congrArg (outFn x0 x1 x2 x3 x4 x5 x6) (emb_slab (o := 2) (inb := inb_S5x256x256_S1x256x256_2_0_0) 2 rfl z a n)).symm
    refine (slab_apply _ _ _ _ _ _ _ z a n).trans ?_
    pointwise [outFn, blockFn]
  · refine Eq.trans ?_ (congrArg (outFn x0 x1 x2 x3 x4 x5 x6) (emb_slab (o := 1) (inb := inb_S5x256x256_S1x256x256_1_0_0) 1 rfl z a n)).symm
    refine (slab_apply _ _ _ _ _ _ _ z a n).trans ?_
    pointwise [outFn, blockFn]
  · refine Eq.trans ?_ (congrArg (outFn x0 x1 x2 x3 x4 x5 x6) (emb_slab (o := 0) (inb := inb_S5x256x256_S1x256x256_0_0_0) 0 rfl z a n)).symm
    refine (slab_apply _ _ _ _ _ _ _ z a n).trans ?_
    pointwise [outFn, blockFn]

/-! ## The staged blocks, inside the arrays -/

variable (m : (ℓ : Loc nD τ sig) → Buf (Elt Ideal) ℓ) (ρ : Dev nD → PrngReg)

/-- Which rows and columns of a block lie inside its array. -/
theorem xsize_eq : ∀ t : Fin cfg0.N,
    win0_0.xsize (grid0.coords t) = ![5, 252, 5600] ∧ win0_1.xsize (grid0.coords t) = ![5, 256, 128]
    ∧ win0_2.xsize (grid0.coords t) = ![5600, min 256 (2240 - 256 * t.val)] ∧ win0_3.xsize (grid0.coords t) = ![1, min 256 (2240 - 256 * t.val)]
    ∧ win0_4.xsize (grid0.coords t) = ![5, 6, min 256 (2240 - 256 * t.val)] ∧ win0_5.xsize (grid0.coords t) = ![6, min 256 (2240 - 256 * t.val)]
    ∧ win0_6.xsize (grid0.coords t) = ![5, 256, min 256 (2240 - 256 * t.val)] ∧ win0_7.xsize (grid0.coords t) = ![5, 252, min 256 (2240 - 256 * t.val)] := by
  decide +kernel

/-- Where a block lies: the column windows at 256 columns a point. -/
theorem index_eq : ∀ t : Fin cfg0.N,
    win0_0.index t = ![0, 0, 0] ∧ win0_1.index t = ![0, 0, 0]
    ∧ win0_2.index t = ![0, t.val] ∧ win0_3.index t = ![0, t.val]
    ∧ win0_4.index t = ![0, 0, t.val] ∧ win0_5.index t = ![0, t.val]
    ∧ win0_6.index t = ![0, 0, t.val] ∧ win0_7.index t = ![0, 0, t.val] := by
  decide +kernel

theorem held_moved (c : Dev nD) (w : Fin cfg0.W) (t : Fin cfg0.N) (d) (j : (cfg0.win w).block.Idx)
    (h : ∀ a, (j a).val < (cfg0.win w).xsize (cfg0.grid.coords t) a) :
    held m c w t d j = iblk m c w t fun a => ⟨(j a).val, h a⟩ := by
  unfold held Window.fill
  rw [dif_pos (((cfg0.win w).moved_iff _ j).mpr h)]

theorem held0 (c : Dev nD) (t : Fin cfg0.N) (d) (b : Fin 5) (a : Fin 252) (k : Fin 5600) :
    held m c 0 t d (ix3 b ⟨a.val, by omega⟩ k) = m ((c : Thread nD τ).loc main_arg0) (ix3 b a k) := by
  have hx := (xsize_eq t).1
  have hi := (index_eq t).1
  rw [held_moved m c 0 t d _ (fun q => by
    show _ < win0_0.xsize (grid0.coords t) q
    rw [hx]; fin_cases q <;> [exact b.isLt; exact a.isLt; exact k.isLt])]
  blk_ext [iblk, V_main_arg0, hi]

theorem held2 (c : Dev nD) (t : Fin cfg0.N) (d) (k : Fin 5600) (n : Fin 256) (h : 256 * t.val + n.val < 2240) :
    held m c 2 t d (ix2 k n) = m ((c : Thread nD τ).loc main_arg2) (ix2 k ⟨256 * t.val + n.val, h⟩) := by
  have hx := (xsize_eq t).2.2.1
  have hi := (index_eq t).2.2.1
  rw [held_moved m c 2 t d _ (fun q => by
    show _ < win0_2.xsize (grid0.coords t) q
    rw [hx]; fin_cases q <;> [exact k.isLt; exact lt_min n.isLt (show n.val < 2240 - 256 * t.val by omega)])]
  blk_ext [iblk, V_main_arg2, hi]

theorem held3 (c : Dev nD) (t : Fin cfg0.N) (d) (n : Fin 256) (h : 256 * t.val + n.val < 2240) :
    held m c 3 t d (ix2 0 n) = m ((c : Thread nD τ).loc main_arg3) (ix1 ⟨256 * t.val + n.val, h⟩) := by
  have hx := (xsize_eq t).2.2.2.1
  have hi := (index_eq t).2.2.2.1
  rw [held_moved m c 3 t d _ (fun q => by
    show _ < win0_3.xsize (grid0.coords t) q
    rw [hx]; fin_cases q <;> [exact Nat.one_pos; exact lt_min n.isLt (show n.val < 2240 - 256 * t.val by omega)])]
  blk_simp [iblk]
  entry_read
  pointwise
  blk_ext [hi]

theorem held1 (c : Dev nD) (t : Fin cfg0.N) (d) (b : Fin 5) (a : Fin 256) (l : Fin 128) :
    held m c 1 t d (ix3 b a l) = m ((c : Thread nD τ).loc main_arg1) (ix3 b a l) := by
  have hx := (xsize_eq t).2.1
  have hi := (index_eq t).2.1
  rw [held_moved m c 1 t d _ (fun q => by
    show _ < win0_1.xsize (grid0.coords t) q
    rw [hx]; fin_cases q <;> [exact b.isLt; exact a.isLt; exact l.isLt])]
  blk_ext [iblk, V_main_arg1, hi]

theorem held4 (c : Dev nD) (t : Fin cfg0.N) (d) (b : Fin 5) (r : Fin 6) (n : Fin 256) (h : 256 * t.val + n.val < 2240) :
    held m c 4 t d (ix3 b r n) = m ((c : Thread nD τ).loc main_arg4) (ix3 b r ⟨256 * t.val + n.val, h⟩) := by
  have hx := (xsize_eq t).2.2.2.2.1
  have hi := (index_eq t).2.2.2.2.1
  rw [held_moved m c 4 t d _ (fun q => by
    show _ < win0_4.xsize (grid0.coords t) q
    rw [hx]; fin_cases q <;> [exact b.isLt; exact r.isLt; exact lt_min n.isLt (show n.val < 2240 - 256 * t.val by omega)])]
  blk_ext [iblk, V_main_arg4, hi]

theorem held5 (c : Dev nD) (t : Fin cfg0.N) (d) (r : Fin 6) (n : Fin 256) (h : 256 * t.val + n.val < 2240) :
    held m c 5 t d (ix2 r n) = m ((c : Thread nD τ).loc main_arg5) (ix2 r ⟨256 * t.val + n.val, h⟩) := by
  have hx := (xsize_eq t).2.2.2.2.2.1
  have hi := (index_eq t).2.2.2.2.2.1
  rw [held_moved m c 5 t d _ (fun q => by
    show _ < win0_5.xsize (grid0.coords t) q
    rw [hx]; fin_cases q <;> [exact r.isLt; exact lt_min n.isLt (show n.val < 2240 - 256 * t.val by omega)])]
  blk_ext [iblk, V_main_arg5, hi]

theorem held6 (c : Dev nD) (t : Fin cfg0.N) (d) (b : Fin 5) (a n : Fin 256) (h : 256 * t.val + n.val < 2240) :
    held m c 6 t d (ix3 b a n) = m ((c : Thread nD τ).loc main_arg6) (ix3 b a ⟨256 * t.val + n.val, h⟩) := by
  have hx := (xsize_eq t).2.2.2.2.2.2.1
  have hi := (index_eq t).2.2.2.2.2.2.1
  rw [held_moved m c 6 t d _ (fun q => by
    show _ < win0_6.xsize (grid0.coords t) q
    rw [hx]; fin_cases q <;> [exact b.isLt; exact a.isLt; exact lt_min n.isLt (show n.val < 2240 - 256 * t.val by omega)])]
  blk_ext [iblk, V_main_arg6, hi]

/-! ## The result array -/

/-- The result, of the argument arrays: `r + (t6[5] + table[5]) * ((hg · w) * scale * s)`. -/
def result (hg : Vec Ideal S5x252x5600 .fp8e4m3) (sc : Vec Ideal S5x256x128 .f32) (w : Vec Ideal S5600x2240 .fp8e4m3) (s : Vec Ideal S2240 .f32)
    (t6 : Vec Ideal S5x6x2240 .f32) (tb : Vec Ideal S6x2240 .f32) (r : Vec Ideal S5x256x2240 .f32) : Vec Ideal S5x252x2240 .bf16 := fun i =>
  (r (ix3 (i 0) (Fin.castLE (by decide) (i 1)) (i 2)) : EReal) + (t6 (ix3 (i 0) 5 (i 2)) + tb (ix2 5 (i 2)))
    * ((∑ k : Fin 5600, hg (ix3 (i 0) (i 1) k) * w (ix2 k (i 2))) * sc (ix3 (i 0) (Fin.castLE (by decide) (i 1)) 0) * s (ix1 (i 2)))

/-- `result` of the arguments as launched on core `c`. -/
def resultOf (c : Dev nD) : Vec Ideal S5x252x2240 .bf16 :=
  result (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

/-- What a point writes back, at an index inside the array. -/
theorem point_eq (c : Dev nD) (t : Fin cfg0.N) (d0 d1 d2 d3 d4 d5 d6) (b : Fin 5) (a : Fin 252) (n : Fin 256) (h : 256 * t.val + n.val < 2240) :
    out (held m c 0 t d0) (held m c 1 t d1) (held m c 2 t d2) (held m c 3 t d3) (held m c 4 t d4) (held m c 5 t d5) (held m c 6 t d6)
        (ix3 b ⟨a.val, by omega⟩ n)
      = resultOf m c (ix3 b a ⟨256 * t.val + n.val, h⟩) := by
  rw [out_eq]
  show blockFn _ _ _ _ _ _ _ b ⟨a.val, _⟩ n = _
  unfold blockFn
  rw [held1, held3 m c t d3 n h, held4 m c t d4 b 5 n h, held5 m c t d5 5 n h, held6 m c t d6 b _ n h]
  simp only [held0, fun k => held2 m c t d2 k n h]
  rfl

theorem final (r : PUnit.{1} × MemSt nD τ sig (Elt Ideal)) (h : RDat.FramePost cfg0 (rdat m) (V m) r) (c : Dev nD) :
    r.2.mem ((c : Thread nD τ).loc main_v1) = resultOf m c := by
  obtain ⟨after, hL, hA⟩ := RDat.FramePost.exists_exact h c
  refine (hA 7).trans ?_
  refine Dat.arrAt_eq_of_covers ((rdat m c).withAfter after) 7 (resultOf m c) (by decide +kernel) fun t hf y => ?_
  obtain ⟨Y, -, hY⟩ := hL 7 t hf
  rw [after_7] at hY
  obtain ⟨d0, d1, d2, d3, d4, d5, d6, hY⟩ := hY
  rw [RDat.withAfter_after, hY]
  blk_simp
  have hx := (xsize_eq t).2.2.2.2.2.2.2
  have hi := (index_eq t).2.2.2.2.2.2.2
  have h1 : (y 1).val < 252 := by have := (y 1).isLt; have e := congrFun hx 1; exact this.trans_eq e
  have h2 : (y 2).val < min 256 (2240 - 256 * t.val) := by have := (y 2).isLt; have e := congrFun hx 2; exact this.trans_eq e
  have h0 : (y 0).val < 5 := by have := (y 0).isLt; have e := congrFun hx 0; exact this.trans_eq e
  have ht : t.val < 9 := t.isLt
  have hn : 256 * t.val + (y 2).val < 2240 := by omega
  have p := point_eq m c t d0 d1 d2 d3 d4 d5 d6 ⟨(y 0).val, h0⟩ ⟨(y 1).val, h1⟩ ⟨(y 2).val, by omega⟩ hn
  revert p
  generalize out (held m c 0 t d0) (held m c 1 t d1) (held m c 2 t d2) (held m c 3 t d3) (held m c 4 t d4) (held m c 5 t d5) (held m c 6 t d6) = O
  generalize resultOf m c = R
  intro p
  have e1 : (cfg0.win 7).xinj (cfg0.grid.coords t) y = (ix3 (⟨(y 0).val, h0⟩ : Fin 5) (⟨(y 1).val, by omega⟩ : Fin 256) (⟨(y 2).val, by omega⟩ : Fin 256) : S5x256x256.Idx) := by
    funext q; apply Fin.ext; fin_cases q <;> rfl
  have e2 : (win0_7.blk t).view.emb y = (ix3 (⟨(y 0).val, h0⟩ : Fin 5) (⟨(y 1).val, h1⟩ : Fin 252) (⟨256 * t.val + (y 2).val, hn⟩ : Fin 2240) : S5x252x2240.Idx) := by
    blk_ext [hi]
  rw [e1, e2]
  exact p

end Cert.DownIdeal.Hand

end
-- ==== Proof.DownEquation.lean ====
/- The reference of the down projection, element by element, is what the kernel computes. -/
module

public import proofs.«01_k».proof.Proof.DownIdealValue
public import proofs.«01_k».proof.Proof.Gen.RDownIdeal.Value

@[expose] public section

set_option maxRecDepth 16384

noncomputable section

namespace Cert.DownEquation

open Idealize.ShloMosaic Idealize.ShloMosaic.TcCoe

/-- The reference's whole-array function is the kernel's `result`. -/
theorem reference_eq (hg : Vec Ideal Cert.DownIdeal.S5x252x5600 .fp8e4m3) (sc : Vec Ideal Cert.DownIdeal.S5x256x128 .f32)
    (w : Vec Ideal Cert.DownIdeal.S5600x2240 .fp8e4m3) (s : Vec Ideal Cert.DownIdeal.S2240 .f32) (t6 : Vec Ideal Cert.DownIdeal.S5x6x2240 .f32)
    (tb : Vec Ideal Cert.DownIdeal.S6x2240 .f32) (r : Vec Ideal Cert.DownIdeal.S5x256x2240 .f32) :
    Cert.RDownIdeal.Value.G7 (F := Ideal) hg sc w s t6 tb r = Cert.DownIdeal.Hand.result hg sc w s t6 tb r := by
  funext i
  obtain ⟨b, a, n, rfl⟩ : ∃ (b : Fin 5) (a : Fin 252) (n : Fin 2240), i = ix3 b a n := ⟨i 0, i 1, i 2, eq_ix3 i⟩
  unfold Cert.RDownIdeal.Value.G7
  pointwise [Cert.RDownIdeal.Gen.k0_pay1, Cert.DownIdeal.Hand.result]
  rfl

end Cert.DownEquation

end
-- ==== Proof.DownClaim.lean ====
/- The equation of the down projection: the `DownIdeal` program and the `RDownIdeal` program leave the same array. -/
module

public import proofs.«01_k».proof.Defs
public import proofs.«01_k».proof.Proof.DownEquation

@[expose] public section

noncomputable section

namespace Cert.DownEquation

open Idealize.ShloMosaic Idealize.SL.Sem

theorem result_congr {a0 b0 : Vec Ideal Cert.DownIdeal.S5x252x5600 .fp8e4m3} {a1 b1 : Vec Ideal Cert.DownIdeal.S5x256x128 .f32}
    {a2 b2 : Vec Ideal Cert.DownIdeal.S5600x2240 .fp8e4m3} {a3 b3 : Vec Ideal Cert.DownIdeal.S2240 .f32} {a4 b4 : Vec Ideal Cert.DownIdeal.S5x6x2240 .f32}
    {a5 b5 : Vec Ideal Cert.DownIdeal.S6x2240 .f32} {a6 b6 : Vec Ideal Cert.DownIdeal.S5x256x2240 .f32}
    (h0 : a0 = b0) (h1 : a1 = b1) (h2 : a2 = b2) (h3 : a3 = b3) (h4 : a4 = b4) (h5 : a5 = b5) (h6 : a6 = b6) :
    Cert.DownIdeal.Hand.result a0 a1 a2 a3 a4 a5 a6 = Cert.DownIdeal.Hand.result b0 b1 b2 b3 b4 b5 b6 := by
  subst h0 h1 h2 h3 h4 h5 h6; rfl

/-- Both programs leave `result` of the arguments, and the arguments as they were. -/
theorem algebraic : Cert.algebraic_DownIdeal_RDownIdeal (hDownIdeal := Cert.DownIdeal.Gen.facts) (hRDownIdeal := Cert.RDownIdeal.Gen.facts) := by
  intro m g m' g' _ hargs
  refine ⟨fun c => Cert.DownIdeal.Hand.resultOf m c, ?_, ?_⟩
  · refine (θ_run _ _ _).mono (fun r h c => ?_) (Cert.DownIdeal.Hand.run m g)
    exact ⟨Cert.DownIdeal.Hand.final m r h.1 c, Cert.DownIdeal.Hand.args_unchanged m h.1 c⟩
  · refine (θ_run _ _ _).mono (fun r h c => ?_) (Cert.RDownIdeal.Value.run m' g')
    obtain ⟨h0, h1, h2, h3, h4, h5, h6⟩ := hargs c
    obtain ⟨hv, hrest⟩ := h c
    refine ⟨hv.trans ((reference_eq _ _ _ _ _ _ _).trans ?_), hrest⟩
    exact result_congr h0 h1 h2 h3 h4 h5 h6

end Cert.DownEquation

end
-- ==== Proof.UpIdealModel.lean ====
/- One grid point of the `UpIdeal` program, as functions of the vectors it loads. A point handles one tile of 256 value columns
   and the 256 gate columns that go with them, batch by batch and in halves of 128 columns: the product with the weights,
   the first activation (rounded to bf16, rows past the 252nd set to zero), the nine taps of the 3x3 convolution read back
   from a scratch whose rows are padded with zeros, the gating, and the running maximum of the absolute values. -/
module

public import proofs.«01_k».proof.Proof.Gen.UpIdeal.Frame
public import proofs.«01_k».proof.Proof.Gen.UpIdeal.Skeleton
public import Idealize.ShloMosaic.Lib.Pipeline.ArrRel

@[expose] public section

set_option maxRecDepth 16384

noncomputable section

namespace Cert.UpIdeal.Hand

open Idealize.ShloMosaic Idealize.ShloMosaic.TcCoe Idealize.ShloMosaic.Tactic
open Cert.UpIdeal.Gen

variable {F : FTy → Type} [FloatOps F]

/-! ## Slices -/

theorem sl1 : ∀ t : Fin 2, S1x256.Slices ![0, 128 * t.val] S1x128 := by decide
theorem sl9 : ∀ (r : Fin 9) (t : Fin 2), S9x256.Slices ![r.val, 128 * t.val] S1x128 := by decide
theorem slh : ∀ t : Fin 2, S256x256.Slices ![0, 128 * t.val] S256x128 := by decide

/-- Row `r` of a nine-row table, half `t`, copied down the rows. -/
def row9 (d : Vec F S9x256 .f32) (r : Fin 9) (t : Fin 2) : Vec F S256x128 .f32 :=
  broadcastTo S256x128 (extractStridedSlice S1x128 ![r.val, 128 * t.val] d (sl9 r t)) broadcasts_S1x128_S256x128

/-- Half `t` of a row, halved and copied down the rows. -/
def halved (s : Vec F S1x256 .f32) (t : Fin 2) : Vec F S256x128 .f32 :=
  broadcastTo S256x128 (mulf (broadcast S1x128 (Scalar.ofBits .f32 0x3F000000#32)) (extractStridedSlice S1x128 ![0, 128 * t.val] s (sl1 t)))
    broadcasts_S1x128_S256x128

/-! ## The tiles -/

/-- The product with a block of weights. -/
def dot (xb : Vec F S1x256x2240 .fp8e4m3) (w : Vec F S2240x256 .fp8e4m3) : Vec F S256x256 .f32 :=
  matmul dot_S256x2240_S2240x256_S256x256_1_0_0_1_n_n none (shapeCast S256x2240 xb shapeCasts_S1x256x2240_S256x2240) w
    (constant S256x256 .f32 0x00000000#32)

/-- Half of the activation's argument: `(h * scale) * (s/2) + bias/2`. -/
def arg (h : Vec F S256x256 .f32) (sc : Vec F S1x256x128 .f32) (s bias : Vec F S1x256 .f32) (t : Fin 2) : Vec F S256x128 .f32 :=
  addf (mulf (mulf (extractStridedSlice S256x128 ![0, 128 * t.val] h (slh t)) (shapeCast S256x128 sc shapeCasts_S1x256x128_S256x128)) (halved s t))
    (halved bias t)

/-- `v + v * tanh v`. -/
def act (v : Vec F S256x128 .f32) : Vec F S256x128 .f32 := addf v (mulf v (tanh v))

/-- The first activation's tile: rounded to bf16, zero past row 252. -/
def hsTile (v : Vec F S256x128 .f32) : Vec F S1x1x256x128 .f32 :=
  shapeCast S1x1x256x128
    (select (cmpi .slt (iota .tc S256x128 32 [0] iota_S256x128_d0_w32) (broadcast S256x128 252#32))
      (extf .f32 (truncf .bf16 (act v) bitsLt_bf16_f32) bitsLt_bf16_f32) (broadcast S256x128 (Scalar.ofBits .f32 0x00000000#32)))
    shapeCasts_S256x128_S1x1x256x128

/-- One tap: nine-row table's row `r` times the shifted tile. -/
def tapMul (d : Vec F S9x256 .f32) (t : Fin 2) (ld : Fin 9 → Vec F S1x1x256x128 .f32) (r : Fin 9) : Vec F S256x128 .f32 :=
  mulf (shapeCast S256x128 (ld r) shapeCasts_S1x1x256x128_S256x128) (row9 d r t)

/-- The three taps of one column shift. -/
def taps (d : Vec F S9x256 .f32) (t : Fin 2) (ld : Fin 9 → Vec F S1x1x256x128 .f32) (r0 r1 r2 : Fin 9) : Vec F S256x128 .f32 :=
  addf (addf (tapMul d t ld r0) (tapMul d t ld r1)) (tapMul d t ld r2)

/-- The convolution's tile, from its nine shifted tiles: the taps to the left are masked in the first column of the 14x18
    patch, those to the right in the last. -/
def convTile (d : Vec F S9x256 .f32) (db : Vec F S1x256 .f32) (t : Fin 2) (ld : Fin 9 → Vec F S1x1x256x128 .f32) : Vec F S256x128 .f32 :=
  addf (addf (addf (mulf (taps d t ld 0 3 6) (k0_pay174 (F := F))) (taps d t ld 1 4 7)) (mulf (taps d t ld 2 5 8) (k0_pay175 (F := F))))
    (broadcastTo S256x128 (extractStridedSlice S1x128 ![0, 128 * t.val] db (sl1 t)) broadcasts_S1x128_S256x128)

/-- The gated tile: zero past lane 5600 of all the value columns and past row 252. -/
def hgTile (j : BitVec 32) (t : Fin 2) (a g : Vec F S256x128 .f32) : Vec F S256x128 .f32 :=
  select (andi
      (cmpi .slt (addi (addi (iota .tc S256x128 32 [1] iota_S256x128_d1_w32) (broadcast S256x128 (BitVec.ofNat 32 (128 * t.val))))
        (broadcast S256x128 (Scalar.muli j 256#32))) (broadcast S256x128 5600#32))
      (cmpi .slt (iota .tc S256x128 32 [0] iota_S256x128_d0_w32) (broadcast S256x128 252#32)))
    (mulf a (act g)) (broadcast S256x128 (Scalar.ofBits .f32 0x00000000#32))

/-- The running maximum of one batch, past its two new tiles. -/
def mxTile (x : Vec F S1x256x128 .f32) (h0 h1 : Vec F S256x128 .f32) : Vec F S1x256x128 .f32 :=
  shapeCast S1x256x128 (maximumf (maximumf (shapeCast S256x128 x shapeCasts_S1x256x128_S256x128) (absf h0)) (absf h1)) shapeCasts_S256x128_S1x256x128

/-! ## A point's loads -/

theorem inbX : ∀ (b : Fin 5) (a), (![b.val, 0, 0] : Fin 3 → ℕ) a + S1x256x2240.size a ≤ S5x256x2240.size a := by decide
theorem inbC : ∀ (b : Fin 5) (a), (![b.val, 0, 0] : Fin 3 → ℕ) a + S1x256x128.size a ≤ S5x256x128.size a := by decide

/-! What a point loads: batch slabs of the codes and their scales, and for the value (0) and the gate (1) branch the weights,
   the scales, the biases and the convolution's table and biases. -/

variable (i : grid0.Coords) (x1 : Vec F S5x256x2240 .fp8e4m3) (x2 : Vec F S5x256x128 .f32) (x3 : Vec F S2240x256 .fp8e4m3)
  (x4 x5 x6 : Vec F S2240x128 .fp8e4m3) (x7 x8 : Vec F S1x11264 .f32) (x9 : Vec F S9x11264 .f32) (x10 : Vec F S1x11264 .f32)

def lx (b : Fin 5) : Vec F S1x256x2240 .fp8e4m3 := View.ld x1 (Rect.unit (s := S5x256x2240) ![b.val, 0, 0] S1x256x2240.size (inbX b))
def lsc (b : Fin 5) : Vec F S1x256x128 .f32 := View.ld x2 (Rect.unit (s := S5x256x128) ![b.val, 0, 0] S1x256x128.size (inbC b))
def lw (p : Fin 2) : Vec F S2240x256 .fp8e4m3 := match p with
    | 0 => shapeCast S2240x256 (View.ld x3 (Rect.unit (s := S2240x256) ![0, 0] S2240x256.size inb_S2240x256_S2240x256_0_0)) shapeCasts_S2240x256_S2240x256
    | 1 => k0_pay172 (k0_pay170 (View.ld x4 (Rect.unit (s := S2240x128) ![0, 0] S2240x128.size inb_S2240x128_S2240x128_0_0)))
        (k0_pay171 (View.ld x5 (Rect.unit (s := S2240x128) ![0, 0] S2240x128.size inb_S2240x128_S2240x128_0_0)))
        (View.ld x6 (Rect.unit (s := S2240x128) ![0, 0] S2240x128.size inb_S2240x128_S2240x128_0_0))
def ls (p : Fin 2) : Vec F S1x256 .f32 := match p with
    | 0 => k0_pay162 (View.ld x7 (Rect.unit (s := S1x11264) (k0_off1 i) S1x256.size (k0_off1_inb i)))
    | 1 => k0_pay163 (View.ld x7 (Rect.unit (s := S1x11264) (k0_off2 i) S1x384.size (k0_off2_inb i)))
def lbias (p : Fin 2) : Vec F S1x256 .f32 := match p with
    | 0 => k0_pay164 (View.ld x8 (Rect.unit (s := S1x11264) (k0_off1 i) S1x256.size (k0_off1_inb i)))
    | 1 => k0_pay165 (View.ld x8 (Rect.unit (s := S1x11264) (k0_off2 i) S1x384.size (k0_off2_inb i)))
def ld9 (p : Fin 2) : Vec F S9x256 .f32 := match p with
    | 0 => k0_pay166 (View.ld x9 (Rect.unit (s := S9x11264) (k0_off3 i) S9x256.size (k0_off3_inb i)))
    | 1 => k0_pay196 (k0_pay167 (View.ld x9 (Rect.unit (s := S9x11264) (k0_off4 i) S9x384.size (k0_off4_inb i))))
def ldb (p : Fin 2) : Vec F S1x256 .f32 := match p with
    | 0 => k0_pay168 (View.ld x10 (Rect.unit (s := S1x11264) (k0_off1 i) S1x256.size (k0_off1_inb i)))
    | 1 => k0_pay197 (k0_pay169 (View.ld x10 (Rect.unit (s := S1x11264) (k0_off2 i) S1x384.size (k0_off2_inb i))))

variable (x : Fin 5 → Vec F S1x256x2240 .fp8e4m3) (sc : Fin 5 → Vec F S1x256x128 .f32) (w : Fin 2 → Vec F S2240x256 .fp8e4m3)
  (s bias : Fin 2 → Vec F S1x256 .f32) (d : Fin 2 → Vec F S9x256 .f32) (db : Fin 2 → Vec F S1x256 .f32)

/-- Batch `b`'s first-activation tile, branch `p`, half `t`. -/
def hs (b : Fin 5) (p t : Fin 2) : Vec F S1x1x256x128 .f32 := hsTile (arg (dot (x b) (w p)) (sc b) (s p) (bias p) t)

/-! ## The convolution's scratch -/

theorem inbS : ∀ (p t : Fin 2) (o : Fin 49) (a), (![p.val, t.val, o.val, 0] : Fin 4 → ℕ) a + S1x1x256x128.size a ≤ S2x2x304x128.size a := by decide

/-- 256 rows of the scratch from row `o`, branch `p`, half `t`. -/
def box (p t : Fin 2) (o : Fin 49) : Rect S2x2x304x128 :=
  Rect.unit (s := S2x2x304x128) ![p.val, t.val, o.val, 0] S1x1x256x128.size (inbS p t o)

/-! The tiles stored so far onto the stores `T`, last first: batch by batch, the value branch before the gate branch, half by half. -/

variable (T : List (View.Piece (Elt F) S2x2x304x128 .f32))

def st000 : List (View.Piece (Elt F) S2x2x304x128 .f32) := ⟨box 0 0 24, hs x sc w s bias 0 0 0⟩ :: T
def st001 : List (View.Piece (Elt F) S2x2x304x128 .f32) := ⟨box 0 1 24, hs x sc w s bias 0 0 1⟩ :: st000 x sc w s bias T
def st010 : List (View.Piece (Elt F) S2x2x304x128 .f32) := ⟨box 1 0 24, hs x sc w s bias 0 1 0⟩ :: st001 x sc w s bias T
def st011 : List (View.Piece (Elt F) S2x2x304x128 .f32) := ⟨box 1 1 24, hs x sc w s bias 0 1 1⟩ :: st010 x sc w s bias T
def st100 : List (View.Piece (Elt F) S2x2x304x128 .f32) := ⟨box 0 0 24, hs x sc w s bias 1 0 0⟩ :: st011 x sc w s bias T
def st101 : List (View.Piece (Elt F) S2x2x304x128 .f32) := ⟨box 0 1 24, hs x sc w s bias 1 0 1⟩ :: st100 x sc w s bias T
def st110 : List (View.Piece (Elt F) S2x2x304x128 .f32) := ⟨box 1 0 24, hs x sc w s bias 1 1 0⟩ :: st101 x sc w s bias T
def st111 : List (View.Piece (Elt F) S2x2x304x128 .f32) := ⟨box 1 1 24, hs x sc w s bias 1 1 1⟩ :: st110 x sc w s bias T
def st200 : List (View.Piece (Elt F) S2x2x304x128 .f32) := ⟨box 0 0 24, hs x sc w s bias 2 0 0⟩ :: st111 x sc w s bias T
def st201 : List (View.Piece (Elt F) S2x2x304x128 .f32) := ⟨box 0 1 24, hs x sc w s bias 2 0 1⟩ :: st200 x sc w s bias T
def st210 : List (View.Piece (Elt F) S2x2x304x128 .f32) := ⟨box 1 0 24, hs x sc w s bias 2 1 0⟩ :: st201 x sc w s bias T
def st211 : List (View.Piece (Elt F) S2x2x304x128 .f32) := ⟨box 1 1 24, hs x sc w s bias 2 1 1⟩ :: st210 x sc w s bias T
def st300 : List (View.Piece (Elt F) S2x2x304x128 .f32) := ⟨box 0 0 24, hs x sc w s bias 3 0 0⟩ :: st211 x sc w s bias T
def st301 : List (View.Piece (Elt F) S2x2x304x128 .f32) := ⟨box 0 1 24, hs x sc w s bias 3 0 1⟩ :: st300 x sc w s bias T
def st310 : List (View.Piece (Elt F) S2x2x304x128 .f32) := ⟨box 1 0 24, hs x sc w s bias 3 1 0⟩ :: st301 x sc w s bias T
def st311 : List (View.Piece (Elt F) S2x2x304x128 .f32) := ⟨box 1 1 24, hs x sc w s bias 3 1 1⟩ :: st310 x sc w s bias T
def st400 : List (View.Piece (Elt F) S2x2x304x128 .f32) := ⟨box 0 0 24, hs x sc w s bias 4 0 0⟩ :: st311 x sc w s bias T
def st401 : List (View.Piece (Elt F) S2x2x304x128 .f32) := ⟨box 0 1 24, hs x sc w s bias 4 0 1⟩ :: st400 x sc w s bias T
def st410 : List (View.Piece (Elt F) S2x2x304x128 .f32) := ⟨box 1 0 24, hs x sc w s bias 4 1 0⟩ :: st401 x sc w s bias T
def st411 : List (View.Piece (Elt F) S2x2x304x128 .f32) := ⟨box 1 1 24, hs x sc w s bias 4 1 1⟩ :: st410 x sc w s bias T

/-- The first row of tap `r`'s shifted tile. -/
def off (r : Fin 9) : Fin 49 := match r with
  | 0 => 5 | 1 => 6 | 2 => 7 | 3 => 23 | 4 => 24 | 5 => 25 | 6 => 41 | 7 => 42 | 8 => 43

/-- The convolution's tile of branch `p`, half `t`, off the scratch past the stores `L`, whose loads are `rd`. -/
def rawConv (rd : List (View.Piece (Elt F) S2x2x304x128 .f32) → Fin 2 → Fin 2 → Fin 9 → Vec F S1x1x256x128 .f32)
    (L : List (View.Piece (Elt F) S2x2x304x128 .f32)) (p t : Fin 2) : Vec F S256x128 .f32 := convTile (d p) (db p) t (rd L p t)

variable (rd : List (View.Piece (Elt F) S2x2x304x128 .f32) → Fin 2 → Fin 2 → Fin 9 → Vec F S1x1x256x128 .f32)

/-! The gated tiles, batch by batch, half by half, as the point computes them. -/

def rawHg00 (j : BitVec 32) : Vec F S256x128 .f32 :=
  hgTile j 0 (rawConv d db rd (st000 x sc w s bias T) 0 0) (rawConv d db rd (st010 x sc w s bias T) 1 0)
def rawHg01 (j : BitVec 32) : Vec F S256x128 .f32 :=
  hgTile j 1 (rawConv d db rd (st001 x sc w s bias T) 0 1) (rawConv d db rd (st011 x sc w s bias T) 1 1)
def rawHg10 (j : BitVec 32) : Vec F S256x128 .f32 :=
  hgTile j 0 (rawConv d db rd (st100 x sc w s bias T) 0 0) (rawConv d db rd (st110 x sc w s bias T) 1 0)
def rawHg11 (j : BitVec 32) : Vec F S256x128 .f32 :=
  hgTile j 1 (rawConv d db rd (st101 x sc w s bias T) 0 1) (rawConv d db rd (st111 x sc w s bias T) 1 1)
def rawHg20 (j : BitVec 32) : Vec F S256x128 .f32 :=
  hgTile j 0 (rawConv d db rd (st200 x sc w s bias T) 0 0) (rawConv d db rd (st210 x sc w s bias T) 1 0)
def rawHg21 (j : BitVec 32) : Vec F S256x128 .f32 :=
  hgTile j 1 (rawConv d db rd (st201 x sc w s bias T) 0 1) (rawConv d db rd (st211 x sc w s bias T) 1 1)
def rawHg30 (j : BitVec 32) : Vec F S256x128 .f32 :=
  hgTile j 0 (rawConv d db rd (st300 x sc w s bias T) 0 0) (rawConv d db rd (st310 x sc w s bias T) 1 0)
def rawHg31 (j : BitVec 32) : Vec F S256x128 .f32 :=
  hgTile j 1 (rawConv d db rd (st301 x sc w s bias T) 0 1) (rawConv d db rd (st311 x sc w s bias T) 1 1)
def rawHg40 (j : BitVec 32) : Vec F S256x128 .f32 :=
  hgTile j 0 (rawConv d db rd (st400 x sc w s bias T) 0 0) (rawConv d db rd (st410 x sc w s bias T) 1 0)
def rawHg41 (j : BitVec 32) : Vec F S256x128 .f32 :=
  hgTile j 1 (rawConv d db rd (st401 x sc w s bias T) 0 1) (rawConv d db rd (st411 x sc w s bias T) 1 1)

theorem inbG : ∀ (j : Fin 22) (b : Fin 5) (t : Fin 2) (a), (![j.val, b.val, 0, 128 * t.val] : Fin 4 → ℕ) a + S1x1x256x128.size a ≤ S22x5x256x256.size a := by decide

/-- Batch `b`, half `t` of tile `i` of the gated scratch. -/
def boxG (i : Fin 22) (b : Fin 5) (t : Fin 2) : Rect S22x5x256x256 :=
  Rect.unit (s := S22x5x256x256) ![i.val, b.val, 0, 128 * t.val] S1x1x256x128.size (inbG i b t)

/-- The gated tiles' stores, last first. -/
def gated (j : BitVec 32) (i : Fin 22) : List (View.Piece (Elt F) S22x5x256x256 .f32) :=
  [⟨boxG i 4 1, shapeCast S1x1x256x128 (rawHg41 x sc w s bias d db T rd j) shapeCasts_S256x128_S1x1x256x128⟩,
   ⟨boxG i 4 0, shapeCast S1x1x256x128 (rawHg40 x sc w s bias d db T rd j) shapeCasts_S256x128_S1x1x256x128⟩,
   ⟨boxG i 3 1, shapeCast S1x1x256x128 (rawHg31 x sc w s bias d db T rd j) shapeCasts_S256x128_S1x1x256x128⟩,
   ⟨boxG i 3 0, shapeCast S1x1x256x128 (rawHg30 x sc w s bias d db T rd j) shapeCasts_S256x128_S1x1x256x128⟩,
   ⟨boxG i 2 1, shapeCast S1x1x256x128 (rawHg21 x sc w s bias d db T rd j) shapeCasts_S256x128_S1x1x256x128⟩,
   ⟨boxG i 2 0, shapeCast S1x1x256x128 (rawHg20 x sc w s bias d db T rd j) shapeCasts_S256x128_S1x1x256x128⟩,
   ⟨boxG i 1 1, shapeCast S1x1x256x128 (rawHg11 x sc w s bias d db T rd j) shapeCasts_S256x128_S1x1x256x128⟩,
   ⟨boxG i 1 0, shapeCast S1x1x256x128 (rawHg10 x sc w s bias d db T rd j) shapeCasts_S256x128_S1x1x256x128⟩,
   ⟨boxG i 0 1, shapeCast S1x1x256x128 (rawHg01 x sc w s bias d db T rd j) shapeCasts_S256x128_S1x1x256x128⟩,
   ⟨boxG i 0 0, shapeCast S1x1x256x128 (rawHg00 x sc w s bias d db T rd j) shapeCasts_S256x128_S1x1x256x128⟩]

/-- Batch `b`'s rows of the running maxima. -/
def boxM (b : Fin 5) : Rect S5x256x128 := Rect.unit (s := S5x256x128) ![b.val, 0, 0] S1x256x128.size (inbC b)

variable (M : List (View.Piece (Elt F) S5x256x128 .f32)) (rm : List (View.Piece (Elt F) S5x256x128 .f32) → Fin 5 → Vec F S1x256x128 .f32)

/-! The running maxima's stores onto the stores `M`, last first, batch by batch; `rm` loads them. -/

def mx0 (j : BitVec 32) : List (View.Piece (Elt F) S5x256x128 .f32) :=
  ⟨boxM 0, mxTile (rm (M) 0) (rawHg00 x sc w s bias d db T rd j) (rawHg01 x sc w s bias d db T rd j)⟩ :: M
def mx1 (j : BitVec 32) : List (View.Piece (Elt F) S5x256x128 .f32) :=
  ⟨boxM 1, mxTile (rm (mx0 x sc w s bias d db T rd M rm j) 1) (rawHg10 x sc w s bias d db T rd j) (rawHg11 x sc w s bias d db T rd j)⟩ :: mx0 x sc w s bias d db T rd M rm j
def mx2 (j : BitVec 32) : List (View.Piece (Elt F) S5x256x128 .f32) :=
  ⟨boxM 2, mxTile (rm (mx1 x sc w s bias d db T rd M rm j) 2) (rawHg20 x sc w s bias d db T rd j) (rawHg21 x sc w s bias d db T rd j)⟩ :: mx1 x sc w s bias d db T rd M rm j
def mx3 (j : BitVec 32) : List (View.Piece (Elt F) S5x256x128 .f32) :=
  ⟨boxM 3, mxTile (rm (mx2 x sc w s bias d db T rd M rm j) 3) (rawHg30 x sc w s bias d db T rd j) (rawHg31 x sc w s bias d db T rd j)⟩ :: mx2 x sc w s bias d db T rd M rm j
def mx4 (j : BitVec 32) : List (View.Piece (Elt F) S5x256x128 .f32) :=
  ⟨boxM 4, mxTile (rm (mx3 x sc w s bias d db T rd M rm j) 4) (rawHg40 x sc w s bias d db T rd j) (rawHg41 x sc w s bias d db T rd j)⟩ :: mx3 x sc w s bias d db T rd M rm j

/-! ## The loads off the scratches -/

variable {sg : RefSig} {κ : Kind} {sp : Space}

/-- Tap `r`'s load of branch `p`, half `t`, off contents `f` past the stores `L`; the middle tap reads the tile just stored. -/
def rdAt (v : View sg κ sp S2x2x304x128 .f32) (f : v.ty.Contents (Elt F)) (L : List (View.Piece (Elt F) S2x2x304x128 .f32)) (p t : Fin 2)
    (r : Fin 9) : Vec F S1x1x256x128 .f32 := match r with
  | 4 => v.readCov (Val := Elt F) L (box p t 24).toLoadRect
  | r => v.readAt (Elt F) (box p t (off r)).toLoadRect (v.writes (Elt F) f L)

/-- The same past stores that cover the scratch. -/
def rdCov (v : View sg κ sp S2x2x304x128 .f32) (L : List (View.Piece (Elt F) S2x2x304x128 .f32)) (p t : Fin 2) (r : Fin 9) :
    Vec F S1x1x256x128 .f32 := v.readCov (Val := Elt F) L (box p t (off r)).toLoadRect

/-- Batch `b`'s load of the running maxima off contents `f`, its rows being no store's so far. -/
def rmAt (v : View sg κ sp S5x256x128 .f32) (f : v.ty.Contents (Elt F)) (_ : List (View.Piece (Elt F) S5x256x128 .f32)) (b : Fin 5) :
    Vec F S1x256x128 .f32 := v.readAt (Elt F) (boxM b).toLoadRect f

/-- The same past stores that cover the maxima. -/
def rmCov (v : View sg κ sp S5x256x128 .f32) (L : List (View.Piece (Elt F) S5x256x128 .f32)) (b : Fin 5) : Vec F S1x256x128 .f32 :=
  v.readCov (Val := Elt F) L (boxM b).toLoadRect

/-- The first point's first stores: zeros all over. -/
def zeroS : List (View.Piece (Elt F) S2x2x304x128 .f32) :=
  [⟨Rect.unit (s := S2x2x304x128) ![0, 0, 0, 0] S2x2x304x128.size inb_S2x2x304x128_S2x2x304x128_0_0_0_0, k0_pay160⟩]
def zeroM : List (View.Piece (Elt F) S5x256x128 .f32) :=
  [⟨Rect.unit (s := S5x256x128) ![0, 0, 0] S5x256x128.size inb_S5x256x128_S5x256x128_0_0_0, k0_pay161⟩]

end Cert.UpIdeal.Hand

end
-- ==== Proof.UpIdealStep.lean ====
/- What one grid point of the `UpIdeal` program leaves in its three scratches, past the layout of its stores. The convolution's
   scratch keeps rows of zeros above and below each stored tile, so a tap reads the tile shifted, zero past its ends; the gated
   scratch gets the point's tile of every batch; the running maxima take that tile in. -/
module

public import proofs.«01_k».proof.Proof.UpIdealModel
public import Idealize.ShloMosaic.Lib.Pointwise
public import Idealize.ShloMosaic.Lib.Pipeline.ValueKit
public import Idealize.ShloMosaic.Lib.WritesUnit

@[expose] public section

set_option maxRecDepth 16384

noncomputable section

namespace Cert.UpIdeal.Hand

open Idealize.ShloMosaic Idealize.ShloMosaic.TcCoe Idealize.ShloMosaic.Tactic
open Cert.UpIdeal.Gen

variable {F : FTy → Type} [FloatOps F]

/-! ## The shifted tiles -/

/-- The zero word. -/
def zero : Elt F .f32 := Scalar.ofBits .f32 0x00000000#32

/-- A tile shifted for tap `r`: row `n` is the tile's row `off r + n - 24`, zero past its ends. -/
def shifted (r : Fin 9) (w : Vec F S1x1x256x128 .f32) : Vec F S1x1x256x128 .f32 := fun y =>
  if h : 24 ≤ (off r).val + (y 2).val ∧ (off r).val + (y 2).val < 280 then
    w (ix4 0 0 ⟨(off r).val + (y 2).val - 24, by omega⟩ (y 3))
  else zero

/-- The scratch's rows above 24 and from 280 on hold zeros. -/
def Pads (X : Vec F S2x2x304x128 .f32) : Prop := ∀ y, (y 2).val < 24 ∨ 280 ≤ (y 2).val → X y = zero

variable {sg : RefSig} {κ : Kind} {sp : Space}

theorem pads_cons (v : View sg κ sp S2x2x304x128 .f32) (f : v.ty.Contents (Elt F)) (p t : Fin 2) (w : Vec F S1x1x256x128 .f32)
    (L : List (View.Piece (Elt F) S2x2x304x128 .f32)) (h : Pads (v.read (Elt F) (v.writes (Elt F) f L))) :
    Pads (v.read (Elt F) (v.writes (Elt F) f (⟨box p t 24, w⟩ :: L))) := fun y hy =>
  (View.read_writes_cons_unit_of_not_mem v f (inbS p t 24) w L y rfl 2 (by
    show (y 2).val < 24 ∨ 24 + 256 ≤ (y 2).val
    omega)).trans (h y hy)

theorem tap_at (v : View sg κ sp S2x2x304x128 .f32) (f : v.ty.Contents (Elt F)) (p t : Fin 2) (w : Vec F S1x1x256x128 .f32)
    (L : List (View.Piece (Elt F) S2x2x304x128 .f32)) (h : Pads (v.read (Elt F) (v.writes (Elt F) f L))) (r : Fin 9) :
    v.readAt (Elt F) (box p t (off r)).toLoadRect (v.writes (Elt F) f (⟨box p t 24, w⟩ :: L)) = shifted r w := by
  funext y
  rw [View.readAt_apply]
  have e2 : (((box p t (off r)).toLoadRect.idx y) 2).val = (off r).val + (y 2).val := by
    show (off r).val + 1 * (y 2).val = _; omega
  unfold shifted
  have h0 : (y 0).val = 0 := Nat.lt_one_iff.mp (y 0).isLt
  have h1 : (y 1).val = 0 := Nat.lt_one_iff.mp (y 1).isLt
  split
  · rename_i hr
    refine View.read_writes_cons_unit_of_mem v f (inbS p t 24) w L _ _ rfl fun a => ?_
    match a with
    | ⟨0, _⟩ => show p.val + 1 * (y 0).val = p.val + 0; omega
    | ⟨1, _⟩ => show t.val + 1 * (y 1).val = t.val + 0; omega
    | ⟨2, _⟩ => show (off r).val + 1 * (y 2).val = 24 + ((off r).val + (y 2).val - 24); omega
    | ⟨3, _⟩ => show 0 + 1 * (y 3).val = 0 + (y 3).val; omega
  · rename_i hr
    have h2 : ((box p t (off r)).toLoadRect.idx y 2).val < 24 ∨ 280 ≤ ((box p t (off r)).toLoadRect.idx y 2).val := by omega
    exact (View.read_writes_cons_unit_of_not_mem v f (inbS p t 24) w L _ rfl 2 (by
      show ((box p t (off r)).toLoadRect.idx y 2).val < 24 ∨ 24 + 256 ≤ ((box p t (off r)).toLoadRect.idx y 2).val
      omega)).trans (h _ h2)

/-! ## The point's tiles -/

variable (x : Fin 5 → Vec F S1x256x2240 .fp8e4m3) (sc : Fin 5 → Vec F S1x256x128 .f32) (w : Fin 2 → Vec F S2240x256 .fp8e4m3)
  (s bias : Fin 2 → Vec F S1x256 .f32) (d : Fin 2 → Vec F S9x256 .f32) (db : Fin 2 → Vec F S1x256 .f32)

/-- The convolution's tile of batch `b`, branch `p`, half `t`. -/
def conv (b : Fin 5) (p t : Fin 2) : Vec F S256x128 .f32 := convTile (d p) (db p) t fun r => shifted r (hs x sc w s bias b p t)

/-- The gated tile of batch `b`, half `t`. -/
def hg (j : BitVec 32) (b : Fin 5) (t : Fin 2) : Vec F S256x128 .f32 :=
  hgTile j t (conv x sc w s bias d db b 0 t) (conv x sc w s bias d db b 1 t)

/-- The loads `rd` read the tile stored last, shifted, past stores for which `Q` holds, as it does past every further tile's. -/
structure Reads (rd : List (View.Piece (Elt F) S2x2x304x128 .f32) → Fin 2 → Fin 2 → Fin 9 → Vec F S1x1x256x128 .f32)
    (Q : List (View.Piece (Elt F) S2x2x304x128 .f32) → Prop) : Prop where
  tap : ∀ L p t w, Q L → rd (⟨box p t 24, w⟩ :: L) p t = fun r => shifted r w
  step : ∀ L p t w, Q L → Q (⟨box p t 24, w⟩ :: L)

theorem reads_at (v : View sg κ sp S2x2x304x128 .f32) (f : v.ty.Contents (Elt F)) :
    Reads (rdAt v f) fun L => Pads (v.read (Elt F) (v.writes (Elt F) f L)) where
  tap L p t w h := by
    funext r
    match r with
    | 4 => exact (View.readCov_cons_toLoadRect v (box p t 24) w L).trans
             ((View.readCov_cons_toLoadRect v (box p t 24) w L).symm.trans (by
               funext y
               have := congrFun (tap_at v f p t w L h 4) y
               refine Eq.trans ?_ this
               exact congrFun (View.readCov_cons_toLoadRect v (box p t 24) w L) y |>.trans
                 (View.read_writes_cons_emb v f (box p t 24) w L y).symm))
    | 0 | 1 | 2 | 3 | 5 | 6 | 7 | 8 => exact tap_at v f p t w L h _
  step L p t w h := pads_cons v f p t w L h

theorem reads_cov (v : View sg κ sp S2x2x304x128 .f32) :
    Reads (rdCov v) fun L => Pads (v.read (Elt F) (v.writes (Elt F) v.junk L)) where
  tap L p t w h := by
    funext r
    exact tap_at v v.junk p t w L h r
  step L p t w h := pads_cons v v.junk p t w L h

theorem pads_zero (v : View sg κ sp S2x2x304x128 .f32) (f : v.ty.Contents (Elt F)) :
    Pads (v.read (Elt F) (v.writes (Elt F) f zeroS)) := fun y _ =>
  (View.read_writes_cons_unit_of_mem v f inb_S2x2x304x128_S2x2x304x128_0_0_0_0 k0_pay160 [] y y rfl fun a => by
    match a with
    | ⟨0, _⟩ => exact (Nat.zero_add _).symm
    | ⟨1, _⟩ => exact (Nat.zero_add _).symm
    | ⟨2, _⟩ => exact (Nat.zero_add _).symm
    | ⟨3, _⟩ => exact (Nat.zero_add _).symm).trans rfl

section Tiles

variable {rd : List (View.Piece (Elt F) S2x2x304x128 .f32) → Fin 2 → Fin 2 → Fin 9 → Vec F S1x1x256x128 .f32}
  {Q : List (View.Piece (Elt F) S2x2x304x128 .f32) → Prop} (hrd : Reads rd Q) (T : List (View.Piece (Elt F) S2x2x304x128 .f32)) (hT : Q T)
  (j : BitVec 32)

include hrd hT

theorem q011 : Q (st011 x sc w s bias T) := hrd.step _ 1 1 _ (hrd.step _ 1 0 _ (hrd.step _ 0 1 _ (hrd.step _ 0 0 _ hT)))
theorem q111 : Q (st111 x sc w s bias T) :=
  hrd.step _ 1 1 _ (hrd.step _ 1 0 _ (hrd.step _ 0 1 _ (hrd.step _ 0 0 _ (q011 x sc w s bias hrd T hT))))
theorem q211 : Q (st211 x sc w s bias T) :=
  hrd.step _ 1 1 _ (hrd.step _ 1 0 _ (hrd.step _ 0 1 _ (hrd.step _ 0 0 _ (q111 x sc w s bias hrd T hT))))
theorem q311 : Q (st311 x sc w s bias T) :=
  hrd.step _ 1 1 _ (hrd.step _ 1 0 _ (hrd.step _ 0 1 _ (hrd.step _ 0 0 _ (q211 x sc w s bias hrd T hT))))
theorem q411 : Q (st411 x sc w s bias T) :=
  hrd.step _ 1 1 _ (hrd.step _ 1 0 _ (hrd.step _ 0 1 _ (hrd.step _ 0 0 _ (q311 x sc w s bias hrd T hT))))

/-- Past one batch's four tiles, stored onto `L`, the batch's two gated tiles read the four shifted. -/
theorem batch (L : List (View.Piece (Elt F) S2x2x304x128 .f32)) (b : Fin 5) (hL : Q L) :
    (hgTile j 0 (rawConv d db rd (⟨box 0 0 24, hs x sc w s bias b 0 0⟩ :: L) 0 0)
        (rawConv d db rd (⟨box 1 0 24, hs x sc w s bias b 1 0⟩ :: ⟨box 0 1 24, hs x sc w s bias b 0 1⟩ :: ⟨box 0 0 24, hs x sc w s bias b 0 0⟩ :: L) 1 0)
      = hg x sc w s bias d db j b 0)
    ∧ hgTile j 1 (rawConv d db rd (⟨box 0 1 24, hs x sc w s bias b 0 1⟩ :: ⟨box 0 0 24, hs x sc w s bias b 0 0⟩ :: L) 0 1)
        (rawConv d db rd (⟨box 1 1 24, hs x sc w s bias b 1 1⟩ :: ⟨box 1 0 24, hs x sc w s bias b 1 0⟩ :: ⟨box 0 1 24, hs x sc w s bias b 0 1⟩
          :: ⟨box 0 0 24, hs x sc w s bias b 0 0⟩ :: L) 1 1)
      = hg x sc w s bias d db j b 1 := by
  have h1 := hrd.step _ 0 0 (hs x sc w s bias b 0 0) hL
  have h2 := hrd.step _ 0 1 (hs x sc w s bias b 0 1) h1
  have h3 := hrd.step _ 1 0 (hs x sc w s bias b 1 0) h2
  exact ⟨congrArg₂ (fun u v => hgTile j 0 (convTile (d 0) (db 0) 0 u) (convTile (d 1) (db 1) 0 v)) (hrd.tap _ 0 0 _ hL) (hrd.tap _ 1 0 _ h2),
    congrArg₂ (fun u v => hgTile j 1 (convTile (d 0) (db 0) 1 u) (convTile (d 1) (db 1) 1 v)) (hrd.tap _ 0 1 _ h1) (hrd.tap _ 1 1 _ h3)⟩

theorem hg00 : rawHg00 x sc w s bias d db T rd j = hg x sc w s bias d db j 0 0 := (batch x sc w s bias d db hrd T hT j _ 0 hT).1
theorem hg01 : rawHg01 x sc w s bias d db T rd j = hg x sc w s bias d db j 0 1 := (batch x sc w s bias d db hrd T hT j _ 0 hT).2
theorem hg10 : rawHg10 x sc w s bias d db T rd j = hg x sc w s bias d db j 1 0 := (batch x sc w s bias d db hrd T hT j _ 1 (q011 x sc w s bias hrd T hT)).1
theorem hg11 : rawHg11 x sc w s bias d db T rd j = hg x sc w s bias d db j 1 1 := (batch x sc w s bias d db hrd T hT j _ 1 (q011 x sc w s bias hrd T hT)).2
theorem hg20 : rawHg20 x sc w s bias d db T rd j = hg x sc w s bias d db j 2 0 := (batch x sc w s bias d db hrd T hT j _ 2 (q111 x sc w s bias hrd T hT)).1
theorem hg21 : rawHg21 x sc w s bias d db T rd j = hg x sc w s bias d db j 2 1 := (batch x sc w s bias d db hrd T hT j _ 2 (q111 x sc w s bias hrd T hT)).2
theorem hg30 : rawHg30 x sc w s bias d db T rd j = hg x sc w s bias d db j 3 0 := (batch x sc w s bias d db hrd T hT j _ 3 (q211 x sc w s bias hrd T hT)).1
theorem hg31 : rawHg31 x sc w s bias d db T rd j = hg x sc w s bias d db j 3 1 := (batch x sc w s bias d db hrd T hT j _ 3 (q211 x sc w s bias hrd T hT)).2
theorem hg40 : rawHg40 x sc w s bias d db T rd j = hg x sc w s bias d db j 4 0 := (batch x sc w s bias d db hrd T hT j _ 4 (q311 x sc w s bias hrd T hT)).1
theorem hg41 : rawHg41 x sc w s bias d db T rd j = hg x sc w s bias d db j 4 1 := (batch x sc w s bias d db hrd T hT j _ 4 (q311 x sc w s bias hrd T hT)).2

end Tiles

/-! ## The scratches past the point -/

/-- A tile's element, over both halves: column `l` of 256 is column `l % 128` of half `l / 128`. -/
def both (H : Fin 5 → Fin 2 → Vec F S256x128 .f32) (b : Fin 5) (n l : Fin 256) : Elt F .f32 :=
  H b ⟨l.val / 128, by omega⟩ (ix2 n ⟨l.val % 128, by omega⟩)

/-- The gated scratch past a point: tile `i` is the point's. -/
def next15 (i : Fin 22) (H : Fin 5 → Fin 2 → Vec F S256x128 .f32) (X : Vec F S22x5x256x256 .f32) : Vec F S22x5x256x256 .f32 := fun y =>
  if (y 0).val = i.val then both H (y 1) (y 2) (y 3) else X y

/-- The running maxima past a point. -/
def next16 (H : Fin 5 → Fin 2 → Vec F S256x128 .f32) (X : Vec F S5x256x128 .f32) : Vec F S5x256x128 .f32 := fun y =>
  mxTile (View.ld X (boxM (y 0))) (H (y 0) 0) (H (y 0) 1) (ix3 0 (y 1) (y 2))

/-- The running maxima at the start: zeros. -/
def zero16 : Vec F S5x256x128 .f32 := fun _ => zero

theorem mem_boxG (i : Fin 22) (b : Fin 5) (t : Fin 2) (y : S22x5x256x256.Idx) : y ∈ (boxG i b t).set ↔
    ∀ a, (![i.val, b.val, 0, 128 * t.val] : Fin 4 → ℕ) a ≤ (y a).val ∧ (y a).val < (![i.val, b.val, 0, 128 * t.val] : Fin 4 → ℕ) a + S1x1x256x128.size a :=
  Rect.mem_set_unit

theorem mem_boxM (b : Fin 5) (y : S5x256x128.Idx) : y ∈ (boxM b).set ↔
    ∀ a, (![b.val, 0, 0] : Fin 3 → ℕ) a ≤ (y a).val ∧ (y a).val < (![b.val, 0, 0] : Fin 3 → ℕ) a + S1x256x128.size a :=
  Rect.mem_set_unit

/-- The stores of ten tiles, last first. -/
def tiles (i : Fin 22) (H : Fin 5 → Fin 2 → Vec F S256x128 .f32) : List (View.Piece (Elt F) S22x5x256x256 .f32) :=
  ([(4, 1), (4, 0), (3, 1), (3, 0), (2, 1), (2, 0), (1, 1), (1, 0), (0, 1), (0, 0)] : List (Fin 5 × Fin 2)).map fun q =>
    ⟨boxG i q.1 q.2, shapeCast S1x1x256x128 (H q.1 q.2) shapeCasts_S256x128_S1x1x256x128⟩

theorem mem_all : ∀ q : Fin 5 × Fin 2, q ∈ ([(4, 1), (4, 0), (3, 1), (3, 0), (2, 1), (2, 0), (1, 1), (1, 0), (0, 1), (0, 0)] : List (Fin 5 × Fin 2)) := by
  decide

theorem cast_tile (h : Vec F S256x128 .f32) (y : S1x1x256x128.Idx) :
    shapeCast S1x1x256x128 h shapeCasts_S256x128_S1x1x256x128 y = h (ix2 (y 2) (y 3)) := by
  obtain ⟨a, b, n, l, rfl⟩ : ∃ a b n l, y = ix4 a b n l := ⟨_, _, _, _, eq_ix4 y⟩
  pointwise

theorem tiles_read (v : View sg κ sp S22x5x256x256 .f32) (f : v.ty.Contents (Elt F)) (i : Fin 22) (H : Fin 5 → Fin 2 → Vec F S256x128 .f32) :
    v.read (Elt F) (v.writes (Elt F) f (tiles i H)) = next15 i H (v.read (Elt F) f) := by
  funext y
  unfold next15
  split
  · rename_i hy
    refine View.read_writes_apply_of_pieces v f (fun y => both H (y 1) (y 2) (y 3)) (tiles i H) ?_ y ?_
    · intro p hp z
      obtain ⟨q, -, rfl⟩ := List.mem_map.mp hp
      refine (cast_tile _ _).trans ?_
      have e1 : ((boxG i q.1 q.2).emb z 1) = q.1 := Fin.ext (by
        rw [Rect.emb_apply]; show q.1.val + 1 * (z 1).val = q.1.val
        have : (z 1).val = 0 := Nat.lt_one_iff.mp (z 1).isLt
        omega)
      have e2 : ((boxG i q.1 q.2).emb z 2) = z 2 := Fin.ext (by
        rw [Rect.emb_apply]; show 0 + 1 * (z 2).val = (z 2).val; omega)
      have e3 : ((boxG i q.1 q.2).emb z 3).val = 128 * q.2.val + (z 3).val := by
        rw [Rect.emb_apply]; show 128 * q.2.val + 1 * (z 3).val = _; omega
      have hz : (z 3).val < 128 := (z 3).isLt
      unfold both
      rw [e1, e2]
      have a1 : (⟨((boxG i q.1 q.2).emb z 3).val / 128, by have := ((boxG i q.1 q.2).emb z 3).isLt; change _ < 256 at this; omega⟩ : Fin 2) = q.2 :=
        Fin.ext (by show _ / 128 = _; rw [e3]; omega)
      have a2 : (⟨((boxG i q.1 q.2).emb z 3).val % 128, by omega⟩ : Fin 128) = z 3 :=
        Fin.ext (by show _ % 128 = _; rw [e3]; omega)
      exact (congrArg₂ (fun t l => H q.1 t (ix2 (z 2) l)) a1 a2).symm
    · have hl : (y 3).val < 256 := (y 3).isLt
      refine ⟨_, List.mem_map.mpr ⟨((y 1 : Fin 5), (⟨(y 3).val / 128, by omega⟩ : Fin 2)), mem_all _, rfl⟩, ?_⟩
      refine (mem_boxG i _ _ y).mpr fun a => ?_
      match a with
      | ⟨0, _⟩ => show i.val ≤ (y 0).val ∧ (y 0).val < i.val + 1; omega
      | ⟨1, _⟩ => show (y 1).val ≤ (y 1).val ∧ (y 1).val < (y 1).val + 1; omega
      | ⟨2, _⟩ => exact ⟨Nat.zero_le _, by have := (y 2).isLt; change _ < 256 at this; show (y 2).val < 0 + 256; omega⟩
      | ⟨3, _⟩ => show 128 * ((y 3).val / 128) ≤ (y 3).val ∧ (y 3).val < 128 * ((y 3).val / 128) + 128; omega
  · rename_i hy
    refine View.read_writes_apply_of_forall_not_mem v f y _ fun p hp hm => ?_
    obtain ⟨q, -, rfl⟩ := List.mem_map.mp hp
    have := (mem_boxG i _ _ y).mp hm 0
    change i.val ≤ (y 0).val ∧ (y 0).val < i.val + 1 at this
    omega

theorem tiles_list (i : Fin 22) (H : Fin 5 → Fin 2 → Vec F S256x128 .f32) :
    tiles i H = [⟨boxG i 4 1, shapeCast S1x1x256x128 (H 4 1) shapeCasts_S256x128_S1x1x256x128⟩,
    ⟨boxG i 4 0, shapeCast S1x1x256x128 (H 4 0) shapeCasts_S256x128_S1x1x256x128⟩,
    ⟨boxG i 3 1, shapeCast S1x1x256x128 (H 3 1) shapeCasts_S256x128_S1x1x256x128⟩,
    ⟨boxG i 3 0, shapeCast S1x1x256x128 (H 3 0) shapeCasts_S256x128_S1x1x256x128⟩,
    ⟨boxG i 2 1, shapeCast S1x1x256x128 (H 2 1) shapeCasts_S256x128_S1x1x256x128⟩,
    ⟨boxG i 2 0, shapeCast S1x1x256x128 (H 2 0) shapeCasts_S256x128_S1x1x256x128⟩,
    ⟨boxG i 1 1, shapeCast S1x1x256x128 (H 1 1) shapeCasts_S256x128_S1x1x256x128⟩,
    ⟨boxG i 1 0, shapeCast S1x1x256x128 (H 1 0) shapeCasts_S256x128_S1x1x256x128⟩,
    ⟨boxG i 0 1, shapeCast S1x1x256x128 (H 0 1) shapeCasts_S256x128_S1x1x256x128⟩,
    ⟨boxG i 0 0, shapeCast S1x1x256x128 (H 0 0) shapeCasts_S256x128_S1x1x256x128⟩] := rfl

theorem gated_list {rd : List (View.Piece (Elt F) S2x2x304x128 .f32) → Fin 2 → Fin 2 → Fin 9 → Vec F S1x1x256x128 .f32}
    {Q : List (View.Piece (Elt F) S2x2x304x128 .f32) → Prop} (hrd : Reads rd Q) (T : List (View.Piece (Elt F) S2x2x304x128 .f32)) (hT : Q T)
    (j : BitVec 32) (i : Fin 22) : gated x sc w s bias d db T rd j i = tiles i (hg x sc w s bias d db j) := by
  rw [tiles_list]
  unfold gated
  rw [hg00 x sc w s bias d db hrd T hT, hg01 x sc w s bias d db hrd T hT, hg10 x sc w s bias d db hrd T hT, hg11 x sc w s bias d db hrd T hT,
    hg20 x sc w s bias d db hrd T hT, hg21 x sc w s bias d db hrd T hT, hg30 x sc w s bias d db hrd T hT, hg31 x sc w s bias d db hrd T hT,
    hg40 x sc w s bias d db hrd T hT, hg41 x sc w s bias d db hrd T hT]

theorem gated_read {rd : List (View.Piece (Elt F) S2x2x304x128 .f32) → Fin 2 → Fin 2 → Fin 9 → Vec F S1x1x256x128 .f32}
    {Q : List (View.Piece (Elt F) S2x2x304x128 .f32) → Prop} (hrd : Reads rd Q) (T : List (View.Piece (Elt F) S2x2x304x128 .f32)) (hT : Q T)
    (j : BitVec 32) (i : Fin 22) (v : View sg κ sp S22x5x256x256 .f32) (f : v.ty.Contents (Elt F)) :
    v.read (Elt F) (v.writes (Elt F) f (gated x sc w s bias d db T rd j i)) = next15 i (hg x sc w s bias d db j) (v.read (Elt F) f) := by
  rw [gated_list x sc w s bias d db hrd T hT]
  exact tiles_read v f i _

/-- The loads `rm` past the stores `M` read the maxima `X`, and still do past another batch's store. -/
structure ReadsM (rm : List (View.Piece (Elt F) S5x256x128 .f32) → Fin 5 → Vec F S1x256x128 .f32)
    (M : List (View.Piece (Elt F) S5x256x128 .f32)) (X : Vec F S5x256x128 .f32) : Prop where
  base : ∀ b, rm M b = View.ld X (boxM b)
  step : ∀ L (b b' : Fin 5) (u : Vec F S1x256x128 .f32), b' ≠ b → rm (⟨boxM b', u⟩ :: L) b = rm L b

theorem readsM_at (v : View sg κ sp S5x256x128 .f32) (f : v.ty.Contents (Elt F)) : ReadsM (rmAt v f) [] (v.read (Elt F) f) where
  base _ := rfl
  step _ _ _ _ _ := rfl

theorem zeroM_read (v : View sg κ sp S5x256x128 .f32) (f : v.ty.Contents (Elt F)) (y : S5x256x128.Idx) :
    v.read (Elt F) (v.writes (Elt F) f zeroM) y = zero :=
  (View.read_writes_cons_unit_of_mem v f inb_S5x256x128_S5x256x128_0_0_0 k0_pay161 [] y y rfl fun a => by
    match a with
    | ⟨0, _⟩ => exact (Nat.zero_add _).symm
    | ⟨1, _⟩ => exact (Nat.zero_add _).symm
    | ⟨2, _⟩ => exact (Nat.zero_add _).symm).trans rfl

theorem boxM_other (v : View sg κ sp S5x256x128 .f32) (f : v.ty.Contents (Elt F)) (L : List (View.Piece (Elt F) S5x256x128 .f32)) (b b' : Fin 5)
    (u : Vec F S1x256x128 .f32) (hb : b' ≠ b) (y : S5x256x128.Idx) (hy : (y 0).val = b.val) :
    v.read (Elt F) (v.writes (Elt F) f (⟨boxM b', u⟩ :: L)) y = v.read (Elt F) (v.writes (Elt F) f L) y :=
  View.read_writes_cons_unit_of_not_mem v f (inbC b') u L y rfl 0 (by
    have hb : b'.val ≠ b.val := fun e => hb (Fin.ext e)
    show (y 0).val < b'.val ∨ b'.val + 1 ≤ (y 0).val
    omega)

theorem idx_boxM (b : Fin 5) (z : S1x256x128.Idx) : (((boxM b).toLoadRect.idx z) 0).val = b.val := by
  have : (z 0).val = 0 := Nat.lt_one_iff.mp (z 0).isLt
  show b.val + 1 * (z 0).val = b.val
  omega

theorem readsM_cov (v : View sg κ sp S5x256x128 .f32) : ReadsM (rmCov (F := F) v) zeroM zero16 where
  base b := by
    funext y
    show v.read (Elt F) (v.writes (Elt F) v.junk zeroM) ((boxM b).toLoadRect.idx y) = zero
    exact zeroM_read v _ _
  step L b b' u hb := by
    funext y
    show v.read (Elt F) (v.writes (Elt F) v.junk (⟨boxM b', u⟩ :: L)) ((boxM b).toLoadRect.idx y)
      = v.read (Elt F) (v.writes (Elt F) v.junk L) ((boxM b).toLoadRect.idx y)
    exact boxM_other v _ L b b' u hb _ (idx_boxM b y)

/-- The stores of five batches of maxima over the maxima `X`, onto the stores `M`, last first. -/
def maxima (H : Fin 5 → Fin 2 → Vec F S256x128 .f32) (X : Vec F S5x256x128 .f32) (M : List (View.Piece (Elt F) S5x256x128 .f32)) :
    List (View.Piece (Elt F) S5x256x128 .f32) :=
  ([4, 3, 2, 1, 0] : List (Fin 5)).map (fun b => ⟨boxM b, mxTile (View.ld X (boxM b)) (H b 0) (H b 1)⟩) ++ M

theorem mem_five : ∀ b : Fin 5, b ∈ ([4, 3, 2, 1, 0] : List (Fin 5)) := by decide

theorem maxima_read (v : View sg κ sp S5x256x128 .f32) (f : v.ty.Contents (Elt F)) (H : Fin 5 → Fin 2 → Vec F S256x128 .f32)
    (X : Vec F S5x256x128 .f32) (M : List (View.Piece (Elt F) S5x256x128 .f32)) :
    v.read (Elt F) (v.writes (Elt F) f (maxima H X M)) = next16 H X := by
  unfold maxima
  rw [View.writes_append]
  funext y
  refine View.read_writes_apply_of_pieces v _ (next16 H X) _ ?_ y ?_
  · intro p hp z
    obtain ⟨b, -, rfl⟩ := List.mem_map.mp hp
    have e0 : ((boxM b).emb z 0) = b := Fin.ext (by
      rw [Rect.emb_apply]; show b.val + 1 * (z 0).val = b.val
      have : (z 0).val = 0 := Nat.lt_one_iff.mp (z 0).isLt
      omega)
    have e1 : ((boxM b).emb z 1) = z 1 := Fin.ext (by rw [Rect.emb_apply]; show 0 + 1 * (z 1).val = (z 1).val; omega)
    have e2 : ((boxM b).emb z 2) = z 2 := Fin.ext (by rw [Rect.emb_apply]; show 0 + 1 * (z 2).val = (z 2).val; omega)
    have ez : z = ix3 0 (z 1) (z 2) := (eq_ix3 z).trans (congrArg (fun q => ix3 q (z 1) (z 2)) (Subsingleton.elim (α := Fin 1) _ _))
    unfold next16
    rw [e0, e1, e2]
    exact congrArg (mxTile (View.ld X (boxM b)) (H b 0) (H b 1)) ez
  · refine ⟨_, List.mem_map.mpr ⟨(y 0 : Fin 5), mem_five _, rfl⟩, ?_⟩
    refine (mem_boxM _ y).mpr fun a => ?_
    match a with
    | ⟨0, _⟩ => show (y 0).val ≤ (y 0).val ∧ (y 0).val < (y 0).val + 1; omega
    | ⟨1, _⟩ => exact ⟨Nat.zero_le _, by have := (y 1).isLt; change _ < 256 at this; show (y 1).val < 0 + 256; omega⟩
    | ⟨2, _⟩ => exact ⟨Nat.zero_le _, by have := (y 2).isLt; change _ < 128 at this; show (y 2).val < 0 + 128; omega⟩

theorem mx_read {rd : List (View.Piece (Elt F) S2x2x304x128 .f32) → Fin 2 → Fin 2 → Fin 9 → Vec F S1x1x256x128 .f32}
    {Q : List (View.Piece (Elt F) S2x2x304x128 .f32) → Prop} (hrd : Reads rd Q) (T : List (View.Piece (Elt F) S2x2x304x128 .f32)) (hT : Q T)
    {rm : List (View.Piece (Elt F) S5x256x128 .f32) → Fin 5 → Vec F S1x256x128 .f32} {M : List (View.Piece (Elt F) S5x256x128 .f32)}
    {X : Vec F S5x256x128 .f32} (hrm : ReadsM rm M X) (j : BitVec 32) (v : View sg κ sp S5x256x128 .f32) (f : v.ty.Contents (Elt F)) :
    v.read (Elt F) (v.writes (Elt F) f (mx4 x sc w s bias d db T rd M rm j)) = next16 (hg x sc w s bias d db j) X := by
  refine Eq.trans ?_ (maxima_read v f _ X M)
  refine congrArg (fun L => v.read (Elt F) (v.writes (Elt F) f L)) ?_
  have r0 : rm M 0 = View.ld X (boxM 0) := hrm.base 0
  have r1 : rm (mx0 x sc w s bias d db T rd M rm j) 1 = View.ld X (boxM 1) := (hrm.step _ 1 0 _ (by decide)).trans (hrm.base 1)
  have r2 : rm (mx1 x sc w s bias d db T rd M rm j) 2 = View.ld X (boxM 2) :=
    (hrm.step _ 2 1 _ (by decide)).trans ((hrm.step _ 2 0 _ (by decide)).trans (hrm.base 2))
  have r3 : rm (mx2 x sc w s bias d db T rd M rm j) 3 = View.ld X (boxM 3) :=
    (hrm.step _ 3 2 _ (by decide)).trans ((hrm.step _ 3 1 _ (by decide)).trans ((hrm.step _ 3 0 _ (by decide)).trans (hrm.base 3)))
  have r4 : rm (mx3 x sc w s bias d db T rd M rm j) 4 = View.ld X (boxM 4) :=
    (hrm.step _ 4 3 _ (by decide)).trans ((hrm.step _ 4 2 _ (by decide)).trans ((hrm.step _ 4 1 _ (by decide)).trans
      ((hrm.step _ 4 0 _ (by decide)).trans (hrm.base 4))))
  have q (b : Fin 5) (a a' : Vec F S1x256x128 .f32) (h0 h0' h1 h1' : Vec F S256x128 .f32) (L L' : List (View.Piece (Elt F) S5x256x128 .f32))
      (ea : a = a') (e0 : h0 = h0') (e1 : h1 = h1') (eL : L = L') :
      (⟨boxM b, mxTile a h0 h1⟩ :: L : List (View.Piece (Elt F) S5x256x128 .f32)) = ⟨boxM b, mxTile a' h0' h1'⟩ :: L' := by
    subst ea e0 e1 eL; rfl
  exact q 4 _ _ _ _ _ _ _ _ r4 (hg40 x sc w s bias d db hrd T hT j) (hg41 x sc w s bias d db hrd T hT j)
    (q 3 _ _ _ _ _ _ _ _ r3 (hg30 x sc w s bias d db hrd T hT j) (hg31 x sc w s bias d db hrd T hT j)
    (q 2 _ _ _ _ _ _ _ _ r2 (hg20 x sc w s bias d db hrd T hT j) (hg21 x sc w s bias d db hrd T hT j)
    (q 1 _ _ _ _ _ _ _ _ r1 (hg10 x sc w s bias d db hrd T hT j) (hg11 x sc w s bias d db hrd T hT j)
    (q 0 _ _ _ _ _ _ _ _ r0 (hg00 x sc w s bias d db hrd T hT j) (hg01 x sc w s bias d db hrd T hT j) rfl))))

end Cert.UpIdeal.Hand

end
-- ==== Proof.UpIdealOut.lean ====
/- What the last grid point of the `UpIdeal` program writes out, once the gated scratch holds every tile and the maxima every
   lane's: a row's scale is its largest absolute value over 448 (or one), its codes the row over the scale, clipped. -/
module

public import proofs.«01_k».proof.Proof.UpIdealStep

@[expose] public section

set_option maxRecDepth 16384

noncomputable section

namespace Cert.UpIdeal.Hand

open Idealize.ShloMosaic Idealize.ShloMosaic.TcCoe Idealize.ShloMosaic.Tactic
open Cert.UpIdeal.Gen

variable {F : FTy → Type} [FloatOps F]

/-- A tile's codes at the rows' scales. -/
def codeTile (sc : Vec F S256x1 .f32) (h : Vec F S1x1x256x256 .f32) : Vec F S256x256 .fp8e4m3 :=
  truncf .fp8e4m3 (minimumf (broadcast S256x256 (Scalar.ofBits .f32 0x43E00000#32)) (maximumf (broadcast S256x256 (Scalar.ofBits .f32 0xC3E00000#32))
    (divf (shapeCast S256x256 h shapeCasts_S1x1x256x256_S256x256) (broadcastTo S256x256 sc broadcasts_S256x1_S256x256)))) bitsLt_fp8e4m3_f32

/-- The rows' scales of batch `b`, as a column. -/
def scaleCol (X : Vec F S5x256x128 .f32) (b : Fin 5) : Vec F S256x1 .f32 := k0_pay3 (View.ld X (boxM b))

theorem inbW : ∀ (i : Fin 22) (b : Fin 5) (a), (![i.val, b.val, 0, 0] : Fin 4 → ℕ) a + S1x1x256x256.size a ≤ S22x5x256x256.size a := by decide
/-- Tile `i`, batch `b` of the gated scratch. -/
def boxW (i : Fin 22) (b : Fin 5) : Rect S22x5x256x256 := Rect.unit (s := S22x5x256x256) ![i.val, b.val, 0, 0] S1x1x256x256.size (inbW i b)

theorem inbO : ∀ (b : Fin 5) (i : Fin 21) (a), (![b.val, 0, 256 * i.val] : Fin 3 → ℕ) a + S1x256x256.size a ≤ S5x256x5600.size a := by decide
theorem inbL : ∀ (b : Fin 5) (a), (![b.val, 0, 5376] : Fin 3 → ℕ) a + S1x256x224.size a ≤ S5x256x5600.size a := by decide
theorem inbR : ∀ (b : Fin 5) (a), (![b.val, 0] : Fin 2 → ℕ) a + S1x252.size a ≤ S5x252.size a := by decide
/-- Batch `b`'s columns `256 i … 256 i + 255` of the codes; the last 224; batch `b`'s row of the scales. -/
def boxO (b : Fin 5) (i : Fin 21) : Rect S5x256x5600 := Rect.unit (s := S5x256x5600) ![b.val, 0, 256 * i.val] S1x256x256.size (inbO b i)
def boxL (b : Fin 5) : Rect S5x256x5600 := Rect.unit (s := S5x256x5600) ![b.val, 0, 5376] S1x256x224.size (inbL b)
def boxR (b : Fin 5) : Rect S5x252 := Rect.unit (s := S5x252) ![b.val, 0] S1x252.size (inbR b)

variable (X : Vec F S22x5x256x256 .f32) (Z : Vec F S5x256x128 .f32)

def pieceO (b : Fin 5) (i : Fin 21) : View.Piece (Elt F) S5x256x5600 .fp8e4m3 :=
  ⟨boxO b i, shapeCast S1x256x256 (codeTile (scaleCol Z b) (View.ld X (boxW ⟨i.val, by omega⟩ b))) shapeCasts_S256x256_S1x256x256⟩
def pieceL (b : Fin 5) : View.Piece (Elt F) S5x256x5600 .fp8e4m3 :=
  ⟨boxL b, shapeCast S1x256x224 (extractStridedSlice S256x224 ![0, 0] (codeTile (scaleCol Z b) (View.ld X (boxW 21 b))) slices_S256x256_o0_0_S256x224)
    shapeCasts_S256x224_S1x256x224⟩
def pieceR (b : Fin 5) : View.Piece (Elt F) S5x252 .f32 :=
  ⟨boxR b, extractStridedSlice S1x252 ![0, 0] (transpose S128x256 [1, 0] (broadcastTo S256x128 (shapeCast S256x1 (scaleCol Z b) shapeCasts_S256x1_S256x1)
    broadcasts_S256x1_S256x128) transposes_S256x128_p1_0_S128x256) slices_S128x256_o0_0_S1x252⟩

/-- The stores of one batch's codes, last first, and of all five's; the stores of the scales. -/
def rowL (b : Fin 5) : List (View.Piece (Elt F) S5x256x5600 .fp8e4m3) :=
  pieceL X Z b :: ([20, 19, 18, 17, 16, 15, 14, 13, 12, 11, 10, 9, 8, 7, 6, 5, 4, 3, 2, 1, 0] : List (Fin 21)).map (pieceO X Z b)
def codesL : List (View.Piece (Elt F) S5x256x5600 .fp8e4m3) := rowL X Z 4 ++ (rowL X Z 3 ++ (rowL X Z 2 ++ (rowL X Z 1 ++ rowL X Z 0)))
def scalesL : List (View.Piece (Elt F) S5x252 .f32) := [pieceR Z 4, pieceR Z 3, pieceR Z 2, pieceR Z 1, pieceR Z 0]

/-- The codes, element by element. -/
def outCodes : Vec F S5x256x5600 .fp8e4m3 := fun y =>
  codeTile (scaleCol Z (y 0)) (View.ld X (boxW ⟨(y 2).val / 256, by have := (y 2).isLt; change _ < 5600 at this; omega⟩ (y 0)))
    (ix2 (y 1) ⟨(y 2).val % 256, by omega⟩)
/-- The scales, element by element. -/
def outScales : Vec F S5x252 .f32 := fun y =>
  scaleCol Z (y 0) (ix2 ⟨(y 1).val, by have := (y 1).isLt; change _ < 252 at this; omega⟩ 0)

theorem mem_21 : ∀ i : Fin 21, i ∈ ([20, 19, 18, 17, 16, 15, 14, 13, 12, 11, 10, 9, 8, 7, 6, 5, 4, 3, 2, 1, 0] : List (Fin 21)) := by decide

theorem mem_row {p : View.Piece (Elt F) S5x256x5600 .fp8e4m3} {b : Fin 5} : p ∈ rowL X Z b ↔ p = pieceL X Z b ∨ ∃ i, p = pieceO X Z b i := by
  unfold rowL
  constructor
  · intro h
    rcases List.mem_cons.mp h with h | h
    · exact .inl h
    · obtain ⟨i, -, rfl⟩ := List.mem_map.mp h
      exact .inr ⟨i, rfl⟩
  · rintro (rfl | ⟨i, rfl⟩)
    · exact List.mem_cons_self
    · exact List.mem_cons_of_mem _ (List.mem_map.mpr ⟨i, mem_21 i, rfl⟩)

theorem mem_codes {p : View.Piece (Elt F) S5x256x5600 .fp8e4m3} : p ∈ codesL X Z ↔ ∃ b, p = pieceL X Z b ∨ ∃ i, p = pieceO X Z b i := by
  unfold codesL
  simp only [List.mem_append, mem_row]
  constructor
  · rintro (h | h | h | h | h)
    exacts [⟨4, h⟩, ⟨3, h⟩, ⟨2, h⟩, ⟨1, h⟩, ⟨0, h⟩]
  · rintro ⟨b, h⟩
    match b with
    | 0 => exact .inr (.inr (.inr (.inr h)))
    | 1 => exact .inr (.inr (.inr (.inl h)))
    | 2 => exact .inr (.inr (.inl h))
    | 3 => exact .inr (.inl h)
    | 4 => exact .inl h

theorem mem_scales {p : View.Piece (Elt F) S5x252 .f32} : p ∈ scalesL Z ↔ ∃ b, p = pieceR Z b := by
  unfold scalesL
  simp only [List.mem_cons, List.not_mem_nil, or_false]
  constructor
  · rintro (h | h | h | h | h)
    exacts [⟨4, h⟩, ⟨3, h⟩, ⟨2, h⟩, ⟨1, h⟩, ⟨0, h⟩]
  · rintro ⟨b, h⟩
    match b with
    | 0 => exact .inr (.inr (.inr (.inr h)))
    | 1 => exact .inr (.inr (.inr (.inl h)))
    | 2 => exact .inr (.inr (.inl h))
    | 3 => exact .inr (.inl h)
    | 4 => exact .inl h

theorem mem_boxO (b : Fin 5) (i : Fin 21) (y : S5x256x5600.Idx) : y ∈ (boxO b i).set ↔
    ∀ a, (![b.val, 0, 256 * i.val] : Fin 3 → ℕ) a ≤ (y a).val ∧ (y a).val < (![b.val, 0, 256 * i.val] : Fin 3 → ℕ) a + S1x256x256.size a := Rect.mem_set_unit
theorem mem_boxL (b : Fin 5) (y : S5x256x5600.Idx) : y ∈ (boxL b).set ↔
    ∀ a, (![b.val, 0, 5376] : Fin 3 → ℕ) a ≤ (y a).val ∧ (y a).val < (![b.val, 0, 5376] : Fin 3 → ℕ) a + S1x256x224.size a := Rect.mem_set_unit
theorem mem_boxR (b : Fin 5) (y : S5x252.Idx) : y ∈ (boxR b).set ↔
    ∀ a, (![b.val, 0] : Fin 2 → ℕ) a ≤ (y a).val ∧ (y a).val < (![b.val, 0] : Fin 2 → ℕ) a + S1x252.size a := Rect.mem_set_unit

theorem cast_code (h : Vec F S256x256 .fp8e4m3) (z : Fin 1) (n l : Fin 256) :
    shapeCast S1x256x256 h shapeCasts_S256x256_S1x256x256 (ix3 z n l) = h (ix2 n l) := by
  pointwise

theorem cast_last (h : Vec F S256x256 .fp8e4m3) (z : Fin 1) (n : Fin 256) (l : Fin 224) :
    shapeCast S1x256x224 (extractStridedSlice S256x224 ![0, 0] h slices_S256x256_o0_0_S256x224) shapeCasts_S256x224_S1x256x224 (ix3 z n l)
      = h (ix2 n ⟨l.val, by omega⟩) := by
  pointwise

theorem cast_scale (h : Vec F S256x1 .f32) (z : Fin 1) (n : Fin 252) :
    extractStridedSlice S1x252 ![0, 0] (transpose S128x256 [1, 0] (broadcastTo S256x128 (shapeCast S256x1 h shapeCasts_S256x1_S256x1)
        broadcasts_S256x1_S256x128) transposes_S256x128_p1_0_S128x256) slices_S128x256_o0_0_S1x252 (ix2 z n)
      = h (ix2 ⟨n.val, by omega⟩ 0) := by
  pointwise

theorem pieceL_at (b : Fin 5) (z : Fin 1) (n : Fin 256) (l : Fin 224) :
    (pieceL X Z b).2 (ix3 z n l) = codeTile (scaleCol Z b) (View.ld X (boxW 21 b)) (ix2 n ⟨l.val, by omega⟩) :=
  cast_last (codeTile (scaleCol Z b) (View.ld X (boxW 21 b))) z n l
theorem pieceO_at (b : Fin 5) (i : Fin 21) (z : Fin 1) (n l : Fin 256) :
    (pieceO X Z b i).2 (ix3 z n l) = codeTile (scaleCol Z b) (View.ld X (boxW ⟨i.val, by omega⟩ b)) (ix2 n l) :=
  cast_code (codeTile (scaleCol Z b) (View.ld X (boxW ⟨i.val, by omega⟩ b))) z n l
theorem pieceR_at (b : Fin 5) (z : Fin 1) (n : Fin 252) : (pieceR Z b).2 (ix2 z n) = scaleCol Z b (ix2 ⟨n.val, by omega⟩ 0) :=
  cast_scale (scaleCol Z b) z n

theorem outCodes_at (b : Fin 5) (i : Fin 22) (n l : Fin 256) (y : S5x256x5600.Idx) (h0 : (y 0).val = b.val) (h1 : (y 1).val = n.val)
    (h2 : (y 2).val = 256 * i.val + l.val) : outCodes X Z y = codeTile (scaleCol Z b) (View.ld X (boxW i b)) (ix2 n l) := by
  have e0 : (y 0 : Fin 5) = b := Fin.ext h0
  have e1 : (y 1 : Fin 256) = n := Fin.ext h1
  have e2 : ∀ h, (⟨(y 2).val / 256, h⟩ : Fin 22) = i := fun h => Fin.ext (by show (y 2).val / 256 = i.val; omega)
  have e3 : ∀ h, (⟨(y 2).val % 256, h⟩ : Fin 256) = l := fun h => Fin.ext (by show (y 2).val % 256 = l.val; omega)
  unfold outCodes
  rw [e2, e3]
  subst e0 e1
  rfl

theorem outScales_at (b : Fin 5) (n : Fin 252) (y : S5x252.Idx) (h0 : (y 0).val = b.val) (h1 : (y 1).val = n.val) :
    outScales Z y = scaleCol Z b (ix2 ⟨n.val, by omega⟩ 0) := by
  have e0 : (y 0 : Fin 5) = b := Fin.ext h0
  have e1 : (y 1 : Fin 252) = n := Fin.ext h1
  subst e0 e1
  rfl

variable {sg : RefSig} {κ : Kind} {sp : Space}

theorem codes_read (v : View sg κ sp S5x256x5600 .fp8e4m3) (f : v.ty.Contents (Elt F)) :
    v.read (Elt F) (v.writes (Elt F) f (codesL X Z)) = outCodes X Z := by
  funext y
  refine View.read_writes_apply_of_pieces v f (outCodes X Z) _ ?_ y ?_
  · intro p hp z
    obtain ⟨b, rfl | ⟨i, rfl⟩⟩ := (mem_codes X Z).mp hp
    · have hz : (z 0).val = 0 := Nat.lt_one_iff.mp (z 0).isLt
      refine (congrArg (pieceL X Z b).2 (eq_ix3 (n0 := 1) (n1 := 256) (n2 := 224) z)).trans ((pieceL_at X Z b _ _ _).trans ?_)
      refine (outCodes_at X Z b 21 _ _ _ ?_ ?_ ?_).symm
      · show b.val + 1 * (z 0).val = b.val; omega
      · show 0 + 1 * (z 1).val = (z 1).val; omega
      · show 5376 + 1 * (z 2).val = 256 * 21 + (z 2).val; omega
    · have hz : (z 0).val = 0 := Nat.lt_one_iff.mp (z 0).isLt
      refine (congrArg (pieceO X Z b i).2 (eq_ix3 (n0 := 1) (n1 := 256) (n2 := 256) z)).trans ((pieceO_at X Z b i _ _ _).trans ?_)
      refine (outCodes_at X Z b ⟨i.val, by omega⟩ _ _ _ ?_ ?_ ?_).symm
      · show b.val + 1 * (z 0).val = b.val; omega
      · show 0 + 1 * (z 1).val = (z 1).val; omega
      · show 256 * i.val + 1 * (z 2).val = 256 * i.val + (z 2).val; omega
  · have h0 := (y 0).isLt
    have h1 := (y 1).isLt
    have h2 := (y 2).isLt
    change _ < 5 at h0
    change _ < 256 at h1
    change _ < 5600 at h2
    by_cases hl : 5376 ≤ (y 2).val
    · refine ⟨_, (mem_codes X Z).mpr ⟨⟨(y 0).val, h0⟩, .inl rfl⟩, ?_⟩
      refine (mem_boxL _ y).mpr fun a => ?_
      match a with
      | ⟨0, _⟩ => show (y 0).val ≤ (y 0).val ∧ (y 0).val < (y 0).val + 1; omega
      | ⟨1, _⟩ => show 0 ≤ (y 1).val ∧ (y 1).val < 0 + 256; omega
      | ⟨2, _⟩ => show 5376 ≤ (y 2).val ∧ (y 2).val < 5376 + 224; omega
    · refine ⟨_, (mem_codes X Z).mpr ⟨⟨(y 0).val, h0⟩, .inr ⟨⟨(y 2).val / 256, by omega⟩, rfl⟩⟩, ?_⟩
      refine (mem_boxO _ _ y).mpr fun a => ?_
      match a with
      | ⟨0, _⟩ => show (y 0).val ≤ (y 0).val ∧ (y 0).val < (y 0).val + 1; omega
      | ⟨1, _⟩ => show 0 ≤ (y 1).val ∧ (y 1).val < 0 + 256; omega
      | ⟨2, _⟩ => show 256 * ((y 2).val / 256) ≤ (y 2).val ∧ (y 2).val < 256 * ((y 2).val / 256) + 256; omega

theorem scales_read (v : View sg κ sp S5x252 .f32) (f : v.ty.Contents (Elt F)) :
    v.read (Elt F) (v.writes (Elt F) f (scalesL Z)) = outScales Z := by
  funext y
  refine View.read_writes_apply_of_pieces v f (outScales Z) _ ?_ y ?_
  · intro p hp z
    obtain ⟨b, rfl⟩ := (mem_scales Z).mp hp
    have hz : (z 0).val = 0 := Nat.lt_one_iff.mp (z 0).isLt
    refine (congrArg (pieceR Z b).2 (eq_ix2 (n0 := 1) (n1 := 252) z)).trans ((pieceR_at Z b _ _).trans ?_)
    refine (outScales_at Z b _ _ ?_ ?_).symm
    · show b.val + 1 * (z 0).val = b.val; omega
    · show 0 + 1 * (z 1).val = (z 1).val; omega
  · have h0 := (y 0).isLt
    have h1 := (y 1).isLt
    change _ < 5 at h0
    change _ < 252 at h1
    refine ⟨_, (mem_scales Z).mpr ⟨⟨(y 0).val, h0⟩, rfl⟩, ?_⟩
    refine (mem_boxR _ y).mpr fun a => ?_
    match a with
    | ⟨0, _⟩ => show (y 0).val ≤ (y 0).val ∧ (y 0).val < (y 0).val + 1; omega
    | ⟨1, _⟩ => show 0 ≤ (y 1).val ∧ (y 1).val < 0 + 252; omega

end Cert.UpIdeal.Hand

end
-- ==== Proof.UpIdealBody.lean ====
/- The `UpIdeal` program's body, run: what one grid point leaves in its buffers, at the first point, at a point in between and at
   the last, where the results are written out. -/
module
public import proofs.«01_k».proof.Proof.UpIdealOut
@[expose] public section
set_option maxRecDepth 65536
noncomputable section
namespace Cert.UpIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.UpIdeal.Gen
variable {F : FTy → Type} [FloatOps F]
local notation "𝕄" => MT nD τ sig Unit (Elt F) ℕ (UR sig nD τ) ℕ

/-- The point whose coordinate is zero, as the kernel asks. -/
abbrev IsFirst (i : grid0.Coords) : Prop :=
  Scalar.cmpi .ne (Scalar.extui (Scalar.cmpi .eq (BitVec.ofNat 32 (i 0).val) 0#32)) 0#32 = 1#1

/-- The gated tiles of a point, from the blocks staged for it. -/
def hgOf (i : grid0.Coords) (x1 : Vec F S5x256x2240 .fp8e4m3) (x2 : Vec F S5x256x128 .f32) (x3 : Vec F S2240x256 .fp8e4m3)
    (x4 x5 x6 : Vec F S2240x128 .fp8e4m3) (x7 x8 : Vec F S1x11264 .f32) (x9 : Vec F S9x11264 .f32) (x10 : Vec F S1x11264 .f32) :
    Fin 5 → Fin 2 → Vec F S256x128 .f32 :=
  hg (lx x1) (lsc x2) (lw x3 x4 x5 x6) (ls i x7) (lbias i x8) (ld9 i x9) (ldb i x10) (BitVec.ofNat 32 (i 0).val)

set_option maxHeartbeats 4000000 in
/-- The body at the first point: the scratches start from zeros. -/
theorem kernel_first (c : Dev nD) (E : Set ℕ) (i : grid0.Coords) (arg1 : Memref sig .tc .vmem S5x256x2240 .fp8e4m3) (harg1 : arg1.IsWhole) (arg2 : Memref sig .tc .vmem S5x256x128 .f32) (harg2 : arg2.IsWhole) (arg3 : Memref sig .tc .vmem S2240x256 .fp8e4m3) (harg3 : arg3.IsWhole) (arg4 : Memref sig .tc .vmem S2240x128 .fp8e4m3) (harg4 : arg4.IsWhole) (arg5 : Memref sig .tc .vmem S2240x128 .fp8e4m3) (harg5 : arg5.IsWhole) (arg6 : Memref sig .tc .vmem S2240x128 .fp8e4m3) (harg6 : arg6.IsWhole) (arg7 : Memref sig .tc .vmem S1x11264 .f32) (harg7 : arg7.IsWhole) (arg8 : Memref sig .tc .vmem S1x11264 .f32) (harg8 : arg8.IsWhole) (arg9 : Memref sig .tc .vmem S9x11264 .f32) (harg9 : arg9.IsWhole) (arg10 : Memref sig .tc .vmem S1x11264 .f32) (harg10 : arg10.IsWhole) (arg11 : Memref sig .tc .vmem S5x256x5600 .fp8e4m3) (harg11 : arg11.IsWhole) (arg12 : Memref sig .tc .vmem S5x252 .f32) (harg12 : arg12.IsWhole) (arg13 : Memref sig .tc .vmem S5x256x128 .f32) (harg13 : arg13.IsWhole) (arg14 : Memref sig .tc .vmem S2x2x304x128 .f32) (harg14 : arg14.IsWhole) (arg15 : Memref sig .tc .vmem S22x5x256x256 .f32) (harg15 : arg15.IsWhole) (arg16 : Memref sig .tc .vmem S5x256x128 .f32) (harg16 : arg16.IsWhole) (x1 : Vec F S5x256x2240 .fp8e4m3) (x2 : Vec F S5x256x128 .f32) (x3 : Vec F S2240x256 .fp8e4m3) (x4 : Vec F S2240x128 .fp8e4m3) (x5 : Vec F S2240x128 .fp8e4m3) (x6 : Vec F S2240x128 .fp8e4m3) (x7 : Vec F S1x11264 .f32) (x8 : Vec F S1x11264 .f32) (x9 : Vec F S9x11264 .f32) (x10 : Vec F S1x11264 .f32) (x11 : Vec F S5x256x5600 .fp8e4m3) (x12 : Vec F S5x252 .f32) (x13 : Vec F S5x256x128 .f32) (x14 : Vec F S2x2x304x128 .f32) (x15 : Vec F S22x5x256x256 .f32) (x16 : Vec F S5x256x128 .f32) (K : PUnit → sProp 𝕄)
    (h1 : IsFirst i) (h2 : ¬ k0_cond2 i = 1#1) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ y13, owns (c : Thread nD τ) arg13 fullShare y13) ∗ (∃ y14, ⌜Pads y14⌝ ∗ owns (c : Thread nD τ) arg14 fullShare y14) ∗ owns (c : Thread nD τ) arg15 fullShare (next15 (i 0) (hgOf i x1 x2 x3 x4 x5 x6 x7 x8 x9 x10) x15) ∗ owns (c : Thread nD τ) arg16 fullShare (next16 (hgOf i x1 x2 x3 x4 x5 x6 x7 x8 x9 x10) zero16)) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold IsFirst at h1
  simp only [cc0_ffn_up_eq_skeleton]; unfold cc0_ffn_up_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  set_option sl_exec.closedPieces true in
  set_option sl_exec.stopBefore "k0_cond2" in
  sl_exec_parts
  generalize h14 : arg14.view.writes (Elt F) f14 _ = g14
  generalize h15 : arg15.view.writes (Elt F) f15 _ = g15
  generalize h16 : arg16.view.writes (Elt F) f16 _ = g16
  have e14 : arg14.view.writes (Elt F) f14 (st411 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) zeroS) = g14 := h14
  have e15 : arg15.view.writes (Elt F) f15 (gated (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) zeroS (rdCov arg14.view) (BitVec.ofNat 32 (i 0).val) (i 0)) = g15 := h15
  have e16 : arg16.view.writes (Elt F) f16 (mx4 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) zeroS (rdCov arg14.view) zeroM (rmCov arg16.view) (BitVec.ofNat 32 (i 0).val)) = g16 := h16
  clear h14 h15 h16
  rw [dif_neg h2]
  sl_step
  have hrd := reads_cov (F := F) arg14.view
  have hT := pads_zero (F := F) arg14.view arg14.view.junk
  have hrm := readsM_cov (F := F) arg16.view
  have p14 : Pads (arg14.view.read (Elt F) g14) := e14 ▸ q411 _ _ _ _ _ (reads_at (F := F) arg14.view f14) zeroS (pads_zero arg14.view f14)
  have r15 := (congrArg (arg15.view.read (Elt F)) e15).symm.trans (gated_read _ _ _ _ _ _ _ hrd _ hT _ (i 0) arg15.view f15)
  have r16 := (congrArg (arg16.view.read (Elt F)) e16).symm.trans (mx_read _ _ _ _ _ _ _ hrd _ hT hrm _ arg16.view f16)
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _, f13; isplitr; · ipureintro; rfl
    iexact H13
  isplitl [H14]
  · iexists _; isplitr; · ipureintro; exact p14
    iexists g14; isplitr; · ipureintro; rfl
    iexact H14
  isplitl [H15]
  · iexists g15; isplitr; · ipureintro; exact r15
    iexact H15
  iexists g16; isplitr; · ipureintro; exact r16
  iexact H16

set_option maxHeartbeats 4000000 in
/-- The body at a point in between. -/
theorem kernel_mid (c : Dev nD) (E : Set ℕ) (i : grid0.Coords) (arg1 : Memref sig .tc .vmem S5x256x2240 .fp8e4m3) (harg1 : arg1.IsWhole) (arg2 : Memref sig .tc .vmem S5x256x128 .f32) (harg2 : arg2.IsWhole) (arg3 : Memref sig .tc .vmem S2240x256 .fp8e4m3) (harg3 : arg3.IsWhole) (arg4 : Memref sig .tc .vmem S2240x128 .fp8e4m3) (harg4 : arg4.IsWhole) (arg5 : Memref sig .tc .vmem S2240x128 .fp8e4m3) (harg5 : arg5.IsWhole) (arg6 : Memref sig .tc .vmem S2240x128 .fp8e4m3) (harg6 : arg6.IsWhole) (arg7 : Memref sig .tc .vmem S1x11264 .f32) (harg7 : arg7.IsWhole) (arg8 : Memref sig .tc .vmem S1x11264 .f32) (harg8 : arg8.IsWhole) (arg9 : Memref sig .tc .vmem S9x11264 .f32) (harg9 : arg9.IsWhole) (arg10 : Memref sig .tc .vmem S1x11264 .f32) (harg10 : arg10.IsWhole) (arg11 : Memref sig .tc .vmem S5x256x5600 .fp8e4m3) (harg11 : arg11.IsWhole) (arg12 : Memref sig .tc .vmem S5x252 .f32) (harg12 : arg12.IsWhole) (arg13 : Memref sig .tc .vmem S5x256x128 .f32) (harg13 : arg13.IsWhole) (arg14 : Memref sig .tc .vmem S2x2x304x128 .f32) (harg14 : arg14.IsWhole) (arg15 : Memref sig .tc .vmem S22x5x256x256 .f32) (harg15 : arg15.IsWhole) (arg16 : Memref sig .tc .vmem S5x256x128 .f32) (harg16 : arg16.IsWhole) (x1 : Vec F S5x256x2240 .fp8e4m3) (x2 : Vec F S5x256x128 .f32) (x3 : Vec F S2240x256 .fp8e4m3) (x4 : Vec F S2240x128 .fp8e4m3) (x5 : Vec F S2240x128 .fp8e4m3) (x6 : Vec F S2240x128 .fp8e4m3) (x7 : Vec F S1x11264 .f32) (x8 : Vec F S1x11264 .f32) (x9 : Vec F S9x11264 .f32) (x10 : Vec F S1x11264 .f32) (x11 : Vec F S5x256x5600 .fp8e4m3) (x12 : Vec F S5x252 .f32) (x13 : Vec F S5x256x128 .f32) (x14 : Vec F S2x2x304x128 .f32) (x15 : Vec F S22x5x256x256 .f32) (x16 : Vec F S5x256x128 .f32) (K : PUnit → sProp 𝕄)
    (h1 : ¬ IsFirst i) (h2 : ¬ k0_cond2 i = 1#1) (hp : Pads x14) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ (∃ y13, owns (c : Thread nD τ) arg13 fullShare y13) ∗ (∃ y14, ⌜Pads y14⌝ ∗ owns (c : Thread nD τ) arg14 fullShare y14) ∗ owns (c : Thread nD τ) arg15 fullShare (next15 (i 0) (hgOf i x1 x2 x3 x4 x5 x6 x7 x8 x9 x10) x15) ∗ owns (c : Thread nD τ) arg16 fullShare (next16 (hgOf i x1 x2 x3 x4 x5 x6 x7 x8 x9 x10) x16)) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold IsFirst at h1
  simp only [cc0_ffn_up_eq_skeleton]; unfold cc0_ffn_up_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  set_option sl_exec.closedPieces true in
  set_option sl_exec.stopBefore "k0_cond2" in
  sl_exec_parts
  generalize h14 : arg14.view.writes (Elt F) f14 _ = g14
  generalize h15 : arg15.view.writes (Elt F) f15 _ = g15
  generalize h16 : arg16.view.writes (Elt F) f16 _ = g16
  have e14 : arg14.view.writes (Elt F) f14 (st411 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) []) = g14 := h14
  have e15 : arg15.view.writes (Elt F) f15 (gated (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) [] (rdAt arg14.view f14) (BitVec.ofNat 32 (i 0).val) (i 0)) = g15 := h15
  have e16 : arg16.view.writes (Elt F) f16 (mx4 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) [] (rdAt arg14.view f14) [] (rmAt arg16.view f16) (BitVec.ofNat 32 (i 0).val)) = g16 := h16
  clear h14 h15 h16
  rw [dif_neg h2]
  sl_step
  have hrd := reads_at (F := F) arg14.view f14
  have hT : Pads (arg14.view.read (Elt F) (arg14.view.writes (Elt F) f14 [])) := hp
  have hrm := readsM_at (F := F) arg16.view f16
  have p14 : Pads (arg14.view.read (Elt F) g14) := e14 ▸ q411 _ _ _ _ _ hrd [] hT
  have r15 := (congrArg (arg15.view.read (Elt F)) e15).symm.trans (gated_read _ _ _ _ _ _ _ hrd _ hT _ (i 0) arg15.view f15)
  have r16 := (congrArg (arg16.view.read (Elt F)) e16).symm.trans (mx_read _ _ _ _ _ _ _ hrd _ hT hrm _ arg16.view f16)
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists _, f13; isplitr; · ipureintro; rfl
    iexact H13
  isplitl [H14]
  · iexists _; isplitr; · ipureintro; exact p14
    iexists g14; isplitr; · ipureintro; rfl
    iexact H14
  isplitl [H15]
  · iexists g15; isplitr; · ipureintro; exact r15
    iexact H15
  iexists g16; isplitr; · ipureintro; exact r16
  iexact H16

set_option maxHeartbeats 4000000 in
/-- The body at the last point: the results are written out. -/
theorem kernel_last (c : Dev nD) (E : Set ℕ) (i : grid0.Coords) (arg1 : Memref sig .tc .vmem S5x256x2240 .fp8e4m3) (harg1 : arg1.IsWhole) (arg2 : Memref sig .tc .vmem S5x256x128 .f32) (harg2 : arg2.IsWhole) (arg3 : Memref sig .tc .vmem S2240x256 .fp8e4m3) (harg3 : arg3.IsWhole) (arg4 : Memref sig .tc .vmem S2240x128 .fp8e4m3) (harg4 : arg4.IsWhole) (arg5 : Memref sig .tc .vmem S2240x128 .fp8e4m3) (harg5 : arg5.IsWhole) (arg6 : Memref sig .tc .vmem S2240x128 .fp8e4m3) (harg6 : arg6.IsWhole) (arg7 : Memref sig .tc .vmem S1x11264 .f32) (harg7 : arg7.IsWhole) (arg8 : Memref sig .tc .vmem S1x11264 .f32) (harg8 : arg8.IsWhole) (arg9 : Memref sig .tc .vmem S9x11264 .f32) (harg9 : arg9.IsWhole) (arg10 : Memref sig .tc .vmem S1x11264 .f32) (harg10 : arg10.IsWhole) (arg11 : Memref sig .tc .vmem S5x256x5600 .fp8e4m3) (harg11 : arg11.IsWhole) (arg12 : Memref sig .tc .vmem S5x252 .f32) (harg12 : arg12.IsWhole) (arg13 : Memref sig .tc .vmem S5x256x128 .f32) (harg13 : arg13.IsWhole) (arg14 : Memref sig .tc .vmem S2x2x304x128 .f32) (harg14 : arg14.IsWhole) (arg15 : Memref sig .tc .vmem S22x5x256x256 .f32) (harg15 : arg15.IsWhole) (arg16 : Memref sig .tc .vmem S5x256x128 .f32) (harg16 : arg16.IsWhole) (x1 : Vec F S5x256x2240 .fp8e4m3) (x2 : Vec F S5x256x128 .f32) (x3 : Vec F S2240x256 .fp8e4m3) (x4 : Vec F S2240x128 .fp8e4m3) (x5 : Vec F S2240x128 .fp8e4m3) (x6 : Vec F S2240x128 .fp8e4m3) (x7 : Vec F S1x11264 .f32) (x8 : Vec F S1x11264 .f32) (x9 : Vec F S9x11264 .f32) (x10 : Vec F S1x11264 .f32) (x11 : Vec F S5x256x5600 .fp8e4m3) (x12 : Vec F S5x252 .f32) (x13 : Vec F S5x256x128 .f32) (x14 : Vec F S2x2x304x128 .f32) (x15 : Vec F S22x5x256x256 .f32) (x16 : Vec F S5x256x128 .f32) (K : PUnit → sProp 𝕄)
    (h1 : ¬ IsFirst i) (h2 : k0_cond2 i = 1#1) (hp : Pads x14) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare (outCodes (next15 (i 0) (hgOf i x1 x2 x3 x4 x5 x6 x7 x8 x9 x10) x15) (next16 (hgOf i x1 x2 x3 x4 x5 x6 x7 x8 x9 x10) x16)) ∗ owns (c : Thread nD τ) arg12 fullShare (outScales (next16 (hgOf i x1 x2 x3 x4 x5 x6 x7 x8 x9 x10) x16)) ∗ (∃ y13, owns (c : Thread nD τ) arg13 fullShare y13) ∗ (∃ y14, ⌜Pads y14⌝ ∗ owns (c : Thread nD τ) arg14 fullShare y14) ∗ owns (c : Thread nD τ) arg15 fullShare (next15 (i 0) (hgOf i x1 x2 x3 x4 x5 x6 x7 x8 x9 x10) x15) ∗ owns (c : Thread nD τ) arg16 fullShare (next16 (hgOf i x1 x2 x3 x4 x5 x6 x7 x8 x9 x10) x16)) -∗ K ⟨⟩))
      ⊢ wp frame (wpE (defs₀ (F := F)) Variants.none c none) E (cc0_ffn_up i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
  unfold IsFirst at h1
  simp only [cc0_ffn_up_eq_skeleton]; unfold cc0_ffn_up_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, Hk⟩
  subst hf1 hf2 hf3 hf4 hf5 hf6 hf7 hf8 hf9 hf10 hf11 hf12 hf13 hf14 hf15 hf16
  set_option sl_exec.closedPieces true in
  set_option sl_exec.stopBefore "k0_cond2" in
  sl_exec_parts
  generalize h14 : arg14.view.writes (Elt F) f14 _ = g14
  generalize h15 : arg15.view.writes (Elt F) f15 _ = g15
  generalize h16 : arg16.view.writes (Elt F) f16 _ = g16
  have e14 : arg14.view.writes (Elt F) f14 (st411 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) []) = g14 := h14
  have e15 : arg15.view.writes (Elt F) f15 (gated (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) [] (rdAt arg14.view f14) (BitVec.ofNat 32 (i 0).val) (i 0)) = g15 := h15
  have e16 : arg16.view.writes (Elt F) f16 (mx4 (lx (arg1.view.read (Elt F) f1)) (lsc (arg2.view.read (Elt F) f2)) (lw (arg3.view.read (Elt F) f3) (arg4.view.read (Elt F) f4) (arg5.view.read (Elt F) f5) (arg6.view.read (Elt F) f6)) (ls i (arg7.view.read (Elt F) f7)) (lbias i (arg8.view.read (Elt F) f8)) (ld9 i (arg9.view.read (Elt F) f9)) (ldb i (arg10.view.read (Elt F) f10)) [] (rdAt arg14.view f14) [] (rmAt arg16.view f16) (BitVec.ofNat 32 (i 0).val)) = g16 := h16
  clear h14 h15 h16
  rw [dif_pos h2]
  set_option sl_exec.closedPieces true in
  sl_exec_parts
  sl_step
  generalize h11 : arg11.view.writes (Elt F) f11 _ = g11
  generalize h12 : arg12.view.writes (Elt F) f12 _ = g12
  generalize h13 : arg13.view.writes (Elt F) f13 _ = g13
  have e11 : arg11.view.writes (Elt F) f11 (codesL (arg15.view.read (Elt F) g15) (arg16.view.read (Elt F) g16)) = g11 := h11
  have e12 : arg12.view.writes (Elt F) f12 (scalesL (arg16.view.read (Elt F) g16)) = g12 := h12
  clear h11 h12 h13
  have hrd := reads_at (F := F) arg14.view f14
  have hT : Pads (arg14.view.read (Elt F) (arg14.view.writes (Elt F) f14 [])) := hp
  have hrm := readsM_at (F := F) arg16.view f16
  have p14 : Pads (arg14.view.read (Elt F) g14) := e14 ▸ q411 _ _ _ _ _ hrd [] hT
  have r15 := (congrArg (arg15.view.read (Elt F)) e15).symm.trans (gated_read _ _ _ _ _ _ _ hrd _ hT _ (i 0) arg15.view f15)
  have r16 := (congrArg (arg16.view.read (Elt F)) e16).symm.trans (mx_read _ _ _ _ _ _ _ hrd _ hT hrm _ arg16.view f16)
  have r11 := (congrArg (arg11.view.read (Elt F)) e11).symm.trans (codes_read _ _ arg11.view f11)
  have r12 := (congrArg (arg12.view.read (Elt F)) e12).symm.trans (scales_read _ arg12.view f12)
  rw [r15, r16] at r11
  rw [r16] at r12
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists g11; isplitr; · ipureintro; exact r11
    iexact H11
  isplitl [H12]
  · iexists g12; isplitr; · ipureintro; exact r12
    iexact H12
  isplitl [H13]
  · iexists _, g13; isplitr; · ipureintro; rfl
    iexact H13
  isplitl [H14]
  · iexists _; isplitr; · ipureintro; exact p14
    iexists g14; isplitr; · ipureintro; rfl
    iexact H14
  isplitl [H15]
  · iexists g15; isplitr; · ipureintro; exact r15
    iexact H15
  iexists g16; isplitr; · ipureintro; exact r16
  iexact H16

end Cert.UpIdeal.Hand

end
-- ==== Proof.UpIdealRun.lean ====
/- The `UpIdeal` program's run. Every grid point leaves its tile in the gated scratch and takes it into the running maxima; the
   last writes the results out of both. The staged blocks carry, past the arrays' edges, words that nothing states, so the proof
   data are a relation: tile by tile the scratch holds the point's tile WITH SOME contents past the edges. -/
module

public import proofs.«01_k».proof.Proof.UpIdealBody
public import proofs.«01_k».proof.Proof.Gen.UpIdeal.Launch

@[expose] public section

set_option maxRecDepth 16384

noncomputable section

namespace Cert.UpIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)
open Cert.UpIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratches hold -/

/-- Window `w`'s staging buffer at point `t`, fetched over contents `d`: the block inside the array, `d` past its edge. -/
def held (c : Dev nD) (w : Fin cfg0.W) (t : Fin cfg0.N) (d : (cfg0.win w).block.Idx → Elt F (cfg0.win w).elt) :
    (cfg0.win w).block.Idx → Elt F (cfg0.win w).elt :=
  (cfg0.win w).fill (cfg0.grid.coords t) d (iblk m c w t)

/-- The gated tiles of point `t`, the staged blocks over contents `d` past their arrays' edges. -/
def tileAt (c : Dev nD) (t : Fin cfg0.N) (d : (w : Fin cfg0.W) → (cfg0.win w).block.Idx → Elt F (cfg0.win w).elt) :
    Fin 5 → Fin 2 → Vec F S256x128 .f32 :=
  hgOf (grid0.coords t) (held m c 0 t (d 0)) (held m c 1 t (d 1)) (held m c 2 t (d 2)) (held m c 3 t (d 3)) (held m c 4 t (d 4))
    (held m c 5 t (d 5)) (held m c 6 t (d 6)) (held m c 7 t (d 7)) (held m c 8 t (d 8)) (held m c 9 t (d 9))

/-- `H` is point `t`'s tiles, over some contents past the edges. -/
def TileOk (c : Dev nD) (t : Fin cfg0.N) (H : Fin 5 → Fin 2 → Vec F S256x128 .f32) : Prop := ∃ d, H = tileAt m c t d

/-- The running maxima past `n` points with tiles `H`. -/
def mxUp (H : ℕ → Fin 5 → Fin 2 → Vec F S256x128 .f32) : ℕ → Vec F S5x256x128 .f32
  | 0 => zero16
  | n + 1 => next16 (H n) (mxUp H n)

theorem mxUp_congr (H H' : ℕ → Fin 5 → Fin 2 → Vec F S256x128 .f32) : ∀ n, (∀ j, j < n → H j = H' j) → mxUp H n = mxUp H' n
  | 0, _ => rfl
  | n + 1, h => by
    show next16 (H n) (mxUp H n) = next16 (H' n) (mxUp H' n)
    rw [h n (Nat.lt_succ_self n), mxUp_congr H H' n fun j hj => h j (Nat.lt_succ_of_lt hj)]

/-- The gated scratch with tiles `H`. -/
def slabs (H : ℕ → Fin 5 → Fin 2 → Vec F S256x128 .f32) : Vec F S22x5x256x256 .f32 := fun y => both (H (y 0).val) (y 1) (y 2) (y 3)

/-- What the scratches hold past `n` points. -/
def Carry (c : Dev nD) (n : ℕ) (x15 : Vec F S22x5x256x256 .f32) (x16 : Vec F S5x256x128 .f32) : Prop :=
  ∃ H : ℕ → Fin 5 → Fin 2 → Vec F S256x128 .f32, (∀ j (h : j < cfg0.N), j < n → TileOk m c ⟨j, h⟩ (H j))
    ∧ (∀ y, (y 0).val < n → x15 y = slabs H y) ∧ x16 = mxUp H n

theorem carry_zero (c : Dev nD) (x15 : Vec F S22x5x256x256 .f32) : Carry m c 0 x15 zero16 :=
  ⟨fun _ _ _ _ => zero, fun _ _ h => absurd h (Nat.not_lt_zero _), fun _ h => absurd h (Nat.not_lt_zero _), rfl⟩

/-- A point adds its tile. -/
theorem carry_next (c : Dev nD) (t : Fin cfg0.N) (i : Fin 22) (hi : i.val = t.val) (x15 x16) (H0) (ht : TileOk m c t H0)
    (h : Carry m c t.val x15 x16) : Carry m c (t.val + 1) (next15 i H0 x15) (next16 H0 x16) := by
  obtain ⟨H, h1, h2, h3⟩ := h
  have hlt : ∀ j, j < t.val → Function.update H t.val H0 j = H j := fun j hj => Function.update_of_ne (Nat.ne_of_lt hj) _ _
  refine ⟨Function.update H t.val H0, fun j hj hn => ?_, fun y hy => ?_, ?_⟩
  · by_cases e : j = t.val
    · subst e
      rw [Function.update_self]
      exact ht
    · rw [hlt j (by omega)]
      exact h1 j hj (by omega)
  · unfold next15 slabs
    split
    · rename_i e
      rw [show (y 0).val = t.val from e.trans hi, Function.update_self]
    · rename_i e
      have hl : (y 0).val < t.val := by rw [hi] at e; omega
      rw [hlt _ hl]
      exact h2 y hl
  · show _ = next16 (Function.update H t.val H0 t.val) (mxUp (Function.update H t.val H0) t.val)
    rw [Function.update_self, h3, mxUp_congr _ H t.val hlt]

/-- The invariant past `n` points: before the first, the scratches hold anything. -/
def Phi (c : Dev nD) (n : ℕ) : sProp 𝕄 :=
  iprop(∃ (x14 : Vec F S2x2x304x128 .f32) (x15 : Vec F S22x5x256x256 .f32) (x16 : Vec F S5x256x128 .f32),
    ⌜n ≠ 0 → Pads x14 ∧ Carry m c n x15 x16⌝
      ∗ owns (c : Thread nD τ) (Memref.whole cc0_scratch0) fullShare x14
      ∗ owns (c : Thread nD τ) (Memref.whole cc0_scratch1) fullShare x15
      ∗ owns (c : Thread nD τ) (Memref.whole cc0_scratch2) fullShare x16
      ∗ ∃ r, prngReg c r)

theorem phi_in (c : Dev nD) : Pipeline.ΦA spec0 c ⊢ Phi (F := F) m c 0 := by
  unfold Pipeline.ΦA Phi
  rw [scopedRest0_eq]
  iintro ⟨⟨⟨%f0, H0⟩, ⟨%f1, H1⟩, ⟨%f2, H2⟩⟩, Hr⟩
  iexists f0, f1, f2
  simp only [owns_whole]
  isplitr; · ipureintro; exact fun h => absurd rfl h
  isplitl [H0]; · iexact H0
  isplitl [H1]; · iexact H1
  isplitl [H2]; · iexact H2
  iexact Hr

theorem phi_out (c : Dev nD) (n : ℕ) : Phi (F := F) m c n ⊢ Pipeline.ΦA spec0 c := by
  unfold Pipeline.ΦA Phi
  rw [scopedRest0_eq]
  simp only [owns_whole]
  iintro ⟨%f0, %f1, %f2, -, H0, H1, H2, Hr⟩
  isplitl [H0 H1 H2]
  · isplitl [H0]; · iexists f0; iexact H0
    isplitl [H1]; · iexists f1; iexact H1
    iexists f2; iexact H2
  iexact Hr

/-! ## The pipeline's proof data -/

/-- The results the last point leaves: from every point's tiles. -/
def CodesOk (c : Dev nD) (X : Vec F S5x256x5600 .fp8e4m3) : Prop :=
  ∃ H : ℕ → Fin 5 → Fin 2 → Vec F S256x128 .f32, (∀ j (h : j < cfg0.N), TileOk m c ⟨j, h⟩ (H j)) ∧ X = outCodes (slabs H) (mxUp H 22)
def ScalesOk (c : Dev nD) (X : Vec F S5x252 .f32) : Prop :=
  ∃ H : ℕ → Fin 5 → Fin 2 → Vec F S256x128 .f32, (∀ j (h : j < cfg0.N), TileOk m c ⟨j, h⟩ (H j)) ∧ X = outScales (mxUp H 22)

/-- The proof data: each input's buffer is left as found, and so are the codes' and the scales' before the last point. -/
def rdat (c : Dev nD) : RDat τ (Elt F) Unit ℕ (UR sig nD τ) ℕ cfg0 c where
  A w := V m c (Pipeline.arrRef spec0 w)
  after w t Y X := match w with
    | ⟨0, _⟩ => X = Y
    | ⟨1, _⟩ => X = Y
    | ⟨2, _⟩ => X = Y
    | ⟨3, _⟩ => X = Y
    | ⟨4, _⟩ => X = Y
    | ⟨5, _⟩ => X = Y
    | ⟨6, _⟩ => X = Y
    | ⟨7, _⟩ => X = Y
    | ⟨8, _⟩ => X = Y
    | ⟨9, _⟩ => X = Y
    | ⟨10, _⟩ => (t.val ≠ 21 → X = Y) ∧ (t.val = 21 → CodesOk m c X)
    | ⟨11, _⟩ => (t.val ≠ 21 → X = Y) ∧ (t.val = 21 → ScalesOk m c X)
    | ⟨12, _⟩ => True
  Φ t := Phi m c t.val
  q w := Pipeline.shareOf spec0 w
  owed _ := 0

theorem A_eq (c : Dev nD) (w : Fin cfg0.W) : (rdat m c).A w = V m c (Pipeline.arrRef spec0 w) := by
  dsimp only [rdat]

theorem phi_cast (c : Dev nD) (t : Fin cfg0.N) : (rdat m c).Φ t.castSucc = Phi m c t.val := by
  dsimp only [rdat]; exact congrArg (Phi m c) (Fin.val_castSucc t)
theorem phi_succ (c : Dev nD) (t : Fin cfg0.N) : (rdat m c).Φ t.succ = Phi m c (t.val + 1) := by
  dsimp only [rdat]; exact congrArg (Phi m c) (Fin.val_succ t)

theorem after_0 (c : Dev nD) (t : Fin cfg0.N) (Y X) : (rdat m c).after 0 t Y X = (X = Y) := by dsimp only [rdat]
theorem after_1 (c : Dev nD) (t : Fin cfg0.N) (Y X) : (rdat m c).after 1 t Y X = (X = Y) := by dsimp only [rdat]
theorem after_2 (c : Dev nD) (t : Fin cfg0.N) (Y X) : (rdat m c).after 2 t Y X = (X = Y) := by dsimp only [rdat]
theorem after_3 (c : Dev nD) (t : Fin cfg0.N) (Y X) : (rdat m c).after 3 t Y X = (X = Y) := by dsimp only [rdat]
theorem after_4 (c : Dev nD) (t : Fin cfg0.N) (Y X) : (rdat m c).after 4 t Y X = (X = Y) := by dsimp only [rdat]
theorem after_5 (c : Dev nD) (t : Fin cfg0.N) (Y X) : (rdat m c).after 5 t Y X = (X = Y) := by dsimp only [rdat]
theorem after_6 (c : Dev nD) (t : Fin cfg0.N) (Y X) : (rdat m c).after 6 t Y X = (X = Y) := by dsimp only [rdat]
theorem after_7 (c : Dev nD) (t : Fin cfg0.N) (Y X) : (rdat m c).after 7 t Y X = (X = Y) := by dsimp only [rdat]
theorem after_8 (c : Dev nD) (t : Fin cfg0.N) (Y X) : (rdat m c).after 8 t Y X = (X = Y) := by dsimp only [rdat]
theorem after_9 (c : Dev nD) (t : Fin cfg0.N) (Y X) : (rdat m c).after 9 t Y X = (X = Y) := by dsimp only [rdat]
theorem after_10 (c : Dev nD) (t : Fin cfg0.N) (Y X) :
    (rdat m c).after 10 t Y X = ((t.val ≠ 21 → X = Y) ∧ (t.val = 21 → CodesOk m c X)) := by dsimp only [rdat]
theorem after_11 (c : Dev nD) (t : Fin cfg0.N) (Y X) :
    (rdat m c).after 11 t Y X = ((t.val ≠ 21 → X = Y) ∧ (t.val = 21 → ScalesOk m c X)) := by dsimp only [rdat]
theorem after_12 (c : Dev nD) (t : Fin cfg0.N) (Y X) : (rdat m c).after 12 t Y X = True := by dsimp only [rdat]

/-- What a fetch fills a buffer with, read off the region-entry contents. -/
theorem fetched_eq (c : Dev nD) (w : Fin cfg0.W) (t : Fin cfg0.N) (d) : (rdat m c).fetched w t d = held m c w t d := by
  unfold RDat.fetched RDat.blockOf held iblk
  rw [A_eq]

/-- An input window's buffer holds, at every point, its block over some contents past the edge. -/
theorem finds_in (c : Dev nD) (w : Fin cfg0.W) (hw : (cfg0.win w).isOut = false)
    (hclip : ∀ t t' : Fin cfg0.N, (cfg0.win w).index t = (cfg0.win w).index t' →
      (cfg0.win w).clip (cfg0.grid.coords t) = (cfg0.win w).clip (cfg0.grid.coords t'))
    (hkeep : ∀ t Y X, (rdat m c).after w t Y X → X = Y) (t : Fin cfg0.N) (Y) (h : (rdat m c).Finds w t Y) :
    ∃ d, Y = held m c w t d := by
  obtain ⟨d, hd⟩ := RDat.finds_in_eq_fetched (rdat m c) w hw hclip hkeep t Y h
  exact ⟨d, hd.trans (fetched_eq m c w t d)⟩

theorem finds_0 (c : Dev nD) (t : Fin cfg0.N) (Y) (h : (rdat m c).Finds 0 t Y) : ∃ d, Y = held m c 0 t d :=
  finds_in m c 0 rfl (fun t t' h => by funext a; exact congrArg (fun n => Pipeline.Clip.of n _ _) (congrFun h a)) (fun t Y X h => by rwa [after_0] at h) t Y h
theorem finds_1 (c : Dev nD) (t : Fin cfg0.N) (Y) (h : (rdat m c).Finds 1 t Y) : ∃ d, Y = held m c 1 t d :=
  finds_in m c 1 rfl (fun _ _ _ => rfl) (fun t Y X h => by rwa [after_1] at h) t Y h
theorem finds_2 (c : Dev nD) (t : Fin cfg0.N) (Y) (h : (rdat m c).Finds 2 t Y) : ∃ d, Y = held m c 2 t d :=
  finds_in m c 2 rfl (fun t t' h => by funext a; exact congrArg (fun n => Pipeline.Clip.of n _ _) (congrFun h a)) (fun t Y X h => by rwa [after_2] at h) t Y h
theorem finds_3 (c : Dev nD) (t : Fin cfg0.N) (Y) (h : (rdat m c).Finds 3 t Y) : ∃ d, Y = held m c 3 t d :=
  finds_in m c 3 rfl (fun t t' h => by funext a; exact congrArg (fun n => Pipeline.Clip.of n _ _) (congrFun h a)) (fun t Y X h => by rwa [after_3] at h) t Y h
theorem finds_4 (c : Dev nD) (t : Fin cfg0.N) (Y) (h : (rdat m c).Finds 4 t Y) : ∃ d, Y = held m c 4 t d :=
  finds_in m c 4 rfl (fun t t' h => by funext a; exact congrArg (fun n => Pipeline.Clip.of n _ _) (congrFun h a)) (fun t Y X h => by rwa [after_4] at h) t Y h
theorem finds_5 (c : Dev nD) (t : Fin cfg0.N) (Y) (h : (rdat m c).Finds 5 t Y) : ∃ d, Y = held m c 5 t d :=
  finds_in m c 5 rfl (fun t t' h => by funext a; exact congrArg (fun n => Pipeline.Clip.of n _ _) (congrFun h a)) (fun t Y X h => by rwa [after_5] at h) t Y h
theorem finds_6 (c : Dev nD) (t : Fin cfg0.N) (Y) (h : (rdat m c).Finds 6 t Y) : ∃ d, Y = held m c 6 t d :=
  finds_in m c 6 rfl (fun t t' h => by funext a; exact congrArg (fun n => Pipeline.Clip.of n _ _) (congrFun h a)) (fun t Y X h => by rwa [after_6] at h) t Y h
theorem finds_7 (c : Dev nD) (t : Fin cfg0.N) (Y) (h : (rdat m c).Finds 7 t Y) : ∃ d, Y = held m c 7 t d :=
  finds_in m c 7 rfl (fun t t' h => by funext a; exact congrArg (fun n => Pipeline.Clip.of n _ _) (congrFun h a)) (fun t Y X h => by rwa [after_7] at h) t Y h
theorem finds_8 (c : Dev nD) (t : Fin cfg0.N) (Y) (h : (rdat m c).Finds 8 t Y) : ∃ d, Y = held m c 8 t d :=
  finds_in m c 8 rfl (fun t t' h => by funext a; exact congrArg (fun n => Pipeline.Clip.of n _ _) (congrFun h a)) (fun t Y X h => by rwa [after_8] at h) t Y h
theorem finds_9 (c : Dev nD) (t : Fin cfg0.N) (Y) (h : (rdat m c).Finds 9 t Y) : ∃ d, Y = held m c 9 t d :=
  finds_in m c 9 rfl (fun t t' h => by funext a; exact congrArg (fun n => Pipeline.Clip.of n _ _) (congrFun h a)) (fun t Y X h => by rwa [after_9] at h) t Y h

/-- The tiles of the blocks found at a point are that point's. -/
theorem tile_found (c : Dev nD) (t : Fin cfg0.N) (Y : (w : Fin cfg0.W) → (cfg0.win w).block.Idx → Elt F (cfg0.win w).elt)
    (hY : ∀ w, (rdat m c).Finds w t (Y w)) :
    TileOk m c t (hgOf (grid0.coords t) (Y 0) (Y 1) (Y 2) (Y 3) (Y 4) (Y 5) (Y 6) (Y 7) (Y 8) (Y 9)) := by
  obtain ⟨d0, h0⟩ := finds_0 m c t _ (hY 0)
  obtain ⟨d1, h1⟩ := finds_1 m c t _ (hY 1)
  obtain ⟨d2, h2⟩ := finds_2 m c t _ (hY 2)
  obtain ⟨d3, h3⟩ := finds_3 m c t _ (hY 3)
  obtain ⟨d4, h4⟩ := finds_4 m c t _ (hY 4)
  obtain ⟨d5, h5⟩ := finds_5 m c t _ (hY 5)
  obtain ⟨d6, h6⟩ := finds_6 m c t _ (hY 6)
  obtain ⟨d7, h7⟩ := finds_7 m c t _ (hY 7)
  obtain ⟨d8, h8⟩ := finds_8 m c t _ (hY 8)
  obtain ⟨d9, h9⟩ := finds_9 m c t _ (hY 9)
  refine ⟨fun w => match w with
    | ⟨0, _⟩ => d0
    | ⟨1, _⟩ => d1
    | ⟨2, _⟩ => d2
    | ⟨3, _⟩ => d3
    | ⟨4, _⟩ => d4
    | ⟨5, _⟩ => d5
    | ⟨6, _⟩ => d6
    | ⟨7, _⟩ => d7
    | ⟨8, _⟩ => d8
    | ⟨9, _⟩ => d9
    | ⟨10, _⟩ => Y 10
    | ⟨11, _⟩ => Y 11
    | ⟨12, _⟩ => Y 12, ?_⟩
  unfold tileAt
  rw [h0, h1, h2, h3, h4, h5, h6, h7, h8, h9]

/-! ## The body obligation -/

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

theorem coord_val : ∀ t : Fin cfg0.N, (grid0.coords t 0).val = t.val := by decide +kernel
theorem first_iff : ∀ t : Fin cfg0.N, IsFirst (grid0.coords t) ↔ t.val = 0 := by decide +kernel
theorem last_iff : ∀ t : Fin cfg0.N, k0_cond2 (grid0.coords t) = 1#1 ↔ t.val = 21 := by decide +kernel

/-- Past the last point every tile is there, and the results are those of all the tiles. -/
theorem carry_last (c : Dev nD) (x15 : Vec F S22x5x256x256 .f32) (x16 : Vec F S5x256x128 .f32) (h : Carry m c 22 x15 x16) :
    CodesOk m c (outCodes x15 x16) ∧ ScalesOk m c (outScales x16) := by
  obtain ⟨H, h1, h2, h3⟩ := h
  have e : x15 = slabs H := funext fun y => h2 y (y 0).isLt
  subst e h3
  have hN : cfg0.N = 22 := N_0
  exact ⟨⟨H, fun j hj => h1 j hj (by omega), rfl⟩, ⟨H, fun j hj => h1 j hj (by omega), rfl⟩⟩

set_option maxHeartbeats 2000000 in
theorem body_obligation (c : Dev nD) : (rdat (F := F) m c).BodyObligation (defs₀ (F := F)) Variants.none () Set.univ := fun t Y hY => by
  rw [bigSep_W0, bigSep_W0, defs₀_row]
  rw [phi_cast, phi_succ, show (rdat m c).owesAt () t.succ = (rdat m c).owesAt () t.castSucc from rfl]
  have ht := tile_found m c t Y hY
  simp only [after_0, after_1, after_2, after_3, after_4, after_5, after_6, after_7, after_8, after_9, after_10, after_11, after_12]
  unfold bodyAt0 Phi
  iintro ⟨⟨%x14, %x15, %x16, %hI, HA, HB, HC, Hr⟩, Ho, H0, H1, H2, H3, H4, H5, H6, H7, H8, H9, H10, H11, H12⟩
  by_cases h0 : t.val = 0
  · have hl : t.val ≠ 21 := by omega
    have hn := carry_next m c t (grid0.coords t 0) (coord_val t) x15 zero16 _ ht (h0 ▸ carry_zero m c x15)
    iapply (kernel_first c Set.univ (grid0.coords t) _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) x14 x15 x16 _ ((first_iff t).mpr h0) (fun h => hl ((last_iff t).mp h)))
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [HA]; · iexact HA
    isplitl [HB]; · iexact HB
    isplitl [HC]; · iexact HC
    iintro ⟨H0, H1, H2, H3, H4, H5, H6, H7, H8, H9, H10, H11, ⟨%y13, H12⟩, ⟨%y14, %hy14, HA⟩, HB, HC⟩
    isplitl [HA HB HC Hr]
    · iexists _, _, _; isplitr; swap
      · isplitl [HA]; · iexact HA
        isplitl [HB]; · iexact HB
        isplitl [HC]; · iexact HC
        iexact Hr
      ipureintro; exact fun _ => ⟨hy14, hn⟩
    isplitl [Ho]; · iexact Ho
    isplitl [H0]; · iexists _; isplitr; swap; · iexact H0
                    ipureintro; rfl
    isplitl [H1]; · iexists _; isplitr; swap; · iexact H1
                    ipureintro; rfl
    isplitl [H2]; · iexists _; isplitr; swap; · iexact H2
                    ipureintro; rfl
    isplitl [H3]; · iexists _; isplitr; swap; · iexact H3
                    ipureintro; rfl
    isplitl [H4]; · iexists _; isplitr; swap; · iexact H4
                    ipureintro; rfl
    isplitl [H5]; · iexists _; isplitr; swap; · iexact H5
                    ipureintro; rfl
    isplitl [H6]; · iexists _; isplitr; swap; · iexact H6
                    ipureintro; rfl
    isplitl [H7]; · iexists _; isplitr; swap; · iexact H7
                    ipureintro; rfl
    isplitl [H8]; · iexists _; isplitr; swap; · iexact H8
                    ipureintro; rfl
    isplitl [H9]; · iexists _; isplitr; swap; · iexact H9
                    ipureintro; rfl
    isplitl [H10]; · iexists _; isplitr; swap; · iexact H10
                     ipureintro; exact ⟨fun _ => rfl, fun h => absurd h hl⟩
    isplitl [H11]; · iexists _; isplitr; swap; · iexact H11
                     ipureintro; exact ⟨fun _ => rfl, fun h => absurd h hl⟩
    iexists _; isplitr; swap; · iexact H12
    ipureintro; trivial

  · obtain ⟨hp, hC⟩ := hI h0
    have hn := carry_next m c t (grid0.coords t 0) (coord_val t) x15 x16 _ ht hC
    by_cases hl : t.val = 21
    · have hc := carry_last m c _ _ (show Carry m c 22 _ _ by have e : t.val + 1 = 22 := by omega
                                                              rw [← e]; exact hn)
      obtain ⟨hc10, hc11⟩ := hc
      iapply (kernel_last c Set.univ (grid0.coords t) _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) x14 x15 x16 _ (fun h => h0 ((first_iff t).mp h)) ((last_iff t).mpr hl) hp)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HA]; · iexact HA
      isplitl [HB]; · iexact HB
      isplitl [HC]; · iexact HC
      iintro ⟨H0, H1, H2, H3, H4, H5, H6, H7, H8, H9, H10, H11, ⟨%y13, H12⟩, ⟨%y14, %hy14, HA⟩, HB, HC⟩
      isplitl [HA HB HC Hr]
      · iexists _, _, _; isplitr; swap
        · isplitl [HA]; · iexact HA
          isplitl [HB]; · iexact HB
          isplitl [HC]; · iexact HC
          iexact Hr
        ipureintro; exact fun _ => ⟨hy14, hn⟩
      isplitl [Ho]; · iexact Ho
      isplitl [H0]; · iexists _; isplitr; swap; · iexact H0
                      ipureintro; rfl
      isplitl [H1]; · iexists _; isplitr; swap; · iexact H1
                      ipureintro; rfl
      isplitl [H2]; · iexists _; isplitr; swap; · iexact H2
                      ipureintro; rfl
      isplitl [H3]; · iexists _; isplitr; swap; · iexact H3
                      ipureintro; rfl
      isplitl [H4]; · iexists _; isplitr; swap; · iexact H4
                      ipureintro; rfl
      isplitl [H5]; · iexists _; isplitr; swap; · iexact H5
                      ipureintro; rfl
      isplitl [H6]; · iexists _; isplitr; swap; · iexact H6
                      ipureintro; rfl
      isplitl [H7]; · iexists _; isplitr; swap; · iexact H7
                      ipureintro; rfl
      isplitl [H8]; · iexists _; isplitr; swap; · iexact H8
                      ipureintro; rfl
      isplitl [H9]; · iexists _; isplitr; swap; · iexact H9
                      ipureintro; rfl
      isplitl [H10]; · iexists _; isplitr; swap; · iexact H10
                       ipureintro; exact ⟨fun h => absurd hl h, fun _ => hc10⟩
      isplitl [H11]; · iexists _; isplitr; swap; · iexact H11
                       ipureintro; exact ⟨fun h => absurd hl h, fun _ => hc11⟩
      iexists _; isplitr; swap; · iexact H12
      ipureintro; trivial

    · skip
      iapply (kernel_mid c Set.univ (grid0.coords t) _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) x14 x15 x16 _ (fun h => h0 ((first_iff t).mp h)) (fun h => hl ((last_iff t).mp h)) hp)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [HA]; · iexact HA
      isplitl [HB]; · iexact HB
      isplitl [HC]; · iexact HC
      iintro ⟨H0, H1, H2, H3, H4, H5, H6, H7, H8, H9, H10, H11, ⟨%y13, H12⟩, ⟨%y14, %hy14, HA⟩, HB, HC⟩
      isplitl [HA HB HC Hr]
      · iexists _, _, _; isplitr; swap
        · isplitl [HA]; · iexact HA
          isplitl [HB]; · iexact HB
          isplitl [HC]; · iexact HC
          iexact Hr
        ipureintro; exact fun _ => ⟨hy14, hn⟩
      isplitl [Ho]; · iexact Ho
      isplitl [H0]; · iexists _; isplitr; swap; · iexact H0
                      ipureintro; rfl
      isplitl [H1]; · iexists _; isplitr; swap; · iexact H1
                      ipureintro; rfl
      isplitl [H2]; · iexists _; isplitr; swap; · iexact H2
                      ipureintro; rfl
      isplitl [H3]; · iexists _; isplitr; swap; · iexact H3
                      ipureintro; rfl
      isplitl [H4]; · iexists _; isplitr; swap; · iexact H4
                      ipureintro; rfl
      isplitl [H5]; · iexists _; isplitr; swap; · iexact H5
                      ipureintro; rfl
      isplitl [H6]; · iexists _; isplitr; swap; · iexact H6
                      ipureintro; rfl
      isplitl [H7]; · iexists _; isplitr; swap; · iexact H7
                      ipureintro; rfl
      isplitl [H8]; · iexists _; isplitr; swap; · iexact H8
                      ipureintro; rfl
      isplitl [H9]; · iexists _; isplitr; swap; · iexact H9
                      ipureintro; rfl
      isplitl [H10]; · iexists _; isplitr; swap; · iexact H10
                       ipureintro; exact ⟨fun _ => rfl, fun h => absurd h hl⟩
      isplitl [H11]; · iexists _; isplitr; swap; · iexact H11
                       ipureintro; exact ⟨fun _ => rfl, fun h => absurd h hl⟩
      iexists _; isplitr; swap; · iexact H12
      ipureintro; trivial

/-! ## The run and the frame -/

set_option backward.isDefEq.respectTransparency.types false in
set_option maxHeartbeats 800000 in
/-- Every weakly fair execution ends with each array as the proof data say and every semaphore counter at zero. -/
theorem run : θ_run defs (onTc (τ := τ) (main (F := F))) (s₀ m ρ) (fun r => RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl)
    (howed := fun _ _ => rfl) (V := V m) (hmain := hmain m Variants.none) (hA := A_eq m)
    (hin := fun c => phi_in m c) (hout := fun c => phi_out m c _)
    (hQ' := fun _ h => h)

/-- The arguments end as they were. -/
theorem args_unchanged {r : PUnit × MemSt nD τ sig (Elt F)} (h : RDat.FramePost cfg0 (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).2 main_arg0 (by decide)).trans (V_main_arg0 m c),
   ((h c).2 main_arg1 (by decide)).trans (V_main_arg1 m c),
   ((h c).2 main_arg2 (by decide)).trans (V_main_arg2 m c),
   ((h c).2 main_arg3 (by decide)).trans (V_main_arg3 m c),
   ((h c).2 main_arg4 (by decide)).trans (V_main_arg4 m c),
   ((h c).2 main_arg5 (by decide)).trans (V_main_arg5 m c),
   ((h c).2 main_arg6 (by decide)).trans (V_main_arg6 m c)⟩

/-- The frame: the program runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨args_unchanged m h.1, h.2⟩) (run m ρ)

end Cert.UpIdeal.Hand

end
-- ==== Proof.UpRun.lean ====
/- The `Up` program's frame. -/
module

public import proofs.«01_k».proof.Proof.UpIdealRun
public import proofs.«01_k».proof.Proof.Gen.Up

@[expose] public section

set_option maxRecDepth 65536

noncomputable section

namespace Cert.Up.Hand

open Idealize.ShloMosaic Idealize.ShloMosaic.TcCoe Idealize.SL.Sem

variable {F : FTy → Type} [FloatOps F]
variable (m : (ℓ : Loc nD τ sig) → Buf (Elt F) ℓ) (ρ : Dev nD → PrngReg)

/-- The program and the idealized program are printed alike: their bodies are one, -/
theorem body_same (i) (a1 h1 a2 h2 a3 h3 a4 h4 a5 h5 a6 h6 a7 h7 a8 h8 a9 h9 a10 h10 a11 h11 a12 h12 a13 h13 a14 h14 a15 h15 a16 h16) :
    cc0_ffn_up (F := F) i a1 h1 a2 h2 a3 h3 a4 h4 a5 h5 a6 h6 a7 h7 a8 h8 a9 h9 a10 h10 a11 h11 a12 h12 a13 h13 a14 h14 a15 h15 a16 h16
      = Cert.UpIdeal.cc0_ffn_up (F := F) i a1 h1 a2 h2 a3 h3 a4 h4 a5 h5 a6 h6 a7 h7 a8 h8 a9 h9 a10 h10 a11 h11 a12 h12 a13 h13 a14 h14 a15 h15 a16 h16 := by
  with_unfolding_all rfl

/-- their pipelines' bodies are one, -/
theorem defs₀_same : (defs₀ (F := F)) = Cert.UpIdeal.defs₀ (F := F) := by
  refine congrArg Defs.onTc (funext fun l => funext fun a => ?_)
  match l, a with
  | 0, (t, s) => exact body_same ..
  | ⟨_ + 1, h⟩, _ => exact absurd h (Nat.not_lt.2 (Nat.le_add_left _ _))

/-- and so are the whole definitions, -/
theorem defs_same : (defs (F := F)) = Cert.UpIdeal.defs (F := F) :=
  congrArg (Pipeline.defs pcfgs) defs₀_same

set_option maxHeartbeats 4000000 in
/-- and what the host runs. -/
theorem main_same : (main (F := F)) = Cert.UpIdeal.main (F := F) := by with_unfolding_all rfl

/-- The frame: the program runs to the end, its arguments unchanged, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_same, main_same]
  exact Cert.UpIdeal.Hand.frame m ρ

end Cert.Up.Hand

end
-- ==== Proof.UpIdealHeld.lean ====
/-
  The staged blocks of the up projection, inside their arrays: what each holds of the arguments.
-/
module

public import proofs.«01_k».proof.Proof.UpIdealRun
public import Idealize.ShloMosaic.Lib.Pointwise
public import Idealize.ShloMosaic.Lib.Pipeline.ValueKit

@[expose] public section

set_option maxRecDepth 16384

noncomputable section

namespace Cert.UpIdeal.Hand

open Idealize.ShloMosaic Idealize.ShloMosaic.TcCoe Idealize.ShloMosaic.Tactic
open Idealize.SL Idealize.SL.RA Idealize.SL.Sem
open Idealize.ShloMosaic.Pipeline (RDat Dat Cfg Window cellOf)
open Cert.UpIdeal.Gen

variable (m : (ℓ : Loc nD τ sig) → Buf (Elt Ideal) ℓ)

/-- Which rows and columns of a block lie inside its array. -/
theorem xsize_eq : ∀ t : Fin cfg0.N,
    win0_0.xsize (grid0.coords t) = ![5, 252, 2240] ∧ win0_1.xsize (grid0.coords t) = ![5, 256, 128]
    ∧ win0_2.xsize (grid0.coords t) = ![2240, 256] ∧ win0_3.xsize (grid0.coords t) = ![2240, 128]
    ∧ win0_4.xsize (grid0.coords t) = ![2240, 128] ∧ win0_5.xsize (grid0.coords t) = ![2240, min 128 (11200 - 128 * (45 + 2 * t.val))]
    ∧ win0_6.xsize (grid0.coords t) = ![1, 11200] ∧ win0_7.xsize (grid0.coords t) = ![1, 11200]
    ∧ win0_8.xsize (grid0.coords t) = ![9, 11200] ∧ win0_9.xsize (grid0.coords t) = ![1, 11200]
    ∧ win0_10.xsize (grid0.coords t) = ![5, 252, 5600] ∧ win0_11.xsize (grid0.coords t) = ![5, 252] := by
  decide +kernel

/-- Where a block lies. -/
theorem index_eq : ∀ t : Fin cfg0.N,
    win0_0.index t = ![0, 0, 0] ∧ win0_1.index t = ![0, 0, 0]
    ∧ win0_2.index t = ![0, t.val] ∧ win0_3.index t = ![0, 43 + 2 * t.val]
    ∧ win0_4.index t = ![0, 44 + 2 * t.val] ∧ win0_5.index t = ![0, 45 + 2 * t.val]
    ∧ win0_6.index t = ![0, 0] ∧ win0_7.index t = ![0, 0]
    ∧ win0_8.index t = ![0, 0] ∧ win0_9.index t = ![0, 0]
    ∧ win0_10.index t = ![0, 0, 0] ∧ win0_11.index t = ![0, 0] := by
  decide +kernel

theorem held_moved (c : Dev nD) (w : Fin cfg0.W) (t : Fin cfg0.N) (d) (j : (cfg0.win w).block.Idx)
    (h : ∀ a, (j a).val < (cfg0.win w).xsize (cfg0.grid.coords t) a) :
    held m c w t d j = iblk m c w t fun a => ⟨(j a).val, h a⟩ := by
  unfold held Window.fill
  rw [dif_pos (((cfg0.win w).moved_iff _ j).mpr h)]

/-- A padded scale column repeated over the lanes, read in a row that is not padding. -/
theorem col_apply (x : S5x252.Idx → EReal) (b : Fin 5) (n : Fin 256) (h : n.val < 252) (l : Fin 128) :
    broadcastInDim S5x256x128 ![0, 1, 2] bcast_S5x256x1_S5x256x128_0_1_2 (broadcastInDim S5x256x1 ![0, 1] bcast_S5x256_S5x256x1_0_1
      (pad (α := Ideal .f32) S5x256 ![0, 0] ![0, 4] ![0, 0] x (constant (F := Ideal) S_ .f32 0x3F800000#32) pads_S5x252_S5x256_000_040 h_S_)) (ix3 b n l) = x (ix2 b ⟨n.val, h⟩) := by
  pointwise
  exact dif_pos h

/-- The depthwise taps with the two tap axes flattened into one. -/
theorem taps_apply (x : S3x3x11200.Idx → EReal) (p q : Fin 3) (l : Fin 11200) (r : Fin 9) (hr : r.val = 3 * p.val + q.val) :
    shapeCast S9x11200 x shapeCasts_S3x3x11200_S9x11200 (ix2 r l) = x (ix3 p q l) :=
  shapeCast_apply x _ _ _ (by
    rw [Shape.rowMajor_val_three, Shape.rowMajor_val_two]
    show (p.val * 3 + q.val) * 11200 + l.val = r.val * 11200 + l.val
    omega)

/-- A vector written as a row. -/
theorem row_apply (x : S11200.Idx → EReal) (l : Fin 11200) :
    shapeCast S1x11200 x shapeCasts_S11200_S1x11200 (ix2 0 l) = x (ix1 l) :=
  shapeCast_apply x _ _ _ (by
    rw [Shape.rowMajor_val_two, Shape.rowMajor_val_one]
    show l.val = 0 * 11200 + l.val
    omega)

/-! ## The arrays the host hands to the kernel -/

/-- The scales: a column of ones under them, then every row repeated over the lanes. -/
theorem V_main_v2 (c : Dev nD) : V m c main_v2 =
    broadcastInDim S5x256x128 ![0, 1, 2] bcast_S5x256x1_S5x256x128_0_1_2 (broadcastInDim S5x256x1 ![0, 1] bcast_S5x256_S5x256x1_0_1
      (pad (α := Ideal .f32) S5x256 ![0, 0] ![0, 4] ![0, 0] (m ((c : Thread nD τ).loc main_arg1)) (constant (F := Ideal) S_ .f32 0x3F800000#32) pads_S5x252_S5x256_000_040 h_S_)) := rfl

/-- The depthwise taps, nine rows. -/
theorem V_main_v7 (c : Dev nD) : V m c main_v7 = shapeCast S9x11200 (m ((c : Thread nD τ).loc main_arg5)) shapeCasts_S3x3x11200_S9x11200 := rfl

/-- The weight scales, as a row. -/
theorem V_main_v5 (c : Dev nD) : V m c main_v5 = shapeCast S1x11200 (m ((c : Thread nD τ).loc main_arg3)) shapeCasts_S11200_S1x11200 := rfl

/-- The first bias, as a row. -/
theorem V_main_v6 (c : Dev nD) : V m c main_v6 = shapeCast S1x11200 (m ((c : Thread nD τ).loc main_arg4)) shapeCasts_S11200_S1x11200 := rfl

/-- The depthwise bias, as a row. -/
theorem V_main_v8 (c : Dev nD) : V m c main_v8 = shapeCast S1x11200 (m ((c : Thread nD τ).loc main_arg6)) shapeCasts_S11200_S1x11200 := rfl

/-! ## What each staged block holds inside the array -/

/-- The activation codes, every row that exists. -/
theorem held0 (c : Dev nD) (t : Fin cfg0.N) (d) (b : Fin 5) (n : Fin 256) (h : n.val < 252) (k : Fin 2240) :
    held m c 0 t d (ix3 b n k) = m ((c : Thread nD τ).loc main_arg0) (ix3 b ⟨n.val, h⟩ k) := by
  have hx := (xsize_eq t).1
  have hi := (index_eq t).1
  rw [held_moved m c 0 t d _ (fun z => by
    show _ < win0_0.xsize (grid0.coords t) z
    rw [hx]; fin_cases z <;> [exact b.isLt; exact h; exact k.isLt])]
  blk_simp [iblk]
  entry_read
  pointwise
  blk_ext [hi]

/-- The activation scales, repeated over the lanes. -/
theorem held1 (c : Dev nD) (t : Fin cfg0.N) (d) (b : Fin 5) (n : Fin 256) (h : n.val < 252) (l : Fin 128) :
    held m c 1 t d (ix3 b n l) = m ((c : Thread nD τ).loc main_arg1) (ix2 b ⟨n.val, h⟩) := by
  have hx := (xsize_eq t).2.1
  have hi := (index_eq t).2.1
  rw [held_moved m c 1 t d _ (fun z => by
    show _ < win0_1.xsize (grid0.coords t) z
    rw [hx]; fin_cases z <;> [exact b.isLt; exact n.isLt; exact l.isLt])]
  refine (congrFun (V_main_v2 m c) _).trans ?_
  refine Eq.trans (congrArg _ ?_) (col_apply _ b n h l)
  blk_ext [hi]

/-- The value half of the weights: 256 columns from `256 t` on. -/
theorem held2 (c : Dev nD) (t : Fin cfg0.N) (d) (k : Fin 2240) (l : Fin 256) :
    held m c 2 t d (ix2 k l) = m ((c : Thread nD τ).loc main_arg2) (ix2 k ⟨256 * t.val + l.val, by have : t.val < 22 := t.isLt; omega⟩) := by
  have hx := (xsize_eq t).2.2.1
  have hi := (index_eq t).2.2.1
  rw [held_moved m c 2 t d _ (fun z => by
    show _ < win0_2.xsize (grid0.coords t) z
    rw [hx]; fin_cases z <;> [exact k.isLt; exact l.isLt])]
  blk_simp [iblk]
  entry_read
  pointwise
  blk_ext [hi]

/-- The gate half of the weights: 128 columns from `128 (43 + 2 t)` on. -/
theorem held3 (c : Dev nD) (t : Fin cfg0.N) (d) (k : Fin 2240) (l : Fin 128) (h : 128 * (43 + 2 * t.val) + l.val < 11200) :
    held m c 3 t d (ix2 k l) = m ((c : Thread nD τ).loc main_arg2) (ix2 k ⟨128 * (43 + 2 * t.val) + l.val, h⟩) := by
  have hx := (xsize_eq t).2.2.2.1
  have hi := (index_eq t).2.2.2.1
  rw [held_moved m c 3 t d _ (fun z => by
    show _ < win0_3.xsize (grid0.coords t) z
    rw [hx]; fin_cases z <;> [exact k.isLt; exact l.isLt])]
  blk_simp [iblk]
  entry_read
  pointwise
  blk_ext [hi]

/-- The gate half of the weights: 128 columns from `128 (44 + 2 t)` on. -/
theorem held4 (c : Dev nD) (t : Fin cfg0.N) (d) (k : Fin 2240) (l : Fin 128) (h : 128 * (44 + 2 * t.val) + l.val < 11200) :
    held m c 4 t d (ix2 k l) = m ((c : Thread nD τ).loc main_arg2) (ix2 k ⟨128 * (44 + 2 * t.val) + l.val, h⟩) := by
  have hx := (xsize_eq t).2.2.2.2.1
  have hi := (index_eq t).2.2.2.2.1
  rw [held_moved m c 4 t d _ (fun z => by
    show _ < win0_4.xsize (grid0.coords t) z
    rw [hx]; fin_cases z <;> [exact k.isLt; exact l.isLt])]
  blk_simp [iblk]
  entry_read
  pointwise
  blk_ext [hi]

/-- The gate half of the weights: 128 columns from `128 (45 + 2 t)` on. -/
theorem held5 (c : Dev nD) (t : Fin cfg0.N) (d) (k : Fin 2240) (l : Fin 128) (h : 128 * (45 + 2 * t.val) + l.val < 11200) :
    held m c 5 t d (ix2 k l) = m ((c : Thread nD τ).loc main_arg2) (ix2 k ⟨128 * (45 + 2 * t.val) + l.val, h⟩) := by
  have hx := (xsize_eq t).2.2.2.2.2.1
  have hi := (index_eq t).2.2.2.2.2.1
  rw [held_moved m c 5 t d _ (fun z => by
    show _ < win0_5.xsize (grid0.coords t) z
    rw [hx]; fin_cases z <;> [exact k.isLt; exact lt_min l.isLt (show l.val < 11200 - 128 * (45 + 2 * t.val) by omega)])]
  blk_simp [iblk]
  entry_read
  pointwise
  blk_ext [hi]

/-- The weight scales. -/
theorem held6 (c : Dev nD) (t : Fin cfg0.N) (d) (l : Fin 11264) (h : l.val < 11200) :
    held m c 6 t d (ix2 0 l) = m ((c : Thread nD τ).loc main_arg3) (ix1 ⟨l.val, h⟩) := by
  have hx := (xsize_eq t).2.2.2.2.2.2.1
  have hi := (index_eq t).2.2.2.2.2.2.1
  rw [held_moved m c 6 t d _ (fun z => by
    show _ < win0_6.xsize (grid0.coords t) z
    rw [hx]; fin_cases z <;> [exact Nat.one_pos; exact h])]
  refine (congrFun (V_main_v5 m c) _).trans ?_
  refine Eq.trans (congrArg _ ?_) (row_apply _ ⟨l.val, h⟩)
  blk_ext [hi]

/-- The first bias. -/
theorem held7 (c : Dev nD) (t : Fin cfg0.N) (d) (l : Fin 11264) (h : l.val < 11200) :
    held m c 7 t d (ix2 0 l) = m ((c : Thread nD τ).loc main_arg4) (ix1 ⟨l.val, h⟩) := by
  have hx := (xsize_eq t).2.2.2.2.2.2.2.1
  have hi := (index_eq t).2.2.2.2.2.2.2.1
  rw [held_moved m c 7 t d _ (fun z => by
    show _ < win0_7.xsize (grid0.coords t) z
    rw [hx]; fin_cases z <;> [exact Nat.one_pos; exact h])]
  refine (congrFun (V_main_v6 m c) _).trans ?_
  refine Eq.trans (congrArg _ ?_) (row_apply _ ⟨l.val, h⟩)
  blk_ext [hi]

/-- The depthwise bias. -/
theorem held9 (c : Dev nD) (t : Fin cfg0.N) (d) (l : Fin 11264) (h : l.val < 11200) :
    held m c 9 t d (ix2 0 l) = m ((c : Thread nD τ).loc main_arg6) (ix1 ⟨l.val, h⟩) := by
  have hx := (xsize_eq t).2.2.2.2.2.2.2.2.2.1
  have hi := (index_eq t).2.2.2.2.2.2.2.2.2.1
  rw [held_moved m c 9 t d _ (fun z => by
    show _ < win0_9.xsize (grid0.coords t) z
    rw [hx]; fin_cases z <;> [exact Nat.one_pos; exact h])]
  refine (congrFun (V_main_v8 m c) _).trans ?_
  refine Eq.trans (congrArg _ ?_) (row_apply _ ⟨l.val, h⟩)
  blk_ext [hi]

/-- The depthwise taps. -/
theorem held8 (c : Dev nD) (t : Fin cfg0.N) (d) (p q : Fin 3) (l : Fin 11264) (h : l.val < 11200) :
    held m c 8 t d (ix2 ⟨3 * p.val + q.val, by omega⟩ l) = m ((c : Thread nD τ).loc main_arg5) (ix3 p q ⟨l.val, h⟩) := by
  have hx := (xsize_eq t).2.2.2.2.2.2.2.2.1
  have hi := (index_eq t).2.2.2.2.2.2.2.2.1
  rw [held_moved m c 8 t d _ (fun z => by
    show _ < win0_8.xsize (grid0.coords t) z
    rw [hx]; fin_cases z <;> [exact (show 3 * p.val + q.val < 9 by omega); exact h])]
  refine (congrFun (V_main_v7 m c) _).trans ?_
  refine Eq.trans (congrArg _ ?_) (taps_apply _ p q ⟨l.val, h⟩ ⟨3 * p.val + q.val, by omega⟩ rfl)
  blk_ext [hi]

end Cert.UpIdeal.Hand

end
-- ==== Proof.UpSpec.lean ====
/-
  What the up projection computes, on real numbers: the projection, SiLU, the zero-padded 3x3 depthwise convolution over
  the 14x18 grid of rows, and the gate.  Both programs are proved equal to these functions, after which only the quantiser
  is left.
-/
module

public import Idealize.ShloMosaic.Lib.Pointwise
public import Idealize.ShloMosaic.PureOps.Ideal

@[expose] public section

noncomputable section

open Idealize.ShloMosaic

namespace Cert.UpSpec

/-- The arguments of the up projection, as real numbers. -/
structure Args where
  /-- the codes of the input rows -/
  X : Fin 5 → Fin 252 → Fin 2240 → ℝ
  /-- one scale for each row -/
  S : Fin 5 → Fin 252 → ℝ
  /-- the codes of the weights -/
  W : Fin 2240 → Fin 11200 → ℝ
  /-- one weight scale for each channel -/
  s : Fin 11200 → ℝ
  /-- the bias -/
  bi : Fin 11200 → ℝ
  /-- the depthwise weights -/
  D : Fin 3 → Fin 3 → Fin 11200 → ℝ
  /-- the depthwise bias -/
  db : Fin 11200 → ℝ

/-- SiLU: `x` times the logistic function of `x`. -/
def silu (x : ℝ) : ℝ := x * (1 + Real.exp (-x))⁻¹

namespace Args
variable (a : Args)

/-- The projection of row `n` onto channel `l`. -/
def hu (b : Fin 5) (n : Fin 252) (l : Fin 11200) : ℝ :=
  (∑ k, a.X b n k * a.W k l) * a.S b n * a.s l + a.bi l

/-- SiLU of the projection; zero outside of the 252 rows. -/
def hs (b : Fin 5) (n : ℕ) (l : Fin 11200) : ℝ :=
  if h : n < 252 then silu (a.hu b ⟨n, h⟩ l) else 0

/-- The 14x18 grid of rows with one ring of zeros around it. -/
def pad (b : Fin 5) (y x : ℕ) (l : Fin 11200) : ℝ :=
  if 1 ≤ y ∧ y ≤ 14 ∧ 1 ≤ x ∧ x ≤ 18 then a.hs b ((y - 1) * 18 + (x - 1)) l else 0

/-- The depthwise convolution at row `n`. -/
def hc (b : Fin 5) (n : ℕ) (l : Fin 11200) : ℝ :=
  a.db l + a.pad b (n / 18) (n % 18) l * a.D 0 0 l + a.pad b (n / 18) (n % 18 + 1) l * a.D 0 1 l
    + a.pad b (n / 18) (n % 18 + 2) l * a.D 0 2 l + a.pad b (n / 18 + 1) (n % 18) l * a.D 1 0 l
    + a.pad b (n / 18 + 1) (n % 18 + 1) l * a.D 1 1 l + a.pad b (n / 18 + 1) (n % 18 + 2) l * a.D 1 2 l
    + a.pad b (n / 18 + 2) (n % 18) l * a.D 2 0 l + a.pad b (n / 18 + 2) (n % 18 + 1) l * a.D 2 1 l
    + a.pad b (n / 18 + 2) (n % 18 + 2) l * a.D 2 2 l

/-- The gated value: channel `l` of the first half times SiLU of channel `l` of the second half. -/
def hg (b : Fin 5) (n : ℕ) (l : Fin 5600) : ℝ :=
  a.hc b n ⟨l, by omega⟩ * silu (a.hc b n ⟨5600 + l, by omega⟩)

/-- The largest absolute gated value of row `n`. -/
def amax (b : Fin 5) (n : ℕ) : EReal :=
  Finset.univ.fold max (Ideal.ofBits .f32 4286578688#32)
    fun l : Fin 5600 => FloatOps.absf (F := Ideal) (φ := .f32) ((a.hg b n l : ℝ) : EReal)

end Args

/-- A row's scale: its largest absolute value over 448, or one for a row of zeros. -/
def scaleOf (A : EReal) : EReal := if A = 0 then 1 else Ideal.div A (Ideal.ofBits .f32 1138753536#32)

/-- A value's code: the value over its row's scale, clipped to plus and minus 448. -/
def codeOf (z h : EReal) : EReal :=
  min (Ideal.ofBits .f32 1138753536#32) (max (Ideal.ofBits .f32 3286237184#32) (Ideal.div h z))

/-- A sum of real numbers, taken on the extended reals. -/
theorem coe_sum {ι : Type} (s : Finset ι) (f : ι → ℝ) :
    ((∑ i ∈ s, f i : ℝ) : EReal) = ∑ i ∈ s, (f i : EReal) := by
  classical
  induction s using Finset.cons_induction with
  | empty => simp
  | cons i s hi ih => rw [Finset.sum_cons, Finset.sum_cons, EReal.coe_add, ih]

/-- SiLU as half of the argument plus half of the argument times the hyperbolic tangent of half of the argument. -/
theorem silu_half (x : ℝ) : 1 / 2 * x + 1 / 2 * x * Real.tanh (1 / 2 * x) = silu x := by
  unfold silu
  have h1 : Real.exp (-x) = Real.exp (-(1 / 2 * x)) * Real.exp (-(1 / 2 * x)) := by
    rw [← Real.exp_add]; congr 1; ring
  have h2 : Real.exp (1 / 2 * x) * Real.exp (-(1 / 2 * x)) = 1 := by
    rw [← Real.exp_add]; simp
  have hp := Real.exp_pos (1 / 2 * x)
  have hq := Real.exp_pos (-(1 / 2 * x))
  rw [Real.tanh_eq_sinh_div_cosh, Real.sinh_eq, Real.cosh_eq, h1]
  generalize Real.exp (1 / 2 * x) = p at *
  generalize Real.exp (-(1 / 2 * x)) = q at *
  have h3 : p + q ≠ 0 := by positivity
  have h4 : 1 + q * q ≠ 0 := by positivity
  field_simp
  linear_combination (2 * q * x) * h2

/-- The pattern of one half. -/
theorem ofBits_half : Ideal.ofBits .f32 1056964608#32 = ((1 / 2 : ℝ) : EReal) := by
  simp [Ideal.ofBits, Ideal.ieee]
  rw [← EReal.coe_mul]
  norm_num

end Cert.UpSpec

end
-- ==== Proof.UpIdealTile.lean ====
/-
  The tiles of one grid point of the up projection, when what the point loads are real numbers: the gated values of
  `UpSpec` on the 252 rows and the 5600 channels, zeros elsewhere.
-/
module

public import proofs.«01_k».proof.Proof.UpIdealStep
public import proofs.«01_k».proof.Proof.UpSpec

@[expose] public section

set_option maxRecDepth 16384

noncomputable section

namespace Cert.UpIdeal.Hand

open Idealize.ShloMosaic Idealize.ShloMosaic.TcCoe Cert.UpIdeal.Gen Cert.UpSpec

/-! ## The operations at an index -/

/-- The lane of half `t`. -/
def lane (t : Fin 2) (l : Fin 128) : Fin 256 := ⟨128 * t.val + l.val, by omega⟩

theorem arg_at (xb : Vec Ideal S1x256x2240 .fp8e4m3) (w : Vec Ideal S2240x256 .fp8e4m3) (sc : Vec Ideal S1x256x128 .f32)
    (s bias : Vec Ideal S1x256 .f32) (t : Fin 2) (n : Fin 256) (l : Fin 128) :
    arg (dot xb w) sc s bias t (ix2 n l) =
      (∑ x, xb (ix3 0 n x) * w (ix2 x (lane t l))) * sc (ix3 0 n l)
          * (Ideal.ofBits .f32 1056964608#32 * s (ix2 0 (lane t l)))
        + Ideal.ofBits .f32 1056964608#32 * bias (ix2 0 (lane t l)) := by
  unfold lane
  pointwise [arg, dot, halved]

theorem hsTile_at (v : Vec Ideal S256x128 .f32) (n : Fin 256) (l : Fin 128) :
    hsTile v (ix4 0 0 n l) = Scalar.select (IntOp.cmpi .slt (BitVec.ofNat 32 n.val) 252#32)
      (v (ix2 n l) + v (ix2 n l) * Ideal.tanh (v (ix2 n l))) (0 : EReal) := by
  pointwise [hsTile, act]

theorem convTile_at (d : Vec Ideal S9x256 .f32) (db : Vec Ideal S1x256 .f32) (t : Fin 2)
    (ld : Fin 9 → Vec Ideal S1x1x256x128 .f32) (n : Fin 256) (l : Fin 128) :
    convTile d db t ld (ix2 n l) =
      (ld 0 (ix4 0 0 n l) * d (ix2 0 ⟨128 * t.val + l.val, by omega⟩)
          + ld 3 (ix4 0 0 n l) * d (ix2 3 ⟨128 * t.val + l.val, by omega⟩)
          + ld 6 (ix4 0 0 n l) * d (ix2 6 ⟨128 * t.val + l.val, by omega⟩)) * k0_pay174 (F := Ideal) (ix2 n l)
        + (ld 1 (ix4 0 0 n l) * d (ix2 1 ⟨128 * t.val + l.val, by omega⟩)
          + ld 4 (ix4 0 0 n l) * d (ix2 4 ⟨128 * t.val + l.val, by omega⟩)
          + ld 7 (ix4 0 0 n l) * d (ix2 7 ⟨128 * t.val + l.val, by omega⟩))
        + (ld 2 (ix4 0 0 n l) * d (ix2 2 ⟨128 * t.val + l.val, by omega⟩)
          + ld 5 (ix4 0 0 n l) * d (ix2 5 ⟨128 * t.val + l.val, by omega⟩)
          + ld 8 (ix4 0 0 n l) * d (ix2 8 ⟨128 * t.val + l.val, by omega⟩)) * k0_pay175 (F := Ideal) (ix2 n l)
        + db (ix2 0 ⟨128 * t.val + l.val, by omega⟩) := by
  pointwise [convTile, taps, tapMul, row9]

theorem hgTile_at (j : BitVec 32) (t : Fin 2) (a g : Vec Ideal S256x128 .f32) (n : Fin 256) (l : Fin 128) :
    hgTile j t a g (ix2 n l) = Scalar.select (IntOp.andi
        (IntOp.cmpi .slt (IntOp.addi (IntOp.addi (BitVec.ofNat 32 l.val) (BitVec.ofNat 32 (128 * t.val)))
          (Scalar.muli j 256#32)) 5600#32)
        (IntOp.cmpi .slt (BitVec.ofNat 32 n.val) 252#32))
      (a (ix2 n l) * (g (ix2 n l) + g (ix2 n l) * Ideal.tanh (g (ix2 n l)))) (0 : EReal) := by
  pointwise [hgTile, act]

/-! ## The masks -/

theorem row_mask : ∀ n : Fin 256, IntOp.cmpi .slt (BitVec.ofNat 32 n.val) 252#32 = if n.val < 252 then 1#1 else 0#1 := by
  decide +kernel

theorem lane_mask : ∀ (j : Fin 22) (t : Fin 2) (l : Fin 128),
    IntOp.cmpi .slt (IntOp.addi (IntOp.addi (BitVec.ofNat 32 l.val) (BitVec.ofNat 32 (128 * t.val)))
      (Scalar.muli (BitVec.ofNat 32 j.val) 256#32)) 5600#32
        = if 256 * j.val + (128 * t.val + l.val) < 5600 then 1#1 else 0#1 := by
  decide +kernel

theorem coe_bit (p : Prop) [Decidable p] : ((if p then 0 else 1 : ℤ) : ℝ) = if p then 0 else 1 := by
  split_ifs <;> simp

theorem pay174_at (n : Fin 256) (l : Fin 128) :
    k0_pay174 (F := Ideal) (ix2 n l) = ((if n.val % 18 = 0 then 0 else 1 : ℝ) : EReal) := by
  pointwise [k0_pay174, k0_pay173]
  rw [← coe_bit]
  refine congrArg (fun z : ℤ => ((z : ℝ) : EReal)) ?_
  clear l
  revert n
  decide +kernel

theorem pay175_at (n : Fin 256) (l : Fin 128) :
    k0_pay175 (F := Ideal) (ix2 n l) = ((if n.val % 18 = 17 then 0 else 1 : ℝ) : EReal) := by
  pointwise [k0_pay175, k0_pay173]
  rw [← coe_bit]
  refine congrArg (fun z : ℤ => ((z : ℝ) : EReal)) ?_
  clear l
  revert n
  decide +kernel

/-! ## The convolution on real numbers -/

/-- Tap `r` at row `n`: the stored tile shifted. -/
def tapK (a : Args) (b : Fin 5) (r : Fin 9) (n : ℕ) (ch : Fin 11200) : ℝ :=
  if 24 ≤ (off r).val + n ∧ (off r).val + n < 280 then a.hs b ((off r).val + n - 24) ch else 0

theorem hs_out (a : Args) (b : Fin 5) {n : ℕ} (h : 252 ≤ n) (ch : Fin 11200) : a.hs b n ch = 0 := by
  unfold Args.hs
  rw [dif_neg (by omega)]

/-- A tap in the column that it may read is the padded grid's value. -/
theorem tap_pad (a : Args) (b : Fin 5) (r : Fin 9) (dy dx : ℕ) (hr : (off r).val = 5 + 18 * dy + dx) (hy : dy ≤ 2) (hx : dx ≤ 2)
    {n : ℕ} (hn : n < 252) (h0 : dx = 0 → n % 18 ≠ 0) (h2 : dx = 2 → n % 18 ≠ 17) (ch : Fin 11200) :
    tapK a b r n ch = a.pad b (n / 18 + dy) (n % 18 + dx) ch := by
  unfold tapK Args.pad
  rw [hr]
  by_cases hp : 1 ≤ n / 18 + dy ∧ n / 18 + dy ≤ 14 ∧ 1 ≤ n % 18 + dx ∧ n % 18 + dx ≤ 18
  · rw [if_pos hp, if_pos (by omega)]
    congr 1
    omega
  · rw [if_neg hp]
    split_ifs with h
    · exact hs_out a b (by omega) ch
    · rfl

/-- A column that a tap may not read is the ring of zeros. -/
theorem pad_left (a : Args) (b : Fin 5) (y : ℕ) {n : ℕ} (h : n % 18 = 0) (ch : Fin 11200) : a.pad b y (n % 18) ch = 0 := by
  unfold Args.pad
  rw [if_neg (by omega)]

theorem pad_right (a : Args) (b : Fin 5) (y : ℕ) {n : ℕ} (h : n % 18 = 17) (ch : Fin 11200) : a.pad b y (n % 18 + 2) ch = 0 := by
  unfold Args.pad
  rw [if_neg (by omega)]

/-- The masked taps of the left column. -/
theorem left_taps (a : Args) (b : Fin 5) {n : ℕ} (hn : n < 252) (ch : Fin 11200) (u v w : ℝ) :
    (tapK a b 0 n ch * u + tapK a b 3 n ch * v + tapK a b 6 n ch * w) * (if n % 18 = 0 then 0 else 1)
      = a.pad b (n / 18) (n % 18) ch * u + a.pad b (n / 18 + 1) (n % 18) ch * v + a.pad b (n / 18 + 2) (n % 18) ch * w := by
  split_ifs with h
  · rw [pad_left a b _ h, pad_left a b _ h, pad_left a b _ h]; ring
  · rw [tap_pad a b 0 0 0 rfl (by omega) (by omega) hn (fun _ => h) (by omega),
      tap_pad a b 3 1 0 rfl (by omega) (by omega) hn (fun _ => h) (by omega),
      tap_pad a b 6 2 0 rfl (by omega) (by omega) hn (fun _ => h) (by omega), mul_one]
    rfl

/-- The masked taps of the right column. -/
theorem right_taps (a : Args) (b : Fin 5) {n : ℕ} (hn : n < 252) (ch : Fin 11200) (u v w : ℝ) :
    (tapK a b 2 n ch * u + tapK a b 5 n ch * v + tapK a b 8 n ch * w) * (if n % 18 = 17 then 0 else 1)
      = a.pad b (n / 18) (n % 18 + 2) ch * u + a.pad b (n / 18 + 1) (n % 18 + 2) ch * v
        + a.pad b (n / 18 + 2) (n % 18 + 2) ch * w := by
  split_ifs with h
  · rw [pad_right a b _ h, pad_right a b _ h, pad_right a b _ h]; ring
  · rw [tap_pad a b 2 0 2 rfl (by omega) (by omega) hn (by omega) (fun _ => h),
      tap_pad a b 5 1 2 rfl (by omega) (by omega) hn (by omega) (fun _ => h),
      tap_pad a b 8 2 2 rfl (by omega) (by omega) hn (by omega) (fun _ => h), mul_one]
    rfl

/-- The taps of the middle column. -/
theorem middle_taps (a : Args) (b : Fin 5) {n : ℕ} (hn : n < 252) (ch : Fin 11200) (u v w : ℝ) :
    tapK a b 1 n ch * u + tapK a b 4 n ch * v + tapK a b 7 n ch * w
      = a.pad b (n / 18) (n % 18 + 1) ch * u + a.pad b (n / 18 + 1) (n % 18 + 1) ch * v
        + a.pad b (n / 18 + 2) (n % 18 + 1) ch * w := by
  rw [tap_pad a b 1 0 1 rfl (by omega) (by omega) hn (by omega) (by omega),
    tap_pad a b 4 1 1 rfl (by omega) (by omega) hn (by omega) (by omega),
    tap_pad a b 7 2 1 rfl (by omega) (by omega) hn (by omega) (by omega)]
  rfl

/-- The kernel's order of the convolution, its weights and bias scaled by `f`. -/
theorem conv_real (a : Args) (b : Fin 5) {n : ℕ} (hn : n < 252) (ch : Fin 11200) (f : ℝ) :
    (tapK a b 0 n ch * (f * a.D 0 0 ch) + tapK a b 3 n ch * (f * a.D 1 0 ch) + tapK a b 6 n ch * (f * a.D 2 0 ch))
          * (if n % 18 = 0 then 0 else 1)
        + (tapK a b 1 n ch * (f * a.D 0 1 ch) + tapK a b 4 n ch * (f * a.D 1 1 ch) + tapK a b 7 n ch * (f * a.D 2 1 ch))
        + (tapK a b 2 n ch * (f * a.D 0 2 ch) + tapK a b 5 n ch * (f * a.D 1 2 ch) + tapK a b 8 n ch * (f * a.D 2 2 ch))
          * (if n % 18 = 17 then 0 else 1)
        + f * a.db ch
      = f * a.hc b n ch := by
  rw [left_taps a b hn, right_taps a b hn, middle_taps a b hn]
  unfold Args.hc
  ring

/-! ## The tiles -/

/-- The channel of lane `l` of branch `p` at grid point `j`. -/
def chan (j : ℕ) (p : Fin 2) (l : Fin 256) (h : 256 * j + l.val < 5600) : Fin 11200 :=
  ⟨5600 * p.val + (256 * j + l.val), by omega⟩

/-- The factor that the convolution's weights and bias carry: the gate's are halved. -/
def half (p : Fin 2) : ℝ := if p.val = 0 then 1 else 1 / 2

/-- What grid point `j` loads are the real numbers of `a`, on the 252 rows and the 5600 channels. -/
structure LoadsOk (a : Args) (j : ℕ) (x : Fin 5 → Vec Ideal S1x256x2240 .fp8e4m3) (sc : Fin 5 → Vec Ideal S1x256x128 .f32)
    (w : Fin 2 → Vec Ideal S2240x256 .fp8e4m3) (s bias : Fin 2 → Vec Ideal S1x256 .f32) (d : Fin 2 → Vec Ideal S9x256 .f32)
    (db : Fin 2 → Vec Ideal S1x256 .f32) : Prop where
  X : ∀ b (n : Fin 256) (h : n.val < 252) k, x b (ix3 0 n k) = ((a.X b ⟨n.val, h⟩ k : ℝ) : EReal)
  S : ∀ b (n : Fin 256) (h : n.val < 252) l, sc b (ix3 0 n l) = ((a.S b ⟨n.val, h⟩ : ℝ) : EReal)
  W : ∀ p k (l : Fin 256) h, w p (ix2 k l) = ((a.W k (chan j p l h) : ℝ) : EReal)
  s : ∀ p (l : Fin 256) h, s p (ix2 0 l) = ((a.s (chan j p l h) : ℝ) : EReal)
  bi : ∀ p (l : Fin 256) h, bias p (ix2 0 l) = ((a.bi (chan j p l h) : ℝ) : EReal)
  D : ∀ p (dy dx : Fin 3) (l : Fin 256) h,
    d p (ix2 ⟨3 * dy.val + dx.val, by omega⟩ l) = ((half p * a.D dy dx (chan j p l h) : ℝ) : EReal)
  db : ∀ p (l : Fin 256) h, db p (ix2 0 l) = ((half p * a.db (chan j p l h) : ℝ) : EReal)

variable {a : Args} {j : ℕ} {x : Fin 5 → Vec Ideal S1x256x2240 .fp8e4m3} {sc : Fin 5 → Vec Ideal S1x256x128 .f32}
  {w : Fin 2 → Vec Ideal S2240x256 .fp8e4m3} {s bias : Fin 2 → Vec Ideal S1x256 .f32} {d : Fin 2 → Vec Ideal S9x256 .f32}
  {db : Fin 2 → Vec Ideal S1x256 .f32}

/-- Half of the activation's argument. -/
theorem arg_val (h : LoadsOk a j x sc w s bias d db) (b : Fin 5) (p t : Fin 2) (n : Fin 256) (hn : n.val < 252) (l : Fin 128)
    (hl : 256 * j + (lane t l).val < 5600) :
    arg (dot (x b) (w p)) (sc b) (s p) (bias p) t (ix2 n l)
      = ((1 / 2 * a.hu b ⟨n.val, hn⟩ (chan j p (lane t l) hl) : ℝ) : EReal) := by
  have hk : ∀ k, x b (ix3 0 n k) * w p (ix2 k (lane t l))
      = ((a.X b ⟨n.val, hn⟩ k * a.W k (chan j p (lane t l) hl) : ℝ) : EReal) := fun k => by
    rw [h.X b n hn, h.W p k (lane t l) hl, EReal.coe_mul]
  refine (arg_at (x b) (w p) (sc b) (s p) (bias p) t n l).trans ?_
  rw [Finset.sum_congr rfl fun k _ => hk k, ← coe_sum, h.S b n hn, h.s p (lane t l) hl,
    h.bi p (lane t l) hl, ofBits_half]
  simp only [← EReal.coe_mul, ← EReal.coe_add]
  congr 1
  unfold Args.hu
  ring

theorem act_half (v : EReal) (r : ℝ) (h : v = ((1 / 2 * r : ℝ) : EReal)) : v + v * Ideal.tanh v = ((silu r : ℝ) : EReal) := by
  rw [h, Ideal.tanh_coe, ← EReal.coe_mul, ← EReal.coe_add, silu_half]

/-- The first activation's tile. -/
theorem hs_val (h : LoadsOk a j x sc w s bias d db) (b : Fin 5) (p t : Fin 2) (n : Fin 256) (l : Fin 128)
    (hl : 256 * j + (lane t l).val < 5600) :
    hs x sc w s bias b p t (ix4 0 0 n l) = ((a.hs b n.val (chan j p (lane t l) hl) : ℝ) : EReal) := by
  unfold hs
  rw [hsTile_at, row_mask]
  unfold Scalar.select Args.hs
  by_cases hn : n.val < 252
  · rw [if_pos hn, if_pos (by decide), dif_pos hn]
    exact act_half _ _ (arg_val h b p t n hn l hl)
  · rw [if_neg hn, if_neg (by decide), dif_neg hn]
    rfl

/-- A shifted tile. -/
theorem shifted_val (h : LoadsOk a j x sc w s bias d db) (b : Fin 5) (p t : Fin 2) (r : Fin 9) (n : Fin 256) (l : Fin 128)
    (hl : 256 * j + (lane t l).val < 5600) :
    shifted r (hs x sc w s bias b p t) (ix4 0 0 n l) = ((tapK a b r n.val (chan j p (lane t l) hl) : ℝ) : EReal) := by
  unfold shifted tapK
  by_cases hr : 24 ≤ (off r).val + n.val ∧ (off r).val + n.val < 280
  · rw [if_pos hr]
    refine (dif_pos hr).trans ?_
    exact hs_val h b p t ⟨(off r).val + n.val - 24, by omega⟩ l hl
  · rw [if_neg hr]
    refine (dif_neg hr).trans ?_
    exact Ideal.ofBits_zero_f32

/-- The convolution's tile, on the 252 rows. -/
theorem conv_val (h : LoadsOk a j x sc w s bias d db) (b : Fin 5) (p t : Fin 2) (n : Fin 256) (hn : n.val < 252) (l : Fin 128)
    (hl : 256 * j + (lane t l).val < 5600) :
    conv x sc w s bias d db b p t (ix2 n l) = ((half p * a.hc b n.val (chan j p (lane t l) hl) : ℝ) : EReal) := by
  unfold conv
  refine (convTile_at (d p) (db p) t _ n l).trans ?_
  have hd : ∀ dy dx : Fin 3, d p (ix2 ⟨3 * dy.val + dx.val, by omega⟩ ⟨128 * t.val + l.val, by omega⟩)
      = ((half p * a.D dy dx (chan j p (lane t l) hl) : ℝ) : EReal) := fun dy dx => h.D p dy dx (lane t l) hl
  have d0 := hd 0 0
  have d1 := hd 0 1
  have d2 := hd 0 2
  have d3 := hd 1 0
  have d4 := hd 1 1
  have d5 := hd 1 2
  have d6 := hd 2 0
  have d7 := hd 2 1
  have d8 := hd 2 2
  have e := h.db p (lane t l) hl
  simp only [shifted_val h b p t _ n l hl, pay174_at, pay175_at]
  rw [show d p (ix2 0 ⟨128 * t.val + l.val, _⟩) = _ from d0, show d p (ix2 1 ⟨128 * t.val + l.val, _⟩) = _ from d1,
    show d p (ix2 2 ⟨128 * t.val + l.val, _⟩) = _ from d2, show d p (ix2 3 ⟨128 * t.val + l.val, _⟩) = _ from d3,
    show d p (ix2 4 ⟨128 * t.val + l.val, _⟩) = _ from d4, show d p (ix2 5 ⟨128 * t.val + l.val, _⟩) = _ from d5,
    show d p (ix2 6 ⟨128 * t.val + l.val, _⟩) = _ from d6, show d p (ix2 7 ⟨128 * t.val + l.val, _⟩) = _ from d7,
    show d p (ix2 8 ⟨128 * t.val + l.val, _⟩) = _ from d8, show db p (ix2 0 ⟨128 * t.val + l.val, _⟩) = _ from e]
  simp only [← EReal.coe_mul, ← EReal.coe_add]
  rw [conv_real a b hn]

/-- The gated tile: the gated values on the 252 rows and the 5600 channels, zeros elsewhere. -/
theorem hg_tile (h : LoadsOk a j x sc w s bias d db) (hj : j < 22) (b : Fin 5) (t : Fin 2) (n : Fin 256) (l : Fin 128) :
    hg x sc w s bias d db (BitVec.ofNat 32 j) b t (ix2 n l)
      = ((if hl : n.val < 252 ∧ 256 * j + (lane t l).val < 5600 then a.hg b n.val ⟨256 * j + (lane t l).val, hl.2⟩ else 0 : ℝ) : EReal) := by
  unfold hg
  rw [hgTile_at, row_mask, lane_mask ⟨j, hj⟩]
  unfold Scalar.select
  by_cases hl : n.val < 252 ∧ 256 * j + (lane t l).val < 5600
  · rw [dif_pos hl, if_pos hl.1, if_pos (show 256 * j + (128 * t.val + l.val) < 5600 from hl.2), if_pos (by decide)]
    rw [act_half _ _ (conv_val h b 1 t n hl.1 l hl.2), conv_val h b 0 t n hl.1 l hl.2, ← EReal.coe_mul]
    congr 1
    unfold Args.hg
    rw [show half 0 = 1 from if_pos rfl, one_mul]
    congr 3 <;> exact Fin.ext (by simp [chan])
  · rw [dif_neg hl, if_neg]
    · rfl
    · rw [not_and_or] at hl
      rcases hl with hl | hl
      · rw [if_neg hl]
        split_ifs <;> decide
      · rw [if_neg (show ¬ 256 * j + (128 * t.val + l.val) < 5600 from hl)]
        split_ifs <;> decide

end Cert.UpIdeal.Hand

end
-- ==== Proof.UpIdealLoads.lean ====
/-
  What a grid point loads from its staged blocks, when the arguments hold real numbers: the channels `256 j ..` of the value
  half and of the gate half (which starts at channel 5600), the gate's depthwise weights and bias already halved.  With it,
  the tile a grid point computes is the gated value of `UpSpec`.
-/
module

public import proofs.«01_k».proof.Proof.UpIdealHeld
public import proofs.«01_k».proof.Proof.UpIdealTile

@[expose] public section

set_option maxRecDepth 16384
noncomputable section
namespace Cert.UpIdeal.Hand
open Idealize.ShloMosaic Idealize.ShloMosaic.TcCoe Idealize.ShloMosaic.Tactic
open Idealize.SL Idealize.SL.RA Idealize.SL.Sem
open Idealize.ShloMosaic.Pipeline (RDat Dat Cfg Window cellOf)
open Cert.UpIdeal.Gen Cert.UpSpec

/-- Where point `t` loads: the value half at channel `256 t`, the gate half from `256 t + 5504` on. -/
theorem off_eq : ∀ t : Fin cfg0.N, k0_off1 (grid0.coords t) = ![0, 256 * t.val] ∧ k0_off2 (grid0.coords t) = ![0, 256 * t.val + 5504] ∧
    k0_off3 (grid0.coords t) = ![0, 256 * t.val] ∧ k0_off4 (grid0.coords t) = ![0, 256 * t.val + 5504] := by decide +kernel

/-! ## The layout steps between a load and its use -/

theorem pay162_at (x : Vec Ideal S1x256 .f32) (l : Fin 256) : k0_pay162 x (ix2 0 l) = x (ix2 0 l) := by
  simp only [k0_pay162]; pointwise
theorem pay164_at (x : Vec Ideal S1x256 .f32) (l : Fin 256) : k0_pay164 x (ix2 0 l) = x (ix2 0 l) := by
  simp only [k0_pay164]; pointwise
theorem pay168_at (x : Vec Ideal S1x256 .f32) (l : Fin 256) : k0_pay168 x (ix2 0 l) = x (ix2 0 l) := by
  simp only [k0_pay168]; pointwise
theorem pay166_at (x : Vec Ideal S9x256 .f32) (r : Fin 9) (l : Fin 256) : k0_pay166 x (ix2 r l) = x (ix2 r l) := by
  simp only [k0_pay166]; pointwise
theorem pay163_at (x : Vec Ideal S1x384 .f32) (l : Fin 256) : k0_pay163 x (ix2 0 l) = x (ix2 0 ⟨96 + l.val, by omega⟩) := by
  simp only [k0_pay163]; pointwise
theorem pay165_at (x : Vec Ideal S1x384 .f32) (l : Fin 256) : k0_pay165 x (ix2 0 l) = x (ix2 0 ⟨96 + l.val, by omega⟩) := by
  simp only [k0_pay165]; pointwise
theorem pay196_at (x : Vec Ideal S9x384 .f32) (r : Fin 9) (l : Fin 256) :
    k0_pay196 (k0_pay167 x) (ix2 r l) = Ideal.ofBits .f32 0x3F000000#32 * x (ix2 r ⟨96 + l.val, by omega⟩) := by
  simp only [k0_pay196, k0_pay167]; pointwise
theorem pay197_at (x : Vec Ideal S1x384 .f32) (l : Fin 256) :
    k0_pay197 (k0_pay169 x) (ix2 0 l) = Ideal.ofBits .f32 0x3F000000#32 * x (ix2 0 ⟨96 + l.val, by omega⟩) := by
  simp only [k0_pay197, k0_pay169]; pointwise
/-- The gate's weights: three blocks of 128 columns side by side, read 96 columns in. -/
theorem pay172_at (x y z : Vec Ideal S2240x128 .fp8e4m3) (k : Fin 2240) (l : Fin 256) (X : EReal)
    (hx : ∀ q : Fin 128, q.val = 96 + l.val → x (ix2 k q) = X)
    (hy : ∀ q : Fin 128, 128 + q.val = 96 + l.val → y (ix2 k q) = X)
    (hz : ∀ q : Fin 128, 256 + q.val = 96 + l.val → z (ix2 k q) = X) :
    k0_pay172 (k0_pay170 x) (k0_pay171 y) z (ix2 k l) = X := by
  simp only [k0_pay170, k0_pay171, k0_pay172]; pointwise
  by_cases h1 : 96 + l.val < 128
  · rw [dif_pos h1]; exact hx _ rfl
  · rw [dif_neg h1]
    by_cases h2 : 96 + l.val - 128 < 128
    · rw [dif_pos h2]; exact hy _ (show 128 + (96 + l.val - 128) = _ by omega)
    · rw [dif_neg h2]; exact hz _ (show 256 + (96 + l.val - 128 - 128) = _ by omega)

/-! ## The loads -/

variable (m : (ℓ : Loc nD τ sig) → Buf (Elt Ideal) ℓ)

/-- The arguments hold the real numbers of `a`. -/
structure Holds (a : Args) (c : Dev nD) : Prop where
  X : ∀ b n k, m ((c : Thread nD τ).loc main_arg0) (ix3 b n k) = ((a.X b n k : ℝ) : EReal)
  S : ∀ b n, m ((c : Thread nD τ).loc main_arg1) (ix2 b n) = ((a.S b n : ℝ) : EReal)
  W : ∀ k l, m ((c : Thread nD τ).loc main_arg2) (ix2 k l) = ((a.W k l : ℝ) : EReal)
  s : ∀ l, m ((c : Thread nD τ).loc main_arg3) (ix1 l) = ((a.s l : ℝ) : EReal)
  bi : ∀ l, m ((c : Thread nD τ).loc main_arg4) (ix1 l) = ((a.bi l : ℝ) : EReal)
  D : ∀ dy dx l, m ((c : Thread nD τ).loc main_arg5) (ix3 dy dx l) = ((a.D dy dx l : ℝ) : EReal)
  db : ∀ l, m ((c : Thread nD τ).loc main_arg6) (ix1 l) = ((a.db l : ℝ) : EReal)

variable {m}
variable {a : Args} {c : Dev nD}

/-! The loads of arbitrary blocks. -/

theorem zeros2 : (![0, 0] : Fin 2 → ℕ) = fun _ => 0 := by funext q; fin_cases q <;> rfl

theorem ld_1x256 (X : Vec Ideal S1x11264 .f32) (off : Fin 2 → ℕ) (o : ℕ) (ho : off = ![0, o]) (inb) (l : Fin 256) (hl : o + l.val < 11264) :
    View.ld X (Rect.unit (s := S1x11264) off S1x256.size inb) (ix2 0 l) = X (ix2 0 ⟨o + l.val, hl⟩) :=
  View.ld_unit_apply_of X off _ inb _ _ fun q => by
    subst ho; fin_cases q
    · rfl
    · rfl
theorem ld_1x384 (X : Vec Ideal S1x11264 .f32) (off : Fin 2 → ℕ) (o : ℕ) (ho : off = ![0, o]) (inb) (l : Fin 384) (hl : o + l.val < 11264) :
    View.ld X (Rect.unit (s := S1x11264) off S1x384.size inb) (ix2 0 l) = X (ix2 0 ⟨o + l.val, hl⟩) :=
  View.ld_unit_apply_of X off _ inb _ _ fun q => by
    subst ho; fin_cases q
    · rfl
    · rfl
theorem ld_9x256 (X : Vec Ideal S9x11264 .f32) (off : Fin 2 → ℕ) (o : ℕ) (ho : off = ![0, o]) (inb) (r : Fin 9) (l : Fin 256) (hl : o + l.val < 11264) :
    View.ld X (Rect.unit (s := S9x11264) off S9x256.size inb) (ix2 r l) = X (ix2 r ⟨o + l.val, hl⟩) :=
  View.ld_unit_apply_of X off _ inb _ _ fun q => by
    subst ho; fin_cases q
    · exact (Nat.zero_add _).symm
    · rfl
theorem ld_9x384 (X : Vec Ideal S9x11264 .f32) (off : Fin 2 → ℕ) (o : ℕ) (ho : off = ![0, o]) (inb) (r : Fin 9) (l : Fin 384) (hl : o + l.val < 11264) :
    View.ld X (Rect.unit (s := S9x11264) off S9x384.size inb) (ix2 r l) = X (ix2 r ⟨o + l.val, hl⟩) :=
  View.ld_unit_apply_of X off _ inb _ _ fun q => by
    subst ho; fin_cases q
    · exact (Nat.zero_add _).symm
    · rfl

theorem lw_zero (x3 : Vec Ideal S2240x256 .fp8e4m3) (x4 x5 x6 : Vec Ideal S2240x128 .fp8e4m3) (k : Fin 2240) (l : Fin 256) :
    lw x3 x4 x5 x6 0 (ix2 k l) = x3 (ix2 k l) := by
  show shapeCast S2240x256 (View.ld x3 (Rect.unit (s := S2240x256) ![0, 0] S2240x256.size inb_S2240x256_S2240x256_0_0)) shapeCasts_S2240x256_S2240x256 (ix2 k l) = _
  refine (congrFun (shapeCast_self _ shapeCasts_S2240x256_S2240x256) _).trans ?_
  rw [View.ld_unit_zero zeros2]
theorem lw_one (x3 : Vec Ideal S2240x256 .fp8e4m3) (x4 x5 x6 : Vec Ideal S2240x128 .fp8e4m3) (k : Fin 2240) (l : Fin 256) (X : EReal)
    (hx : ∀ q : Fin 128, q.val = 96 + l.val → x4 (ix2 k q) = X)
    (hy : ∀ q : Fin 128, 128 + q.val = 96 + l.val → x5 (ix2 k q) = X)
    (hz : ∀ q : Fin 128, 256 + q.val = 96 + l.val → x6 (ix2 k q) = X) : lw x3 x4 x5 x6 1 (ix2 k l) = X := by
  show k0_pay172 (k0_pay170 (View.ld x4 (Rect.unit (s := S2240x128) ![0, 0] S2240x128.size inb_S2240x128_S2240x128_0_0)))
        (k0_pay171 (View.ld x5 (Rect.unit (s := S2240x128) ![0, 0] S2240x128.size inb_S2240x128_S2240x128_0_0)))
        (View.ld x6 (Rect.unit (s := S2240x128) ![0, 0] S2240x128.size inb_S2240x128_S2240x128_0_0)) (ix2 k l) = X
  rw [View.ld_unit_zero zeros2, View.ld_unit_zero zeros2, View.ld_unit_zero zeros2]
  exact pay172_at _ _ _ k l X hx hy hz

section
variable (i : grid0.Coords) (x : Vec Ideal S1x11264 .f32) (y : Vec Ideal S9x11264 .f32) (j : ℕ) (hj : j < 22)
  (h1 : k0_off1 i = ![0, 256 * j]) (h2 : k0_off2 i = ![0, 256 * j + 5504]) (h3 : k0_off3 i = ![0, 256 * j])
  (h4 : k0_off4 i = ![0, 256 * j + 5504]) (p : Fin 2) (r : Fin 9) (l : Fin 256) (hl : 256 * j + l.val < 5600)
include h1 h2 hl
theorem ls_at : ls i x p (ix2 0 l) = x (ix2 0 ⟨5600 * p.val + (256 * j + l.val), by omega⟩) := by
  match p with
  | 0 => exact (pay162_at _ l).trans ((ld_1x256 x _ _ h1 _ l (by omega)).trans (congrArg x (congrArg (ix2 0) (Fin.ext (show 256 * j + l.val = 5600 * 0 + (256 * j + l.val) by omega)))))
  | 1 => exact (pay163_at _ l).trans ((ld_1x384 x _ _ h2 _ ⟨96 + l.val, by omega⟩ (show 256 * j + 5504 + (96 + l.val) < 11264 by omega)).trans (congrArg x (congrArg (ix2 0) (Fin.ext (show 256 * j + 5504 + (96 + l.val) = 5600 * 1 + (256 * j + l.val) by omega)))))
theorem lbias_at : lbias i x p (ix2 0 l) = x (ix2 0 ⟨5600 * p.val + (256 * j + l.val), by omega⟩) := by
  match p with
  | 0 => exact (pay164_at _ l).trans ((ld_1x256 x _ _ h1 _ l (by omega)).trans (congrArg x (congrArg (ix2 0) (Fin.ext (show 256 * j + l.val = 5600 * 0 + (256 * j + l.val) by omega)))))
  | 1 => exact (pay165_at _ l).trans ((ld_1x384 x _ _ h2 _ ⟨96 + l.val, by omega⟩ (show 256 * j + 5504 + (96 + l.val) < 11264 by omega)).trans (congrArg x (congrArg (ix2 0) (Fin.ext (show 256 * j + 5504 + (96 + l.val) = 5600 * 1 + (256 * j + l.val) by omega)))))
theorem ldb_at (A : ℝ) (hA : x (ix2 0 ⟨5600 * p.val + (256 * j + l.val), by omega⟩) = (A : EReal)) :
    ldb i x p (ix2 0 l) = ((half p * A : ℝ) : EReal) := by
  match p with
  | 0 =>
    refine ((pay168_at _ l).trans ((ld_1x256 x _ _ h1 _ l (by omega)).trans (congrArg x (congrArg (ix2 0) (Fin.ext (show 256 * j + l.val = 5600 * 0 + (256 * j + l.val) by omega)))))).trans (hA.trans ?_)
    rw [half, if_pos (show (0 : Fin 2).val = 0 from rfl), one_mul]
  | 1 =>
    refine (pay197_at _ l).trans ?_
    rw [ofBits_half, half, if_neg (show ¬ (1 : Fin 2).val = 0 from Nat.one_ne_zero), EReal.coe_mul, ← hA]
    exact congrArg (fun q : EReal => ((1 / 2 : ℝ) : EReal) * q) ((ld_1x384 x _ _ h2 _ ⟨96 + l.val, by omega⟩ (show 256 * j + 5504 + (96 + l.val) < 11264 by omega)).trans (congrArg x (congrArg (ix2 0) (Fin.ext (show 256 * j + 5504 + (96 + l.val) = 5600 * 1 + (256 * j + l.val) by omega)))))
omit h1 h2
include h3 h4
theorem ld9_at (A : ℝ) (hA : y (ix2 r ⟨5600 * p.val + (256 * j + l.val), by omega⟩) = (A : EReal)) :
    ld9 i y p (ix2 r l) = ((half p * A : ℝ) : EReal) := by
  match p with
  | 0 =>
    refine ((pay166_at _ r l).trans ((ld_9x256 y _ _ h3 _ r l (by omega)).trans (congrArg y (congrArg (ix2 r) (Fin.ext (show 256 * j + l.val = 5600 * 0 + (256 * j + l.val) by omega)))))).trans (hA.trans ?_)
    rw [half, if_pos (show (0 : Fin 2).val = 0 from rfl), one_mul]
  | 1 =>
    refine (pay196_at _ r l).trans ?_
    rw [ofBits_half, half, if_neg (show ¬ (1 : Fin 2).val = 0 from Nat.one_ne_zero), EReal.coe_mul, ← hA]
    exact congrArg (fun q : EReal => ((1 / 2 : ℝ) : EReal) * q) ((ld_9x384 y _ _ h4 _ r ⟨96 + l.val, by omega⟩ (show 256 * j + 5504 + (96 + l.val) < 11264 by omega)).trans (congrArg y (congrArg (ix2 r) (Fin.ext (show 256 * j + 5504 + (96 + l.val) = 5600 * 1 + (256 * j + l.val) by omega)))))
end

/-- The weights of both halves. -/
theorem lw_ok (h : Holds m a c) (t : Fin cfg0.N) (d2 d3 d4 d5) (p : Fin 2) (k : Fin 2240) (l : Fin 256) (hl : 256 * t.val + l.val < 5600) :
    lw (held m c 2 t d2) (held m c 3 t d3) (held m c 4 t d4) (held m c 5 t d5) p (ix2 k l) = ((a.W k (chan t.val p l hl) : ℝ) : EReal) := by
  match p with
  | 0 =>
    refine (lw_zero _ _ _ _ k l).trans ((held2 m c t d2 k l).trans ((h.W k _).trans ?_))
    exact congrArg (fun q => ((a.W k q : ℝ) : EReal)) (Fin.ext (show 256 * t.val + l.val = 5600 * 0 + (256 * t.val + l.val) by omega))
  | 1 =>
    refine lw_one _ _ _ _ k l _ ?_ ?_ ?_
    · intro q hq
      refine (held3 m c t d3 k q (by omega)).trans ((h.W k _).trans ?_)
      exact congrArg (fun q => ((a.W k q : ℝ) : EReal)) (Fin.ext (show 128 * (43 + 2 * t.val) + q.val = 5600 * 1 + (256 * t.val + l.val) by omega))
    · intro q hq
      refine (held4 m c t d4 k q (by omega)).trans ((h.W k _).trans ?_)
      exact congrArg (fun q => ((a.W k q : ℝ) : EReal)) (Fin.ext (show 128 * (44 + 2 * t.val) + q.val = 5600 * 1 + (256 * t.val + l.val) by omega))
    · intro q hq
      refine (held5 m c t d5 k q (by omega)).trans ((h.W k _).trans ?_)
      exact congrArg (fun q => ((a.W k q : ℝ) : EReal)) (Fin.ext (show 128 * (45 + 2 * t.val) + q.val = 5600 * 1 + (256 * t.val + l.val) by omega))

theorem chan_lt {j : ℕ} (p : Fin 2) {l : Fin 256} (hl : 256 * j + l.val < 5600) : 5600 * p.val + (256 * j + l.val) < 11200 := by omega

/-- Everything a grid point loads. -/
theorem loads_ok (h : Holds m a c) (t : Fin cfg0.N) (d : (w : Fin cfg0.W) → (cfg0.win w).block.Idx → Elt Ideal (cfg0.win w).elt) :
    LoadsOk a t.val (lx (held m c 0 t (d 0))) (lsc (held m c 1 t (d 1)))
      (lw (held m c 2 t (d 2)) (held m c 3 t (d 3)) (held m c 4 t (d 4)) (held m c 5 t (d 5)))
      (ls (grid0.coords t) (held m c 6 t (d 6))) (lbias (grid0.coords t) (held m c 7 t (d 7)))
      (ld9 (grid0.coords t) (held m c 8 t (d 8))) (ldb (grid0.coords t) (held m c 9 t (d 9))) where
  X := fun b n hn k => by
    refine (View.ld_unit_apply_of (held m c 0 t (d 0)) _ _ _ _ (ix3 b n k) fun q => ?_).trans ((held0 m c t (d 0) b n hn k).trans (h.X b _ k))
    fin_cases q
    · rfl
    · exact (Nat.zero_add _).symm
    · exact (Nat.zero_add _).symm
  S := fun b n hn l => by
    refine (View.ld_unit_apply_of (held m c 1 t (d 1)) _ _ _ _ (ix3 b n l) fun q => ?_).trans ((held1 m c t (d 1) b n hn l).trans (h.S b _))
    fin_cases q
    · rfl
    · exact (Nat.zero_add _).symm
    · exact (Nat.zero_add _).symm
  W := fun p k l hl => lw_ok h t _ _ _ _ p k l hl
  s := fun p l hl => (ls_at _ _ t.val (off_eq t).1 (off_eq t).2.1 p l hl).trans ((held6 m c t (d 6) _ (chan_lt p hl)).trans (h.s _))
  bi := fun p l hl => (lbias_at _ _ t.val (off_eq t).1 (off_eq t).2.1 p l hl).trans ((held7 m c t (d 7) _ (chan_lt p hl)).trans (h.bi _))
  D := fun p dy dx l hl => ld9_at _ _ t.val (off_eq t).2.2.1 (off_eq t).2.2.2 p _ l hl _ ((held8 m c t (d 8) dy dx _ (chan_lt p hl)).trans (h.D dy dx _))
  db := fun p l hl => ldb_at _ _ t.val (off_eq t).1 (off_eq t).2.1 p l hl _ ((held9 m c t (d 9) _ (chan_lt p hl)).trans (h.db _))

/-- The tile of a grid point: the gated values of its 256 channels on the 252 rows, and zeros elsewhere. -/
theorem tile_val (h : Holds m a c) (t : Fin cfg0.N) (H) (hH : TileOk m c t H) (b : Fin 5) (p : Fin 2) (n : Fin 256) (l : Fin 128) :
    H b p (ix2 n l) = ((if hl : n.val < 252 ∧ 256 * t.val + (lane p l).val < 5600
      then a.hg b n.val ⟨256 * t.val + (lane p l).val, hl.2⟩ else 0 : ℝ) : EReal) := by
  obtain ⟨d, rfl⟩ := hH
  have e := hg_tile (loads_ok h t d) t.isLt b p n l
  rw [← coord_val t] at e
  refine Eq.trans ?_ (e.trans ?_)
  · rw [coord_val t]; unfold tileAt hgOf; rw [coord_val t]
  · rw [coord_val t]
end Cert.UpIdeal.Hand

end
-- ==== Proof.UpFinite.lean ====
/-
  The precondition of the up projection's equation: every argument entry is smaller than infinity in absolute value, so it is
  a real number.
-/
module

public import proofs.«01_k».proof.Defs
public import proofs.«01_k».proof.Proof.UpIdealLoads
public import Idealize.ShloMosaic.Lib.ReduceAll

@[expose] public section

set_option maxRecDepth 16384
noncomputable section
namespace Cert.UpFinite
open Idealize.ShloMosaic Idealize.ShloMosaic.TcCoe
open Cert.UpSpec

/-- The shape facts the predicate states. -/
theorem facts : Cert.Pre_up_finite.Facts := by
  constructor <;> decide

/-- An extended real of absolute value below infinity is a real number. -/
theorem real_of_lt (x : EReal) (h : Ideal.cmp .olt (max x (-x)) (Ideal.ofBits .f32 0x7F800000#32) = 1#1) : x = ((x.toReal : ℝ) : EReal) := by
  have ht : Ideal.ofBits .f32 0x7F800000#32 = (⊤ : EReal) := by simp [Ideal.ofBits, Ideal.ieee]
  rw [ht] at h
  have hl : max x (-x) < ⊤ := by
    by_contra hn
    simp [Ideal.cmp, hn] at h
  obtain ⟨h1, h2⟩ := max_lt_iff.mp hl
  refine (EReal.coe_toReal h1.ne ?_).symm
  rintro rfl
  simp at h2

/-- An array whose every entry passes the test holds real numbers. -/
theorem real_of_all {s : Shape} {axes : List (Fin s.rank)} {t u z : Shape} [Subsingleton t.Idx] (x : FVec Ideal s .f32) (d) (hb : z.BroadcastsInDim s d)
    (hr : s.ReducesTo axes t) (hu : 0 < u.numel) (init : u.Idx → BitVec 1) (j : t.Idx)
    (e : Host.reduce IntOp.andi (cmpf .olt (Host.absf x) (broadcastInDim s d hb (constant (F := Ideal) z .f32 0x7F800000#32))) init hr hu j = 1#1) (i : s.Idx) :
    x i = (((x i).toReal : ℝ) : EReal) :=
  real_of_lt (x i) (Host.reduce_andi_all _ _ hr hu j e i)

/-- The real numbers the arguments hold. -/
def argsOf (m : (ℓ : Loc Cert.UpIdeal.nD Cert.UpIdeal.τ Cert.UpIdeal.sig) → Buf (Elt Ideal) ℓ) (c : Dev Cert.UpIdeal.nD) : Args where
  X b n k := EReal.toReal (m ((c : Thread Cert.UpIdeal.nD Cert.UpIdeal.τ).loc Cert.UpIdeal.main_arg0) (ix3 b n k))
  S b n := EReal.toReal (m ((c : Thread Cert.UpIdeal.nD Cert.UpIdeal.τ).loc Cert.UpIdeal.main_arg1) (ix2 b n))
  W k l := EReal.toReal (m ((c : Thread Cert.UpIdeal.nD Cert.UpIdeal.τ).loc Cert.UpIdeal.main_arg2) (ix2 k l))
  s l := EReal.toReal (m ((c : Thread Cert.UpIdeal.nD Cert.UpIdeal.τ).loc Cert.UpIdeal.main_arg3) (ix1 l))
  bi l := EReal.toReal (m ((c : Thread Cert.UpIdeal.nD Cert.UpIdeal.τ).loc Cert.UpIdeal.main_arg4) (ix1 l))
  D dy dx l := EReal.toReal (m ((c : Thread Cert.UpIdeal.nD Cert.UpIdeal.τ).loc Cert.UpIdeal.main_arg5) (ix3 dy dx l))
  db l := EReal.toReal (m ((c : Thread Cert.UpIdeal.nD Cert.UpIdeal.τ).loc Cert.UpIdeal.main_arg6) (ix1 l))

instance : Subsingleton Cert.Pre_up_finite.S_.Idx := ⟨fun x y => funext fun q => q.elim0⟩

open Cert.Pre_up_finite in
/-- The predicate holds only of arrays of real numbers. -/
theorem real_of_fn (hF : Cert.Pre_up_finite.Facts) (x0 : FVec Ideal S5x252x2240 .f32) (x1 : FVec Ideal S5x252 .f32) (x2 : FVec Ideal S2240x11200 .f32)
    (x3 x4 : FVec Ideal S11200 .f32) (x5 : FVec Ideal S3x3x11200 .f32) (x6 : FVec Ideal S11200 .f32)
    (h : Cert.Pre_up_finite.fn (F := Ideal) x0 x1 x2 x3 x4 x5 x6 = fun _ => 1#1) :
    (∀ i, x0 i = ((EReal.toReal (x0 i) : ℝ) : EReal)) ∧ (∀ i, x1 i = ((EReal.toReal (x1 i) : ℝ) : EReal)) ∧
    (∀ i, x2 i = ((EReal.toReal (x2 i) : ℝ) : EReal)) ∧ (∀ i, x3 i = ((EReal.toReal (x3 i) : ℝ) : EReal)) ∧
    (∀ i, x4 i = ((EReal.toReal (x4 i) : ℝ) : EReal)) ∧ (∀ i, x5 i = ((EReal.toReal (x5 i) : ℝ) : EReal)) ∧
    (∀ i, x6 i = ((EReal.toReal (x6 i) : ℝ) : EReal)) := by
  have j : S_.Idx := fun q => q.elim0
  have e := congrFun h j
  dsimp only [Cert.Pre_up_finite.fn, Cert.Pre_up_finite.fn_part1] at e
  obtain ⟨e, h6⟩ := IntOp.andi_eq_one.mp e
  obtain ⟨e, h5⟩ := IntOp.andi_eq_one.mp e
  obtain ⟨e, h4⟩ := IntOp.andi_eq_one.mp e
  obtain ⟨e, h3⟩ := IntOp.andi_eq_one.mp e
  obtain ⟨e, h2⟩ := IntOp.andi_eq_one.mp e
  obtain ⟨h0, h1⟩ := IntOp.andi_eq_one.mp e
  exact ⟨real_of_all x0 _ _ _ _ _ j h0, real_of_all x1 _ _ _ _ _ j h1, real_of_all x2 _ _ _ _ _ j h2, real_of_all x3 _ _ _ _ _ j h3,
    real_of_all x4 _ _ _ _ _ j h4, real_of_all x5 _ _ _ _ _ j h5, real_of_all x6 _ _ _ _ _ j h6⟩

theorem holds {m : (ℓ : Loc Cert.UpIdeal.nD Cert.UpIdeal.τ Cert.UpIdeal.sig) → Buf (Elt Ideal) ℓ}
    (h : Cert.Pre_UpIdeal_up_finite (hPre_up_finite := facts) m) (c : Dev Cert.UpIdeal.nD) : Cert.UpIdeal.Hand.Holds m (argsOf m c) c := by
  obtain ⟨h0, h1, h2, h3, h4, h5, h6⟩ := real_of_fn facts _ _ _ _ _ _ _ (h c)
  exact ⟨fun b n k => h0 (ix3 b n k), fun b n => h1 (ix2 b n), fun k l => h2 (ix2 k l), fun l => h3 (ix1 l), fun l => h4 (ix1 l),
    fun p q l => h5 (ix3 p q l), fun l => h6 (ix1 l)⟩

end Cert.UpFinite

end
-- ==== Proof.UpIdealScale.lean ====
/-
  The quantiser of the kernel, once every grid point's tile is known: the running maxima over the lanes and grid points come
  to the largest absolute gated value of a row, so the scales and codes written at the end are those of `UpSpec`.
-/
module

public import proofs.«01_k».proof.Proof.UpIdealLoads

@[expose] public section

set_option maxRecDepth 16384
noncomputable section
namespace Cert.UpIdeal.Hand
open Idealize.ShloMosaic Idealize.ShloMosaic.TcCoe Idealize.ShloMosaic.Tactic
open Cert.UpIdeal.Gen Cert.UpSpec

/-- The tiles of the 22 grid points are the gated values, zero outside of the rows and channels. -/
def Tiles (a : Args) (H : ℕ → Fin 5 → Fin 2 → Vec Ideal S256x128 .f32) : Prop :=
  ∀ j, j < 22 → ∀ (b : Fin 5) (p : Fin 2) (n : Fin 256) (l : Fin 128),
    H j b p (ix2 n l) = ((if hl : n.val < 252 ∧ 256 * j + (lane p l).val < 5600
      then a.hg b n.val ⟨256 * j + (lane p l).val, hl.2⟩ else 0 : ℝ) : EReal)

variable {a : Args} {H : ℕ → Fin 5 → Fin 2 → Vec Ideal S256x128 .f32}

/-! ## The elements of the kernel's steps -/

theorem mxTile_at (x : Vec Ideal S1x256x128 .f32) (h0 h1 : Vec Ideal S256x128 .f32) (n : Fin 256) (l : Fin 128) :
    mxTile x h0 h1 (ix3 0 n l) = max (max (x (ix3 0 n l)) (FloatOps.absf (F := Ideal) (φ := .f32) (h0 (ix2 n l))))
      (FloatOps.absf (F := Ideal) (φ := .f32) (h1 (ix2 n l))) := by
  pointwise [mxTile]

theorem ldM (X : Vec Ideal S5x256x128 .f32) (b : Fin 5) (n : Fin 256) (l : Fin 128) :
    View.ld X (boxM b) (ix3 0 n l) = X (ix3 b n l) :=
  View.ld_unit_apply_of X _ _ _ _ _ fun q => by
    fin_cases q
    · rfl
    · exact (Nat.zero_add _).symm
    · exact (Nat.zero_add _).symm

theorem ldW (X : Vec Ideal S22x5x256x256 .f32) (i : Fin 22) (b : Fin 5) (n l : Fin 256) :
    View.ld X (boxW i b) (ix4 0 0 n l) = X (ix4 i b n l) :=
  View.ld_unit_apply_of X _ _ _ _ _ fun q => by
    fin_cases q
    · rfl
    · rfl
    · exact (Nat.zero_add _).symm
    · exact (Nat.zero_add _).symm

theorem mx_succ (k : ℕ) (b : Fin 5) (n : Fin 256) (l : Fin 128) :
    mxUp H (k + 1) (ix3 b n l) = max (max (mxUp H k (ix3 b n l)) (FloatOps.absf (F := Ideal) (φ := .f32) (H k b 0 (ix2 n l))))
      (FloatOps.absf (F := Ideal) (φ := .f32) (H k b 1 (ix2 n l))) := by
  refine (mxTile_at (View.ld (mxUp H k) (boxM b)) (H k b 0) (H k b 1) n l).trans ?_
  rw [ldM]

theorem zero_val : (zero : Elt Ideal .f32) = (0 : EReal) := by
  show Ideal.ofBits .f32 0#32 = 0
  simp [Ideal.ofBits, Ideal.ieee]

theorem absf_zero : FloatOps.absf (F := Ideal) (φ := .f32) (((0 : ℝ) : EReal)) = (0 : EReal) := by
  show max ((0 : ℝ) : EReal) (-((0 : ℝ) : EReal)) = 0
  simp
theorem absf_nonneg (x : ℝ) : (0 : EReal) ≤ FloatOps.absf (F := Ideal) (φ := .f32) ((x : ℝ) : EReal) := by
  show (0 : EReal) ≤ max ((x : ℝ) : EReal) (-((x : ℝ) : EReal))
  rcases le_total 0 x with h | h
  · exact le_max_of_le_left (by exact_mod_cast h)
  · exact le_max_of_le_right (by rw [← EReal.coe_neg]; exact_mod_cast neg_nonneg.mpr h)

/-! ## The maxima -/

/-- What bounds a lane's running maximum. -/
theorem mx_le (k : ℕ) (b : Fin 5) (n : Fin 256) (l : Fin 128) (z : EReal) : (mxUp H k (ix3 b n l) : EReal) ≤ z ↔
    (0 : EReal) ≤ z ∧ ∀ j, j < k → ∀ p : Fin 2, (FloatOps.absf (F := Ideal) (φ := .f32) (H j b p (ix2 n l)) : EReal) ≤ z := by
  induction k with
  | zero =>
    show (zero : Elt Ideal .f32) ≤ z ↔ _
    rw [zero_val]
    exact ⟨fun h => ⟨h, fun j hj => absurd hj (Nat.not_lt_zero j)⟩, fun h => h.1⟩
  | succ k ih =>
    rw [mx_succ]
    refine max_le_iff.trans ?_
    refine (and_congr_left' (max_le_iff.trans (and_congr_left' ih))).trans ?_
    constructor
    · rintro ⟨⟨⟨h, hj⟩, h0⟩, h1⟩
      refine ⟨h, fun j hk p => ?_⟩
      rcases Nat.lt_succ_iff_lt_or_eq.mp hk with hk | rfl
      · exact hj j hk p
      · match p with
        | 0 => exact h0
        | 1 => exact h1
    · rintro ⟨h, hj⟩
      exact ⟨⟨⟨h, fun j hk => hj j (Nat.lt_succ_of_lt hk)⟩, hj k (Nat.lt_succ_self k) 0⟩, hj k (Nat.lt_succ_self k) 1⟩

/-- Over all lanes and grid points: the largest absolute gated value of the row. -/
theorem mx_row (hH : Tiles a H) (b : Fin 5) (n : Fin 256) (hn : n.val < 252) :
    Finset.univ.fold max (Ideal.ofBits .f32 4286578688#32) (fun k : Fin 128 => (mxUp H 22 (ix3 b n k) : EReal)) = a.amax b n.val := by
  refine eq_of_forall_ge_iff fun z => ?_
  unfold Args.amax
  rw [Finset.fold_max_le, Finset.fold_max_le]
  refine and_congr_right fun _ => ?_
  constructor
  · intro h l _
    have hb := ((mx_le 22 b n ⟨l.val % 128, Nat.mod_lt _ (by norm_num)⟩ z).mp (h _ (Finset.mem_univ _))).2
      (l.val / 256) (by omega) ⟨l.val % 256 / 128, by omega⟩
    have e : 256 * (l.val / 256) + (lane ⟨l.val % 256 / 128, by omega⟩ ⟨l.val % 128, Nat.mod_lt _ (by norm_num)⟩).val = l.val := by
      show 256 * (l.val / 256) + (128 * (l.val % 256 / 128) + l.val % 128) = l.val
      omega
    rw [hH _ (by omega), dif_pos ⟨hn, by rw [e]; exact l.isLt⟩] at hb
    rw [show (⟨_, by rw [e]; exact l.isLt⟩ : Fin 5600) = l from Fin.ext e] at hb
    exact hb
  · intro h k _
    refine (mx_le 22 b n k z).mpr ⟨(absf_nonneg _).trans (h 0 (Finset.mem_univ _)), fun j hj p => ?_⟩
    rw [hH j hj]
    split
    · exact h _ (Finset.mem_univ _)
    · rw [absf_zero]; exact (absf_nonneg _).trans (h 0 (Finset.mem_univ _))

/-! ## The results -/

theorem pay3_at (x : Vec Ideal S1x256x128 .f32) (n : Fin 256) :
    k0_pay3 x (ix2 n 0) = scaleOf (Finset.univ.fold max (Ideal.ofBits .f32 4286578688#32) (fun k : Fin 128 => (x (ix3 0 n k) : EReal))) := by
  unfold scaleOf
  pointwise [k0_pay3]

theorem codeTile_at (x : Vec Ideal S256x1 .f32) (h : Vec Ideal S1x1x256x256 .f32) (n l : Fin 256) :
    codeTile x h (ix2 n l) = codeOf (x (ix2 n 0)) (h (ix4 0 0 n l)) := by
  unfold codeOf
  pointwise [codeTile]

theorem scaleCol_at (hH : Tiles a H) (b : Fin 5) (n : Fin 256) (hn : n.val < 252) :
    scaleCol (mxUp H 22) b (ix2 n 0) = scaleOf (a.amax b n.val) := by
  refine (pay3_at _ n).trans (congrArg scaleOf (Eq.trans ?_ (mx_row hH b n hn)))
  exact congrArg (Finset.univ.fold max _) (funext fun k => ldM (mxUp H 22) b n k)

theorem scales_at (hH : Tiles a H) (b : Fin 5) (n : Fin 252) :
    outScales (mxUp H 22) (ix2 b n) = scaleOf (a.amax b n.val) :=
  scaleCol_at hH b ⟨n.val, by omega⟩ n.isLt

theorem slabs_at (hH : Tiles a H) (b : Fin 5) (n : Fin 256) (hn : n.val < 252) (l : Fin 5600) (i : Fin 22) (q : Fin 256)
    (hl : l.val = 256 * i.val + q.val) : slabs H (ix4 i b n q) = ((a.hg b n.val l : ℝ) : EReal) := by
  have e : 256 * i.val + (lane ⟨q.val / 128, by omega⟩ ⟨q.val % 128, by omega⟩).val = l.val := by
    show 256 * i.val + (128 * (q.val / 128) + q.val % 128) = l.val
    omega
  refine (hH i.val i.isLt b ⟨q.val / 128, by omega⟩ n ⟨q.val % 128, by omega⟩).trans ?_
  rw [dif_pos ⟨hn, by rw [e]; exact l.isLt⟩]
  exact congrArg (fun l => ((a.hg b n.val l : ℝ) : EReal)) (Fin.ext e)

theorem codes_at (hH : Tiles a H) (b : Fin 5) (n : Fin 256) (hn : n.val < 252) (l : Fin 5600) :
    outCodes (slabs H) (mxUp H 22) (ix3 b n l) = codeOf (scaleOf (a.amax b n.val)) ((a.hg b n.val l : ℝ) : EReal) := by
  refine (codeTile_at _ _ n _).trans ?_
  exact congrArg₂ codeOf (scaleCol_at hH b n hn) ((ldW (slabs H) _ b n _).trans
    (slabs_at hH b n hn l ⟨l.val / 256, by omega⟩ ⟨l.val % 256, by omega⟩ (show l.val = 256 * (l.val / 256) + l.val % 256 by omega)))

end Cert.UpIdeal.Hand

end
-- ==== Proof.UpIdealFinal.lean ====
/-
  The arrays the kernel of the up projection ends with, when the arguments hold real numbers: the codes and scales of
  `UpSpec`.
-/
module

public import proofs.«01_k».proof.Proof.UpIdealScale

@[expose] public section

set_option maxRecDepth 16384
noncomputable section
namespace Cert.UpIdeal.Hand
open Idealize.ShloMosaic Idealize.ShloMosaic.TcCoe Idealize.ShloMosaic.Tactic
open Idealize.SL Idealize.SL.RA Idealize.SL.Sem
open Idealize.ShloMosaic.Pipeline (RDat Dat Cfg Window cellOf)
open Cert.UpIdeal.Gen Cert.UpSpec

variable (m : (ℓ : Loc nD τ sig) → Buf (Elt Ideal) ℓ)

/-- The codes as an array. -/
def codesOf (a : Args) : Vec Ideal S5x252x5600 .fp8e4m3 := fun y => codeOf (scaleOf (a.amax (y 0) (y 1).val)) ((a.hg (y 0) (y 1).val (y 2) : ℝ) : EReal)
/-- The scales as an array. -/
def scalesOf (a : Args) : Vec Ideal S5x252 .f32 := fun y => scaleOf (a.amax (y 0) (y 1).val)

/-- Every tile of the kept scratch is the gated value of its 256 channels. -/
theorem tiles_of {a : Args} {c : Dev nD} (h : Holds m a c) (H : ℕ → Fin 5 → Fin 2 → Vec Ideal S256x128 .f32)
    (hH : ∀ j (h : j < cfg0.N), TileOk m c ⟨j, h⟩ (H j)) : Tiles a H :=
  fun j hj b p n l => tile_val h ⟨j, hj⟩ (H j) (hH j hj) b p n l

/-- One code the last grid point writes; the block has four rows more than the array. -/
theorem codes_point {a : Args} {H : ℕ → Fin 5 → Fin 2 → Vec Ideal S256x128 .f32} (hH : Tiles a H) (b : Fin 5) (n : Fin 252) (n' : Fin 256)
    (hn : n'.val = n.val) (l : Fin 5600) : outCodes (slabs H) (mxUp H 22) (ix3 b n' l) = codesOf a (ix3 b n l) := by
  obtain ⟨k, hk⟩ := n
  obtain ⟨k', hk'⟩ := n'
  subst hn
  exact codes_at hH b ⟨k', hk'⟩ hk l

/-- One scale the last grid point writes. -/
theorem scales_point {a : Args} {H : ℕ → Fin 5 → Fin 2 → Vec Ideal S256x128 .f32} (hH : Tiles a H) (b : Fin 5) (n : Fin 252) :
    outScales (mxUp H 22) (ix2 b n) = scalesOf a (ix2 b n) := scales_at hH b n

/-- The codes and the scales go out after the last grid point only. -/
theorem flush_10 : ∀ t : Fin cfg0.N, (cfg0.win 10).flush t = true → t.val = 21 := by decide +kernel
theorem flush_11 : ∀ t : Fin cfg0.N, (cfg0.win 11).flush t = true → t.val = 21 := by decide +kernel

set_option maxHeartbeats 4000000 in
/-- The codes the kernel ends with. -/
theorem codes_final {a : Args} (r : PUnit.{1} × MemSt nD τ sig (Elt Ideal)) (h : RDat.FramePost cfg0 (rdat m) (V m) r) (c : Dev nD)
    (ha : Holds m a c) : r.2.mem ((c : Thread nD τ).loc main_v9_0) = codesOf a := by
  obtain ⟨after, hL, hA⟩ := RDat.FramePost.exists_exact h c
  refine (hA 10).trans ?_
  refine Dat.arrAt_eq_of_covers ((rdat m c).withAfter after) 10 (codesOf a) (by decide +kernel) fun t hf y => ?_
  obtain ⟨Y, -, hY⟩ := hL 10 t hf
  rw [after_10] at hY
  obtain ⟨H, hH, hY⟩ := hY.2 (flush_10 t hf)
  rw [RDat.withAfter_after, hY]
  blk_simp
  have hx := (xsize_eq t).2.2.2.2.2.2.2.2.2.2.1
  have hi := (index_eq t).2.2.2.2.2.2.2.2.2.2.1
  have h0 : (y 0).val < 5 := by have := (y 0).isLt; have e := congrFun hx 0; exact this.trans_eq e
  have h1 : (y 1).val < 252 := by have := (y 1).isLt; have e := congrFun hx 1; exact this.trans_eq e
  have l2 : (y 2).val < win0_10.xsize (grid0.coords t) 2 := (y 2).isLt
  have e2 : win0_10.xsize (grid0.coords t) 2 = 5600 := congrFun hx 2
  have h2 : (y 2).val < 5600 := lt_of_lt_of_eq l2 e2
  clear l2 e2
  have q := codes_point (tiles_of m ha H hH) ⟨(y 0).val, h0⟩ ⟨(y 1).val, h1⟩ ⟨(y 1).val, by omega⟩ rfl ⟨(y 2).val, h2⟩
  revert q
  generalize outCodes (slabs H) (mxUp H 22) = O
  generalize codesOf a = R
  intro q
  have e1 : (cfg0.win 10).xinj (cfg0.grid.coords t) y = (ix3 (⟨(y 0).val, h0⟩ : Fin 5) (⟨(y 1).val, by omega⟩ : Fin 256) (⟨(y 2).val, h2⟩ : Fin 5600) : S5x256x5600.Idx) := by
    funext q; apply Fin.ext; fin_cases q <;> rfl
  have e2 : (win0_10.blk t).view.emb y = (ix3 (⟨(y 0).val, h0⟩ : Fin 5) (⟨(y 1).val, h1⟩ : Fin 252) (⟨(y 2).val, h2⟩ : Fin 5600) : S5x252x5600.Idx) := by
    blk_ext [hi]
  rw [e1, e2]
  exact q

/-- The scales the kernel ends with. -/
theorem scales_final {a : Args} (r : PUnit.{1} × MemSt nD τ sig (Elt Ideal)) (h : RDat.FramePost cfg0 (rdat m) (V m) r) (c : Dev nD)
    (ha : Holds m a c) : r.2.mem ((c : Thread nD τ).loc main_v9_1) = scalesOf a := by
  obtain ⟨after, hL, hA⟩ := RDat.FramePost.exists_exact h c
  refine (hA 11).trans ?_
  refine Dat.arrAt_eq_of_covers ((rdat m c).withAfter after) 11 (scalesOf a) (by decide +kernel) fun t hf y => ?_
  obtain ⟨Y, -, hY⟩ := hL 11 t hf
  rw [after_11] at hY
  obtain ⟨H, hH, hY⟩ := hY.2 (flush_11 t hf)
  rw [RDat.withAfter_after, hY]
  blk_simp
  have hx := (xsize_eq t).2.2.2.2.2.2.2.2.2.2.2
  have hi := (index_eq t).2.2.2.2.2.2.2.2.2.2.2
  have h0 : (y 0).val < 5 := by have := (y 0).isLt; have e := congrFun hx 0; exact this.trans_eq e
  have h1 : (y 1).val < 252 := by have := (y 1).isLt; have e := congrFun hx 1; exact this.trans_eq e
  have q := scales_point (tiles_of m ha H hH) ⟨(y 0).val, h0⟩ ⟨(y 1).val, h1⟩
  revert q
  generalize outScales (mxUp H 22) = O
  generalize scalesOf a = R
  intro q
  have e1 : (cfg0.win 11).xinj (cfg0.grid.coords t) y = (ix2 (⟨(y 0).val, h0⟩ : Fin 5) (⟨(y 1).val, h1⟩ : Fin 252) : S5x252.Idx) := by
    funext q; apply Fin.ext; fin_cases q <;> rfl
  have e2 : (win0_11.blk t).view.emb y = (ix2 (⟨(y 0).val, h0⟩ : Fin 5) (⟨(y 1).val, h1⟩ : Fin 252) : S5x252.Idx) := by
    blk_ext [hi]
  change O ((cfg0.win 11).xinj (cfg0.grid.coords t) y) = _
  rw [e1, e2]
  exact q

end Cert.UpIdeal.Hand

end
-- ==== Proof.UpRefModel.lean ====
/-
  What the reference of the up projection computes: its payloads, cut at the stages of the calculation, read at an index.
-/
module

public import proofs.«01_k».proof.Proof.Gen.RUpIdeal.Value
public import proofs.«01_k».proof.Proof.UpSpec
public import Idealize.ShloMosaic.Lib.Pointwise
public import Idealize.ShloMosaic.Lib.Pipeline.ValueKit

@[expose] public section

noncomputable section

namespace Cert.RUpIdeal.Hand

open Cert.RUpIdeal Cert.RUpIdeal.Gen Idealize.ShloMosaic Idealize.ShloMosaic.TcCoe

variable {F : FTy → Type} [FloatOps F]

/-- SiLU of the projection. -/
def refHs (v0 : Vec F S5x252x2240 .fp8e4m3) (v2 : Vec F S2240x11200 .fp8e4m3) (v5 : Vec F S5x252 .f32)
    (v9 v13 : Vec F S11200 .f32) : FVec F S5x252x11200 .f32 :=
  have v1 : FVec F S5x252x2240 .fp8e4m3 := shapeCast S5x252x2240 v0 shapeCasts_S5x252x2240_S5x252x2240
  have v3 : FVec F S2240x11200 .fp8e4m3 := shapeCast S2240x11200 v2 shapeCasts_S2240x11200_S2240x11200
  have cst : FVec F S5x252x11200 .f32 := constant S5x252x11200 .f32 0x00000000#32
  have v4 : FVec F S5x252x11200 .f32 := matmul dot_S5x252x2240_S2240x11200_S5x252x11200_2_0_01_1_n_n none v1 v3 cst
  have v6 : FVec F S5x252x1 .f32 := shapeCast S5x252x1 v5 shapeCasts_S5x252_S5x252x1
  have v7 : FVec F S5x252x11200 .f32 := broadcastTo S5x252x11200 v6 broadcasts_S5x252x1_S5x252x11200
  have v8 : FVec F S5x252x11200 .f32 := mulf v4 v7
  have v10 : FVec F S1x1x11200 .f32 := shapeCast S1x1x11200 v9 shapeCasts_S11200_S1x1x11200
  have v11 : FVec F S5x252x11200 .f32 := broadcastTo S5x252x11200 v10 broadcasts_S1x1x11200_S5x252x11200
  have v12 : FVec F S5x252x11200 .f32 := mulf v8 v11
  have v14 : FVec F S1x1x11200 .f32 := shapeCast S1x1x11200 v13 shapeCasts_S11200_S1x1x11200
  have v15 : FVec F S5x252x11200 .f32 := broadcastTo S5x252x11200 v14 broadcasts_S1x1x11200_S5x252x11200
  have v16 : FVec F S5x252x11200 .f32 := addf v12 v15
  have v17 : FVec F S5x252x11200 .f32 := logistic v16
  have v18 : FVec F S5x252x11200 .f32 := mulf v16 v17
  have v19 : FVec F S5x252x11200 .bf16 := truncf .bf16 v18 bitsLt_bf16_f32
  have v20 : FVec F S5x252x11200 .f32 := extf .f32 v19 bitsLt_bf16_f32
  v20

/-- The rows on their 14x18 grid. -/
def refGrid (v20 : FVec F S5x252x11200 .f32) : FVec F S5x14x18x11200 .f32 :=
  shapeCast S5x14x18x11200 v20 shapeCasts_S5x252x11200_S5x14x18x11200

/-- The ring of zeros around the grid. -/
def refPad (v21 : FVec F S5x14x18x11200 .f32) : FVec F S5x16x20x11200 .f32 :=
  have v22 : F .f32 := Scalar.sitofp .f32 0#32
  have v23 : FVec F S5x1x18x11200 .f32 := broadcast S5x1x18x11200 v22
  have v24 : FVec F S5x15x18x11200 .f32 := concatenate S5x15x18x11200 1 [⟨S5x1x18x11200, v23⟩, ⟨S5x14x18x11200, v21⟩] concatenates_S5x1x18x11200_S5x14x18x11200_S5x15x18x11200_d1
  have v25 : FVec F S5x1x18x11200 .f32 := broadcast S5x1x18x11200 v22
  have v26 : FVec F S5x16x18x11200 .f32 := concatenate S5x16x18x11200 1 [⟨S5x15x18x11200, v24⟩, ⟨S5x1x18x11200, v25⟩] concatenates_S5x15x18x11200_S5x1x18x11200_S5x16x18x11200_d1
  have v27 : FVec F S5x16x1x11200 .f32 := broadcast S5x16x1x11200 v22
  have v28 : FVec F S5x16x19x11200 .f32 := concatenate S5x16x19x11200 2 [⟨S5x16x1x11200, v27⟩, ⟨S5x16x18x11200, v26⟩] concatenates_S5x16x1x11200_S5x16x18x11200_S5x16x19x11200_d2
  have v29 : FVec F S5x16x1x11200 .f32 := broadcast S5x16x1x11200 v22
  have v30 : FVec F S5x16x20x11200 .f32 := concatenate S5x16x20x11200 2 [⟨S5x16x19x11200, v28⟩, ⟨S5x16x1x11200, v29⟩] concatenates_S5x16x19x11200_S5x16x1x11200_S5x16x20x11200_d2
  v30

/-- The scales of the gated values. -/
def refScale (H : FVec F S5x252x5600 .f32) : FVec F S5x252 .f32 :=
  have v103 : FVec F S5x252x5600 .f32 := absf H
  have v104 : FVec F S5x252 .f32 := multiReduction .maximumf [2] S5x252 v103 0xFF800000#32 reduces_S5x252x5600_S5x252 (.inl rfl) rfl
  have cst_35 : F .f32 := Scalar.ofBits .f32 0x00000000#32
  have v105 : FVec F S5x252 .f32 := broadcast S5x252 cst_35
  have v106 : IVec S5x252 1 := cmpf .oeq v104 v105
  have cst_36 : F .f32 := Scalar.ofBits .f32 0x43E00000#32
  have v107 : FVec F S5x252 .f32 := broadcast S5x252 cst_36
  have v108 : FVec F S5x252 .f32 := divf v104 v107
  have cst_37 : F .f32 := Scalar.ofBits .f32 0x3F800000#32
  have v109 : FVec F S5x252 .f32 := broadcast S5x252 cst_37
  have v110 : FVec F S5x252 .f32 := select v106 v109 v108
  v110

/-- The codes of the gated values under their scales. -/
def refCode (H : FVec F S5x252x5600 .f32) (Z : FVec F S5x252 .f32) : FVec F S5x252x5600 .fp8e4m3 :=
  have v111 : FVec F S5x252x1 .f32 := shapeCast S5x252x1 Z shapeCasts_S5x252_S5x252x1
  have v112 : FVec F S5x252x5600 .f32 := broadcastTo S5x252x5600 v111 broadcasts_S5x252x1_S5x252x5600
  have v113 : FVec F S5x252x5600 .f32 := divf H v112
  have cst_38 : F .f32 := Scalar.ofBits .f32 0xC3E00000#32
  have cst_39 : F .f32 := Scalar.ofBits .f32 0x43E00000#32
  have v114 : FVec F S5x252x5600 .f32 := broadcast S5x252x5600 cst_38
  have v115 : FVec F S5x252x5600 .f32 := maximumf v114 v113
  have v116 : FVec F S5x252x5600 .f32 := broadcast S5x252x5600 cst_39
  have v117 : FVec F S5x252x5600 .f32 := minimumf v116 v115
  have v118 : FVec F S5x252x5600 .fp8e4m3 := truncf .fp8e4m3 v117 bitsLt_fp8e4m3_f32
  v118

theorem pay4_eq (v0 : Vec F S5x252x2240 .fp8e4m3) (v2 : Vec F S2240x11200 .fp8e4m3) (v5 : Vec F S5x252 .f32)
    (v9 v13 : Vec F S11200 .f32) : k0_pay4 v0 v2 v5 v9 v13 = refPad (refGrid (refHs v0 v2 v5 v9 v13)) := rfl

theorem pay2_eq (v30 : FVec F S5x16x20x11200 .f32) (v82 v83 : FVec F S5x14x18x11200 .f32)
    (v84 v91 : Vec F S1x1x11200 .f32) : k0_pay2 v30 v82 v83 v84 v91 = refScale (k0_pay1 v30 v82 v83 v84 v91) := rfl

theorem pay3_eq (v30 : FVec F S5x16x20x11200 .f32) (v82 v83 : FVec F S5x14x18x11200 .f32)
    (v84 v91 : Vec F S1x1x11200 .f32) : k0_pay3 v30 v82 v83 v84 v91 =
      refCode (k0_pay1 v30 v82 v83 v84 v91) (k0_pay2 v30 v82 v83 v84 v91) := rfl

end Cert.RUpIdeal.Hand

end
-- ==== Proof.UpRefValue.lean ====
/-
  What the reference of the up projection computes, when its arguments are real numbers: the functions of `UpSpec`.
-/
module

public import proofs.«01_k».proof.Proof.UpRefModel

@[expose] public section

noncomputable section

namespace Cert.RUpIdeal.Hand

open Cert.RUpIdeal Cert.RUpIdeal.Gen Idealize.ShloMosaic Idealize.ShloMosaic.TcCoe Cert.UpSpec

/-- The arrays hold the real numbers of `a`. -/
structure Reads (a : Args) (x0 : Vec Ideal S5x252x2240 .fp8e4m3) (x1 : Vec Ideal S5x252 .f32)
    (x2 : Vec Ideal S2240x11200 .fp8e4m3) (x3 x4 : Vec Ideal S11200 .f32) (x5 : Vec Ideal S3x3x11200 .f32)
    (x6 : Vec Ideal S11200 .f32) : Prop where
  X : ∀ b n k, x0 (ix3 b n k) = ((a.X b n k : ℝ) : EReal)
  S : ∀ b n, x1 (ix2 b n) = ((a.S b n : ℝ) : EReal)
  W : ∀ k l, x2 (ix2 k l) = ((a.W k l : ℝ) : EReal)
  s : ∀ l, x3 (ix1 l) = ((a.s l : ℝ) : EReal)
  bi : ∀ l, x4 (ix1 l) = ((a.bi l : ℝ) : EReal)
  D : ∀ p q l, x5 (ix3 p q l) = ((a.D p q l : ℝ) : EReal)
  db : ∀ l, x6 (ix1 l) = ((a.db l : ℝ) : EReal)

theorem logistic_silu (x : ℝ) : ((x : ℝ) : EReal) * Ideal.logistic ((x : ℝ) : EReal) = ((silu x : ℝ) : EReal) := by
  rw [Ideal.logistic_coe, ← EReal.coe_mul]; rfl

theorem hs_at (v0 : Vec Ideal S5x252x2240 .fp8e4m3) (v2 : Vec Ideal S2240x11200 .fp8e4m3) (v5 : Vec Ideal S5x252 .f32)
    (v9 v13 : Vec Ideal S11200 .f32) (b : Fin 5) (n : Fin 252) (l : Fin 11200) :
    refHs v0 v2 v5 v9 v13 (ix3 b n l) =
      ((∑ x, v0 (ix3 b n x) * v2 (ix2 x l)) * v5 (ix2 b n) * v9 (ix1 l) + v13 (ix1 l)) *
        Ideal.logistic ((∑ x, v0 (ix3 b n x) * v2 (ix2 x l)) * v5 (ix2 b n) * v9 (ix1 l) + v13 (ix1 l)) := by
  pointwise [refHs]

theorem grid_at (v : FVec Ideal S5x252x11200 .f32) (b : Fin 5) (y : Fin 14) (x : Fin 18) (l : Fin 11200) :
    refGrid v (ix4 b y x l) = v (ix3 b ⟨y.val * 18 + x.val, by omega⟩ l) := by
  pointwise [refGrid]

theorem pad_at (v : FVec Ideal S5x14x18x11200 .f32) (b : Fin 5) (y : Fin 16) (x : Fin 20) (l : Fin 11200) (r : EReal)
    (hin : ∀ h : 1 ≤ y.val ∧ y.val ≤ 14 ∧ 1 ≤ x.val ∧ x.val ≤ 18,
      v (ix4 b ⟨y.val - 1, by omega⟩ ⟨x.val - 1, by omega⟩ l) = r)
    (hout : ¬ (1 ≤ y.val ∧ y.val ≤ 14 ∧ 1 ≤ x.val ∧ x.val ≤ 18) → r = 0) :
    refPad v (ix4 b y x l) = r := by
  have z : (((0#32).toInt : ℝ) : EReal) = 0 := by simp
  pointwise [refPad]
  simp only [z]
  split_ifs
  all_goals first
    | exact hin (by omega)
    | rw [hout (by omega)]

variable {a : Args} {x0 : Vec Ideal S5x252x2240 .fp8e4m3} {x1 : Vec Ideal S5x252 .f32}
  {x2 : Vec Ideal S2240x11200 .fp8e4m3} {x3 x4 : Vec Ideal S11200 .f32} {x5 : Vec Ideal S3x3x11200 .f32}
  {x6 : Vec Ideal S11200 .f32}

theorem hs_val (h : Reads a x0 x1 x2 x3 x4 x5 x6) (b : Fin 5) (n : Fin 252) (l : Fin 11200) :
    refHs x0 x2 x1 x3 x4 (ix3 b n l) = ((a.hs b n l : ℝ) : EReal) := by
  have e : (∑ x, x0 (ix3 b n x) * x2 (ix2 x l)) * x1 (ix2 b n) * x3 (ix1 l) + x4 (ix1 l)
      = ((a.hu b n l : ℝ) : EReal) := by
    unfold Args.hu
    have hk : ∀ k, x0 (ix3 b n k) * x2 (ix2 k l) = ((a.X b n k * a.W k l : ℝ) : EReal) := fun k => by
      rw [h.X, h.W, EReal.coe_mul]
    rw [EReal.coe_add, EReal.coe_mul, EReal.coe_mul, coe_sum, h.S, h.s, h.bi, Finset.sum_congr rfl fun k _ => hk k]
  rw [hs_at, e, logistic_silu]
  unfold Args.hs
  rw [dif_pos n.isLt]

theorem pad_val (h : Reads a x0 x1 x2 x3 x4 x5 x6) (b : Fin 5) (y : Fin 16) (x : Fin 20) (l : Fin 11200) :
    k0_pay4 x0 x2 x1 x3 x4 (ix4 b y x l) = ((a.pad b y x l : ℝ) : EReal) := by
  rw [pay4_eq]
  unfold Args.pad
  refine pad_at _ b y x l _ (fun hy => ?_) fun hy => ?_
  · rw [grid_at, hs_val h, if_pos hy]
  · rw [if_neg hy]; rfl

theorem pay5_at (v0 : Vec Ideal S5x252x2240 .fp8e4m3) (v2 : Vec Ideal S2240x11200 .fp8e4m3) (v5 : Vec Ideal S5x252 .f32)
    (v9 v13 v31 : Vec Ideal S11200 .f32) (v33 : Vec Ideal S1x1x11200 .f32) (b : Fin 5) (y : Fin 14) (x : Fin 18)
    (l : Fin 11200) : k0_pay5 v0 v2 v5 v9 v13 v31 v33 (ix4 b y x l) =
      v31 (ix1 l) + k0_pay4 v0 v2 v5 v9 v13 (ix4 b ⟨y.val, by omega⟩ ⟨x.val, by omega⟩ l) * v33 (ix3 0 0 l) := by
  unfold k0_pay5
  generalize k0_pay4 v0 v2 v5 v9 v13 = P
  pointwise []

theorem pay6_at (v0 : Vec Ideal S5x252x2240 .fp8e4m3) (v2 : Vec Ideal S2240x11200 .fp8e4m3) (v5 : Vec Ideal S5x252 .f32)
    (v9 v13 : Vec Ideal S11200 .f32) (b : Fin 5) (y : Fin 14) (x : Fin 18) (l : Fin 11200) :
    k0_pay6 v0 v2 v5 v9 v13 (ix4 b y x l) =
      k0_pay4 v0 v2 v5 v9 v13 (ix4 b ⟨y.val, by omega⟩ ⟨1 + x.val, by omega⟩ l) := by
  unfold k0_pay6
  generalize k0_pay4 v0 v2 v5 v9 v13 = P
  pointwise []

theorem pay8_at (P : FVec Ideal S5x16x20x11200 .f32) (b : Fin 5) (y : Fin 14) (x : Fin 18) (l : Fin 11200) :
    k0_pay8 P (ix4 b y x l) = P (ix4 b ⟨2 + y.val, by omega⟩ ⟨1 + x.val, by omega⟩ l) := by
  pointwise [k0_pay8]

theorem pay7_at (P : FVec Ideal S5x16x20x11200 .f32) (v40 v41 : FVec Ideal S5x14x18x11200 .f32)
    (d1 d2 d3 d4 d5 d6 : Vec Ideal S1x1x11200 .f32) (b : Fin 5) (y : Fin 14) (x : Fin 18) (l : Fin 11200) :
    k0_pay7 P v40 v41 d1 d2 d3 d4 d5 d6 (ix4 b y x l) =
      v40 (ix4 b y x l) + v41 (ix4 b y x l) * d1 (ix3 0 0 l)
        + P (ix4 b ⟨y.val, by omega⟩ ⟨2 + x.val, by omega⟩ l) * d2 (ix3 0 0 l)
        + P (ix4 b ⟨1 + y.val, by omega⟩ ⟨x.val, by omega⟩ l) * d3 (ix3 0 0 l)
        + P (ix4 b ⟨1 + y.val, by omega⟩ ⟨1 + x.val, by omega⟩ l) * d4 (ix3 0 0 l)
        + P (ix4 b ⟨1 + y.val, by omega⟩ ⟨2 + x.val, by omega⟩ l) * d5 (ix3 0 0 l)
        + P (ix4 b ⟨2 + y.val, by omega⟩ ⟨x.val, by omega⟩ l) * d6 (ix3 0 0 l) := by
  pointwise [k0_pay7]

/-- The convolution at one row and channel, from its parts. -/
def hcAt (P : FVec Ideal S5x16x20x11200 .f32) (v82 v83 : FVec Ideal S5x14x18x11200 .f32)
    (v84 v91 : Vec Ideal S1x1x11200 .f32) (b : Fin 5) (n : Fin 252) (l : Fin 11200) : EReal :=
  v82 (ix4 b ⟨n.val / 18, by omega⟩ ⟨n.val % 18, by omega⟩ l)
    + v83 (ix4 b ⟨n.val / 18, by omega⟩ ⟨n.val % 18, by omega⟩ l) * v84 (ix3 0 0 l)
    + P (ix4 b ⟨2 + n.val / 18, by omega⟩ ⟨2 + n.val % 18, by omega⟩ l) * v91 (ix3 0 0 l)

theorem pay1_at (P : FVec Ideal S5x16x20x11200 .f32) (v82 v83 : FVec Ideal S5x14x18x11200 .f32)
    (v84 v91 : Vec Ideal S1x1x11200 .f32) (b : Fin 5) (n : Fin 252) (l : Fin 5600) :
    k0_pay1 P v82 v83 v84 v91 (ix3 b n l) =
      hcAt P v82 v83 v84 v91 b n ⟨l.val, by omega⟩ *
        (hcAt P v82 v83 v84 v91 b n ⟨5600 + l.val, by omega⟩ *
          Ideal.logistic (hcAt P v82 v83 v84 v91 b n ⟨5600 + l.val, by omega⟩)) := by
  unfold hcAt
  pointwise [k0_pay1]

theorem ld_at (x : Vec Ideal S3x3x11200 .f32) (off : Fin 3 → ℕ) (inb) (i : Fin 1) (j : Fin 1) (l : Fin 11200)
    (p q : Fin 3) (hp : off 0 = p.val) (hq : off 1 = q.val) (hl : off 2 = 0) :
    View.ld x (Rect.unit (s := S3x3x11200) off S1x1x11200.size inb) (ix3 i j l) = x (ix3 p q l) := by
  refine View.ld_unit_apply_of x off _ inb _ _ fun k => ?_
  fin_cases k
  · show p.val = off 0 + i.val; omega
  · show q.val = off 1 + j.val; omega
  · show l.val = off 2 + l.val; omega

/-- The convolution of the reference is the convolution of `UpSpec`. -/
theorem hc_val (h : Reads a x0 x1 x2 x3 x4 x5 x6) (b : Fin 5) (n : Fin 252) (l : Fin 11200) :
    hcAt (k0_pay9 x0 x1 x2 x3 x4 x5 x6) (k0_pay10 x0 x1 x2 x3 x4 x5 x6) (k0_pay11 x0 x1 x2 x3 x4 x5 x6)
      (View.ld x5 r0_11) (View.ld x5 r0_12) b n l = ((a.hc b n l : ℝ) : EReal) := by
  have e0 : View.ld x0 r0_0 = x0 := View.ld_unit_zero (by funext i; fin_cases i <;> rfl) _ _
  have e1 : View.ld x1 r0_2 = x1 := View.ld_unit_zero (by funext i; fin_cases i <;> rfl) _ _
  have e2 : View.ld x2 r0_1 = x2 := View.ld_unit_zero (by funext i; fin_cases i <;> rfl) _ _
  have e3 : View.ld x3 r0_3 = x3 := View.ld_unit_zero (by funext i; fin_cases i <;> rfl) _ _
  have e4 : View.ld x4 r0_3 = x4 := View.ld_unit_zero (by funext i; fin_cases i <;> rfl) _ _
  have e6 : View.ld x6 r0_3 = x6 := View.ld_unit_zero (by funext i; fin_cases i <;> rfl) _ _
  have d00 : View.ld x5 r0_4 (ix3 0 0 l) = x5 (ix3 0 0 l) := ld_at x5 ![0, 0, 0] _ 0 0 l 0 0 rfl rfl rfl
  have d01 : View.ld x5 r0_5 (ix3 0 0 l) = x5 (ix3 0 1 l) := ld_at x5 ![0, 1, 0] _ 0 0 l 0 1 rfl rfl rfl
  have d02 : View.ld x5 r0_6 (ix3 0 0 l) = x5 (ix3 0 2 l) := ld_at x5 ![0, 2, 0] _ 0 0 l 0 2 rfl rfl rfl
  have d10 : View.ld x5 r0_7 (ix3 0 0 l) = x5 (ix3 1 0 l) := ld_at x5 ![1, 0, 0] _ 0 0 l 1 0 rfl rfl rfl
  have d11 : View.ld x5 r0_8 (ix3 0 0 l) = x5 (ix3 1 1 l) := ld_at x5 ![1, 1, 0] _ 0 0 l 1 1 rfl rfl rfl
  have d12 : View.ld x5 r0_9 (ix3 0 0 l) = x5 (ix3 1 2 l) := ld_at x5 ![1, 2, 0] _ 0 0 l 1 2 rfl rfl rfl
  have d20 : View.ld x5 r0_10 (ix3 0 0 l) = x5 (ix3 2 0 l) := ld_at x5 ![2, 0, 0] _ 0 0 l 2 0 rfl rfl rfl
  have d21 : View.ld x5 r0_11 (ix3 0 0 l) = x5 (ix3 2 1 l) := ld_at x5 ![2, 1, 0] _ 0 0 l 2 1 rfl rfl rfl
  have d22 : View.ld x5 r0_12 (ix3 0 0 l) = x5 (ix3 2 2 l) := ld_at x5 ![2, 2, 0] _ 0 0 l 2 2 rfl rfl rfl
  unfold hcAt k0_pay10 k0_pay11
  rw [pay8_at, pay7_at, pay5_at, pay6_at]
  unfold k0_pay9
  rw [e0, e1, e2, e3, e4, e6, d00, d01, d02, d10, d11, d12, d20, d21, d22]
  simp only [pad_val h, h.D, h.db, Nat.add_comm 1, Nat.add_comm 2]
  unfold Args.hc
  simp only [EReal.coe_add, EReal.coe_mul]

/-- The gated values of the reference are those of `UpSpec`. -/
theorem hg_val (h : Reads a x0 x1 x2 x3 x4 x5 x6) (b : Fin 5) (n : Fin 252) (l : Fin 5600) :
    k0_pay1 (k0_pay9 x0 x1 x2 x3 x4 x5 x6) (k0_pay10 x0 x1 x2 x3 x4 x5 x6) (k0_pay11 x0 x1 x2 x3 x4 x5 x6)
      (View.ld x5 r0_11) (View.ld x5 r0_12) (ix3 b n l) = ((a.hg b n l : ℝ) : EReal) := by
  rw [pay1_at, hc_val h, hc_val h, logistic_silu, ← EReal.coe_mul]
  rfl

theorem max_at (v : FVec Ideal S5x252x5600 .f32) (b : Fin 5) (n : Fin 252) :
    multiReduction .maximumf [2] S5x252 v 0xFF800000#32 reduces_S5x252x5600_S5x252 (.inl rfl) rfl (ix2 b n) =
      Finset.univ.fold max (Ideal.ofBits .f32 0xFF800000#32) (fun k : Fin 5600 => v (ix3 b n k)) := by
  refine (multiReduction_maximumf_eq_fold ..).trans ?_
  refine (Shape.Reduces.fold_fiber_r3_a2 ..).trans ?_
  rfl

/-- A row's scale from its largest absolute value. -/
def scaleRow (v104 : FVec Ideal S5x252 .f32) : FVec Ideal S5x252 .f32 :=
  select (cmpf .oeq v104 (broadcast S5x252 (Scalar.ofBits .f32 0x00000000#32)))
    (broadcast S5x252 (Scalar.ofBits .f32 0x3F800000#32))
    (divf v104 (broadcast S5x252 (Scalar.ofBits .f32 0x43E00000#32)))

theorem scale_at (v : FVec Ideal S5x252 .f32) (b : Fin 5) (n : Fin 252) :
    scaleRow v (ix2 b n) = scaleOf (v (ix2 b n)) := by
  unfold scaleOf
  pointwise [scaleRow]

theorem refScale_at (H : FVec Ideal S5x252x5600 .f32) (b : Fin 5) (n : Fin 252) :
    refScale H (ix2 b n) = scaleOf (Finset.univ.fold max (Ideal.ofBits .f32 0xFF800000#32)
      (fun k : Fin 5600 => FloatOps.absf (H (ix3 b n k)))) := by
  show scaleRow (multiReduction .maximumf [2] S5x252 (absf H) 0xFF800000#32 reduces_S5x252x5600_S5x252 (.inl rfl) rfl)
    (ix2 b n) = _
  rw [scale_at]
  exact congrArg scaleOf (max_at (absf H) b n)

theorem refCode_at (H : FVec Ideal S5x252x5600 .f32) (Z : FVec Ideal S5x252 .f32) (b : Fin 5) (n : Fin 252)
    (l : Fin 5600) : refCode H Z (ix3 b n l) = codeOf (Z (ix2 b n)) (H (ix3 b n l)) := by
  unfold codeOf
  pointwise [refCode]

end Cert.RUpIdeal.Hand

end
-- ==== Proof.UpRefFinal.lean ====
/-
  The arrays the reference of the up projection ends with: the codes and scales of `UpSpec`.
-/
module

public import proofs.«01_k».proof.Proof.UpRefValue
public import proofs.«01_k».proof.Proof.Gen.RUpIdeal.Value

@[expose] public section

set_option maxRecDepth 16384
noncomputable section
namespace Cert.RUpIdeal.Hand
open Idealize.ShloMosaic Idealize.ShloMosaic.TcCoe Idealize.ShloMosaic.Tactic
open Idealize.ShloMosaic.Pipeline (Dat Cfg Window cellOf)
open Cert.RUpIdeal.Gen Cert.UpSpec

variable {a : Args} {x0 : Vec Ideal S5x252x2240 .fp8e4m3} {x1 : Vec Ideal S5x252 .f32} {x2 : Vec Ideal S2240x11200 .fp8e4m3}
  {x3 x4 : Vec Ideal S11200 .f32} {x5 : Vec Ideal S3x3x11200 .f32} {x6 : Vec Ideal S11200 .f32}

/-- One scale the reference writes. -/
theorem out8_at (h : Reads a x0 x1 x2 x3 x4 x5 x6) (b : Fin 5) (n : Fin 252) :
    out0_8 x0 x1 x2 x3 x4 x5 x6 (ix2 b n) = scaleOf (a.amax b n.val) := by
  unfold out0_8
  rw [View.canon_cons_unit_zero (by funext q; fin_cases q <;> rfl), pay2_eq]
  refine (refScale_at _ b n).trans (congrArg scaleOf ?_)
  exact congrArg (Finset.univ.fold max _) (funext fun l => congrArg (FloatOps.absf (F := Ideal) (φ := .f32)) (hg_val h b n l))

/-- One code the reference writes. -/
theorem out7_at (h : Reads a x0 x1 x2 x3 x4 x5 x6) (b : Fin 5) (n : Fin 252) (l : Fin 5600) :
    out0_7 x0 x1 x2 x3 x4 x5 x6 (ix3 b n l) = codeOf (scaleOf (a.amax b n.val)) ((a.hg b n.val l : ℝ) : EReal) := by
  have h8 := out8_at h b n
  unfold out0_8 at h8
  rw [View.canon_cons_unit_zero (by funext q; fin_cases q <;> rfl)] at h8
  unfold out0_7
  rw [View.canon_cons_unit_zero (by funext q; fin_cases q <;> rfl), pay3_eq]
  exact (refCode_at _ _ b n l).trans (congrArg₂ codeOf h8 (hg_val h b n l))

variable (m : (ℓ : Loc nD τ sig) → Buf (Elt Ideal) ℓ)

/-- The arguments hold the real numbers of `a`. -/
structure Holds (a : Args) (c : Dev nD) : Prop where
  X : ∀ b n k, m ((c : Thread nD τ).loc main_arg0) (ix3 b n k) = ((a.X b n k : ℝ) : EReal)
  S : ∀ b n, m ((c : Thread nD τ).loc main_arg1) (ix2 b n) = ((a.S b n : ℝ) : EReal)
  W : ∀ k l, m ((c : Thread nD τ).loc main_arg2) (ix2 k l) = ((a.W k l : ℝ) : EReal)
  s : ∀ l, m ((c : Thread nD τ).loc main_arg3) (ix1 l) = ((a.s l : ℝ) : EReal)
  bi : ∀ l, m ((c : Thread nD τ).loc main_arg4) (ix1 l) = ((a.bi l : ℝ) : EReal)
  D : ∀ dy dx l, m ((c : Thread nD τ).loc main_arg5) (ix3 dy dx l) = ((a.D dy dx l : ℝ) : EReal)
  db : ∀ l, m ((c : Thread nD τ).loc main_arg6) (ix1 l) = ((a.db l : ℝ) : EReal)

/-- The casts of the code arrays are the identity on exact values. -/
theorem V_main_v0 (c : Dev nD) : V m c main_v0 = m ((c : Thread nD τ).loc main_arg0) := rfl
theorem V_main_v1 (c : Dev nD) : V m c main_v1 = m ((c : Thread nD τ).loc main_arg2) := rfl

/-- Every window is its whole array. -/
theorem index_eq (t : Fin cfg0.N) : win0_0.index t = ![0, 0, 0] ∧ win0_1.index t = ![0, 0] ∧ win0_2.index t = ![0, 0] ∧
    win0_3.index t = ![0] ∧ win0_4.index t = ![0] ∧ win0_5.index t = ![0, 0, 0] ∧ win0_6.index t = ![0] ∧
    win0_7.index t = ![0, 0, 0] ∧ win0_8.index t = ![0, 0] := by
  revert t; decide +kernel

theorem xsize_eq (t : Fin cfg0.N) : win0_7.xsize (grid0.coords t) = ![5, 252, 5600] ∧ win0_8.xsize (grid0.coords t) = ![5, 252] := by
  revert t; decide +kernel

/-- What the reference's single point reads: the arguments. -/
theorem reads {a : Args} {c : Dev nD} (h : Holds m a c) (t : Fin cfg0.N) :
    Reads a (iblk m c 0 t) (iblk m c 1 t) (iblk m c 2 t) (iblk m c 3 t) (iblk m c 4 t) (iblk m c 5 t) (iblk m c 6 t) where
  X := fun b n k => by
    refine Eq.trans ?_ (h.X b n k)
    refine (congrFun (V_main_v0 m c) _).trans ?_
    have hi := (index_eq t).1
    blk_ext [hi]
  S := fun b n => by
    refine Eq.trans ?_ (h.S b n)
    have hi := (index_eq t).2.1
    blk_ext [hi, iblk, V_main_arg1]
  W := fun k l => by
    refine Eq.trans ?_ (h.W k l)
    refine (congrFun (V_main_v1 m c) _).trans ?_
    have hi := (index_eq t).2.2.1
    blk_ext [hi]
  s := fun l => by
    refine Eq.trans ?_ (h.s l)
    have hi := (index_eq t).2.2.2.1
    blk_ext [hi, iblk, V_main_arg3]
  bi := fun l => by
    refine Eq.trans ?_ (h.bi l)
    have hi := (index_eq t).2.2.2.2.1
    blk_ext [hi, iblk, V_main_arg4]
  D := fun p q l => by
    refine Eq.trans ?_ (h.D p q l)
    have hi := (index_eq t).2.2.2.2.2.1
    blk_ext [hi, iblk, V_main_arg5]
  db := fun l => by
    refine Eq.trans ?_ (h.db l)
    have hi := (index_eq t).2.2.2.2.2.2.1
    blk_ext [hi, iblk, V_main_arg6]

/-- The codes as an array. -/
def codesOf (a : Args) : Vec Ideal S5x252x5600 .fp8e4m3 := fun y => codeOf (scaleOf (a.amax (y 0) (y 1).val)) ((a.hg (y 0) (y 1).val (y 2) : ℝ) : EReal)
/-- The scales as an array. -/
def scalesOf (a : Args) : Vec Ideal S5x252 .f32 := fun y => scaleOf (a.amax (y 0) (y 1).val)

theorem codesOf_at (a : Args) (b : Fin 5) (n : Fin 252) (l : Fin 5600) :
    codesOf a (ix3 b n l) = codeOf (scaleOf (a.amax b n.val)) ((a.hg b n.val l : ℝ) : EReal) := rfl
theorem scalesOf_at (a : Args) (b : Fin 5) (n : Fin 252) : scalesOf a (ix2 b n) = scaleOf (a.amax b n.val) := rfl

/-- The codes the reference ends with. -/
theorem final7 {a : Args} {c : Dev nD} (h : Holds m a c) : (dats m 0 c).arrAt 7 cfg0.N = codesOf a := by
  refine Dat.arrAt_eq_of_covers (dats m 0 c) 7 (codesOf a) (by decide +kernel) fun t hf y => ?_
  rw [after0_7]
  have hx := (xsize_eq t).1
  have hi := (index_eq t).2.2.2.2.2.2.2.1
  have h0 : (y 0).val < 5 := by have := (y 0).isLt; have e := congrFun hx 0; exact this.trans_eq e
  have h1 : (y 1).val < 252 := by have := (y 1).isLt; have e := congrFun hx 1; exact this.trans_eq e
  have h2 : (y 2).val < 5600 := by have := (y 2).isLt; have e := congrFun hx 2; exact this.trans_eq e
  have q := (out7_at (reads m h t) ⟨(y 0).val, h0⟩ ⟨(y 1).val, h1⟩ ⟨(y 2).val, h2⟩).trans (codesOf_at a _ _ _).symm
  revert q
  generalize out0_7 (iblk m c 0 t) (iblk m c 1 t) (iblk m c 2 t) (iblk m c 3 t) (iblk m c 4 t) (iblk m c 5 t) (iblk m c 6 t) = O
  generalize codesOf a = R
  intro q
  have e1 : (cfg0.win 7).xinj (cfg0.grid.coords t) y = (ix3 (⟨(y 0).val, h0⟩ : Fin 5) (⟨(y 1).val, h1⟩ : Fin 252) (⟨(y 2).val, h2⟩ : Fin 5600) : S5x252x5600.Idx) := by
    funext q; apply Fin.ext; fin_cases q <;> rfl
  have e2 : (win0_7.blk t).view.emb y = (ix3 (⟨(y 0).val, h0⟩ : Fin 5) (⟨(y 1).val, h1⟩ : Fin 252) (⟨(y 2).val, h2⟩ : Fin 5600) : S5x252x5600.Idx) := by
    blk_ext [hi]
  change O ((cfg0.win 7).xinj (cfg0.grid.coords t) y) = R ((win0_7.blk t).view.emb y)
  rw [e1, e2]
  exact q

/-- The scales the reference ends with. -/
theorem final8 {a : Args} {c : Dev nD} (h : Holds m a c) : (dats m 0 c).arrAt 8 cfg0.N = scalesOf a := by
  refine Dat.arrAt_eq_of_covers (dats m 0 c) 8 (scalesOf a) (by decide +kernel) fun t hf y => ?_
  rw [after0_8]
  have hx := (xsize_eq t).2
  have hi := (index_eq t).2.2.2.2.2.2.2.2
  have h0 : (y 0).val < 5 := by have := (y 0).isLt; have e := congrFun hx 0; exact this.trans_eq e
  have h1 : (y 1).val < 252 := by have := (y 1).isLt; have e := congrFun hx 1; exact this.trans_eq e
  have q := (out8_at (reads m h t) ⟨(y 0).val, h0⟩ ⟨(y 1).val, h1⟩).trans (scalesOf_at a _ _).symm
  revert q
  generalize out0_8 (iblk m c 0 t) (iblk m c 1 t) (iblk m c 2 t) (iblk m c 3 t) (iblk m c 4 t) (iblk m c 5 t) (iblk m c 6 t) = O
  generalize scalesOf a = R
  intro q
  have e1 : (cfg0.win 8).xinj (cfg0.grid.coords t) y = (ix2 (⟨(y 0).val, h0⟩ : Fin 5) (⟨(y 1).val, h1⟩ : Fin 252) : S5x252.Idx) := by
    funext q; apply Fin.ext; fin_cases q <;> rfl
  have e2 : (win0_8.blk t).view.emb y = (ix2 (⟨(y 0).val, h0⟩ : Fin 5) (⟨(y 1).val, h1⟩ : Fin 252) : S5x252.Idx) := by
    blk_ext [hi]
  change O ((cfg0.win 8).xinj (cfg0.grid.coords t) y) = R ((win0_8.blk t).view.emb y)
  rw [e1, e2]
  exact q
end Cert.RUpIdeal.Hand

end
-- ==== Proof.UpClaim.lean ====
/-
  The equation of the up projection: on arguments that are real numbers, the `UpIdeal` program and the `RUpIdeal` program
  leave the same codes and the same scales.
-/
module

public import proofs.«01_k».proof.Proof.UpFinite
public import proofs.«01_k».proof.Proof.UpIdealFinal
public import proofs.«01_k».proof.Proof.UpRefFinal

@[expose] public section

noncomputable section

namespace Cert.UpEquation

open Idealize.ShloMosaic Idealize.ShloMosaic.TcCoe Idealize.SL.Sem

/-- Both programs leave the codes and scales of the arguments' real numbers, and the arguments as they were. -/
theorem algebraic : Cert.algebraic_UpIdeal_RUpIdeal_pre_up_finite (hUpIdeal := Cert.UpIdeal.Gen.facts) (hRUpIdeal := Cert.RUpIdeal.Gen.facts)
    (hPre_up_finite := Cert.UpFinite.facts) := by
  intro m g m' g' hp hargs
  have hh := fun c => Cert.UpFinite.holds hp c
  refine ⟨fun c => Cert.UpIdeal.Hand.codesOf (Cert.UpFinite.argsOf m c), fun c => Cert.UpIdeal.Hand.scalesOf (Cert.UpFinite.argsOf m c), ?_, ?_⟩
  · refine (θ_run _ _ _).mono (fun r h c => ?_) (Cert.UpIdeal.Hand.run m g)
    exact ⟨Cert.UpIdeal.Hand.codes_final m r h.1 c (hh c), Cert.UpIdeal.Hand.scales_final m r h.1 c (hh c), Cert.UpIdeal.Hand.args_unchanged m h.1 c⟩
  · refine (θ_run _ _ _).mono (fun r h c => ?_) (Cert.RUpIdeal.Value.run_blocks m' g')
    obtain ⟨h0, h1, h2, h3, h4, h5, h6⟩ := hargs c
    obtain ⟨k0, k1, k2, k3, k4, k5, k6⟩ := hh c
    have hr : Cert.RUpIdeal.Hand.Holds m' (Cert.UpFinite.argsOf m c) c :=
      ⟨fun b n k => (congrFun h0 (ix3 b n k)).trans (k0 b n k), fun b n => (congrFun h1 (ix2 b n)).trans (k1 b n),
        fun k l => (congrFun h2 (ix2 k l)).trans (k2 k l), fun l => (congrFun h3 (ix1 l)).trans (k3 l),
        fun l => (congrFun h4 (ix1 l)).trans (k4 l), fun p q l => (congrFun h5 (ix3 p q l)).trans (k5 p q l),
        fun l => (congrFun h6 (ix1 l)).trans (k6 l)⟩
    obtain ⟨hv, hw, hrest⟩ := h c
    exact ⟨hv.trans (Cert.RUpIdeal.Hand.final7 m' hr), hw.trans (Cert.RUpIdeal.Hand.final8 m' hr), hrest⟩

end Cert.UpEquation

end
-- ==== Proof.lean ====
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.RUpIdeal
public import proofs.«01_k».proof.Proof.Gen.RUpIdeal.Skeleton
public import proofs.«01_k».proof.Proof.Gen.RUpIdeal.Launch
public import proofs.«01_k».proof.Proof.Gen.RUpIdeal.Points
public import proofs.«01_k».proof.Proof.Gen.RUpIdeal.Frame
public import proofs.«01_k».proof.Proof.Gen.RUpIdeal.Value
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.RDownIdeal
public import proofs.«01_k».proof.Proof.Gen.RDownIdeal.Skeleton
public import proofs.«01_k».proof.Proof.Gen.RDownIdeal.Launch
public import proofs.«01_k».proof.Proof.Gen.RDownIdeal.Points
public import proofs.«01_k».proof.Proof.Gen.RDownIdeal.Frame
public import proofs.«01_k».proof.Proof.Gen.RDownIdeal.Value
public import proofs.«01_k».proof.Proof.DownRun
public import proofs.«01_k».proof.Proof.DownIdealRun
public import proofs.«01_k».proof.Proof.DownClaim
public import proofs.«01_k».proof.Proof.UpRun
public import proofs.«01_k».proof.Proof.UpIdealRun
public import proofs.«01_k».proof.Proof.UpClaim
public import Idealize.ShloMosaic.Adequacy
public import Idealize.ShloMosaic.Init

@[expose] public section

noncomputable section

namespace Cert.Proof

open Idealize.ShloMosaic Idealize.SL.Sem Cert.Down

theorem claim : Cert.Claim :=
  ⟨Cert.Down.Gen.facts, Cert.DownIdeal.Gen.facts, Cert.RDownIdeal.Gen.facts, Cert.Up.Gen.facts, Cert.UpIdeal.Gen.facts,
    Cert.RUpIdeal.Gen.facts, Cert.UpFinite.facts,
    fun m ρ _ => Cert.Down.Hand.frame m ρ,
    fun m ρ _ => Cert.DownIdeal.Hand.frame m ρ,
    fun m ρ _ => Cert.RDownIdeal.Gen.frame m ρ,
    fun m ρ _ => Cert.Up.Hand.frame m ρ,
    fun m ρ _ => Cert.UpIdeal.Hand.frame m ρ,
    fun m ρ _ => Cert.UpIdeal.Hand.frame m ρ,
    fun m ρ _ => Cert.RUpIdeal.Gen.frame m ρ,
    fun m ρ _ => Cert.RUpIdeal.Gen.frame m ρ,
    trivial,
    Cert.DownEquation.algebraic,
    trivial,
    Cert.UpEquation.algebraic⟩

end Cert.Proof

end
